-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_fox_finite [hPre_fox_finite : Cert.Pre_fox_finite.Facts] (m : (ℓ : Loc Cert.KernelIdeal.nD Cert.KernelIdeal.τ Cert.KernelIdeal.sig) → Buf (Elt Ideal) ℓ) : Prop :=
  ∀ c : Dev Cert.KernelIdeal.nD,
    (Cert.Pre_fox_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_fox_finite [hPre_fox_finite : Cert.Pre_fox_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_fox_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 [hPre_tables : Cert.Pre_tables.Facts] (m : (ℓ : Loc Cert.Kernel7.nD Cert.Kernel7.τ Cert.Kernel7.sig) → Buf (Elt Bits) ℓ) : Prop :=
  ∀ c : Dev Cert.Kernel7.nD,
    (Cert.Pre_tables.fn (F := Bits) (m ((c.tc : Thread Cert.Kernel7.nD Cert.Kernel7.τ).loc Cert.Kernel7.main_arg0)) (m ((c.tc : Thread Cert.Kernel7.nD Cert.Kernel7.τ).loc Cert.Kernel7.main_arg1)) (m ((c.tc : Thread Cert.Kernel7.nD Cert.Kernel7.τ).loc Cert.Kernel7.main_arg2)) (m ((c.tc : Thread Cert.Kernel7.nD Cert.Kernel7.τ).loc Cert.Kernel7.main_arg3))) = (fun _ => 1#1)

def Pre_Kernel7Ideal [hPre_tables : Cert.Pre_tables.Facts] (m : (ℓ : Loc Cert.Kernel7Ideal.nD Cert.Kernel7Ideal.τ Cert.Kernel7Ideal.sig) → Buf (Elt Ideal) ℓ) : Prop :=
  ∀ c : Dev Cert.Kernel7Ideal.nD,
    (Cert.Pre_tables.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3))) = (fun _ => 1#1)

def Pre_Reference7Ideal (m : (ℓ : Loc Cert.Reference7Ideal.nD Cert.Reference7Ideal.τ Cert.Reference7Ideal.sig) → Buf (Elt Ideal) ℓ) : Prop :=
  True

def Pre_Reference7Ideal_tables [hPre_tables : Cert.Pre_tables.Facts] (m : (ℓ : Loc Cert.Reference7Ideal.nD Cert.Reference7Ideal.τ Cert.Reference7Ideal.sig) → Buf (Elt Ideal) ℓ) : Prop :=
  ∀ c : Dev Cert.Reference7Ideal.nD,
    (Cert.Pre_tables.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3))) = (fun _ => 1#1)

def Pre_Kernel8 [hPre_down_tables : Cert.Pre_down_tables.Facts] (m : (ℓ : Loc Cert.Kernel8.nD Cert.Kernel8.τ Cert.Kernel8.sig) → Buf (Elt Bits) ℓ) : Prop :=
  ∀ c : Dev Cert.Kernel8.nD,
    (Cert.Pre_down_tables.fn (F := Bits) (m ((c.tc : Thread Cert.Kernel8.nD Cert.Kernel8.τ).loc Cert.Kernel8.main_arg0)) (m ((c.tc : Thread Cert.Kernel8.nD Cert.Kernel8.τ).loc Cert.Kernel8.main_arg1)) (m ((c.tc : Thread Cert.Kernel8.nD Cert.Kernel8.τ).loc Cert.Kernel8.main_arg2)) (m ((c.tc : Thread Cert.Kernel8.nD Cert.Kernel8.τ).loc Cert.Kernel8.main_arg3))) = (fun _ => 1#1)

def Pre_Kernel8Ideal [hPre_down_tables : Cert.Pre_down_tables.Facts] (m : (ℓ : Loc Cert.Kernel8Ideal.nD Cert.Kernel8Ideal.τ Cert.Kernel8Ideal.sig) → Buf (Elt Ideal) ℓ) : Prop :=
  ∀ c : Dev Cert.Kernel8Ideal.nD,
    (Cert.Pre_down_tables.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3))) = (fun _ => 1#1)

def Pre_Reference8Ideal (m : (ℓ : Loc Cert.Reference8Ideal.nD Cert.Reference8Ideal.τ Cert.Reference8Ideal.sig) → Buf (Elt Ideal) ℓ) : Prop :=
  True

def Pre_Reference8Ideal_down_tables [hPre_down_tables : Cert.Pre_down_tables.Facts] (m : (ℓ : Loc Cert.Reference8Ideal.nD Cert.Reference8Ideal.τ Cert.Reference8Ideal.sig) → Buf (Elt Ideal) ℓ) : Prop :=
  ∀ c : Dev Cert.Reference8Ideal.nD,
    (Cert.Pre_down_tables.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3))) = (fun _ => 1#1)

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_fox_finite [hKernelIdeal : Cert.KernelIdeal.Facts] [hPre_fox_finite : Cert.Pre_fox_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_fox_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_fox_finite [hReferenceIdeal : Cert.ReferenceIdeal.Facts] [hPre_fox_finite : Cert.Pre_fox_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_fox_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] [hPre_tables : Cert.Pre_tables.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] [hPre_tables : Cert.Pre_tables.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Reference7Ideal_pre_tables [hReference7Ideal : Cert.Reference7Ideal.Facts] [hPre_tables : Cert.Pre_tables.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal_tables m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Kernel8 [hKernel8 : Cert.Kernel8.Facts] [hPre_down_tables : Cert.Pre_down_tables.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3))
      ∧ r.2.sem = fun _ => 0)

def quiescent_Kernel8Ideal [hKernel8Ideal : Cert.Kernel8Ideal.Facts] [hPre_down_tables : Cert.Pre_down_tables.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3))
      ∧ r.2.sem = fun _ => 0)

def quiescent_Reference8Ideal_pre_down_tables [hReference8Ideal : Cert.Reference8Ideal.Facts] [hPre_down_tables : Cert.Pre_down_tables.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal_down_tables m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def preserves_Kernel_KernelIdeal : Prop :=
  True

def algebraic_KernelIdeal_ReferenceIdeal_pre_fox_finite [hKernelIdeal : Cert.KernelIdeal.Facts] [hReferenceIdeal : Cert.ReferenceIdeal.Facts] [hPre_fox_finite : Cert.Pre_fox_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_fox_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v8) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v3) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v3) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v3) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0_0)) (v1 : (c : Dev Cert.Kernel6Ideal.nD) → Buf (Elt Ideal) ((c.tc : Thread Cert.Kernel6Ideal.nD Cert.Kernel6Ideal.τ).loc Cert.Kernel6Ideal.main_v0_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0_0) = v0 c
          ∧ r.2.mem ((c.tc : Thread Cert.Kernel6Ideal.nD Cert.Kernel6Ideal.τ).loc Cert.Kernel6Ideal.main_v0_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v2) = v0 c
          ∧ r.2.mem ((c.tc : Thread Cert.Reference6Ideal.nD Cert.Reference6Ideal.τ).loc Cert.Reference6Ideal.main_v3) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] [hPre_tables : Cert.Pre_tables.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v6)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v6) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v106) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def preserves_Kernel8_Kernel8Ideal : Prop :=
  True

def algebraic_Kernel8Ideal_Reference8Ideal [hKernel8Ideal : Cert.Kernel8Ideal.Facts] [hReference8Ideal : Cert.Reference8Ideal.Facts] [hPre_down_tables : Cert.Pre_down_tables.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)) →
    ∃ (v0 : (c : Dev Cert.Kernel8Ideal.nD) → Buf (Elt Ideal) ((c.tc : Thread Cert.Kernel8Ideal.nD Cert.Kernel8Ideal.τ).loc Cert.Kernel8Ideal.main_v6)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v6) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v73) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v3)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v3) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v21) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)) →
    ∃ (v0 : (c : Dev Cert.Kernel10Ideal.nD) → Buf (Elt Ideal) ((c.tc : Thread Cert.Kernel10Ideal.nD Cert.Kernel10Ideal.τ).loc Cert.Kernel10Ideal.main_v1_0)) (v1 : (c : Dev Cert.Kernel10Ideal.nD) → Buf (Elt Ideal) ((c.tc : Thread Cert.Kernel10Ideal.nD Cert.Kernel10Ideal.τ).loc Cert.Kernel10Ideal.main_v1_1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v1_0) = v0 c
          ∧ r.2.mem ((c.tc : Thread Cert.Kernel10Ideal.nD Cert.Kernel10Ideal.τ).loc Cert.Kernel10Ideal.main_v1_1) = v1 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v17) = v0 c
          ∧ r.2.mem ((c.tc : Thread Cert.Reference10Ideal.nD Cert.Reference10Ideal.τ).loc Cert.Reference10Ideal.main_v18) = v1 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hPre_fox_finite : Cert.Pre_fox_finite.Facts) (hPre_tables : Cert.Pre_tables.Facts) (hPre_down_tables : Cert.Pre_down_tables.Facts),
    quiescent_Kernel (hKernel := hKernel)
    ∧ quiescent_KernelIdeal (hKernelIdeal := hKernelIdeal)
    ∧ quiescent_KernelIdeal_pre_fox_finite (hKernelIdeal := hKernelIdeal) (hPre_fox_finite := hPre_fox_finite)
    ∧ quiescent_ReferenceIdeal (hReferenceIdeal := hReferenceIdeal)
    ∧ quiescent_ReferenceIdeal_pre_fox_finite (hReferenceIdeal := hReferenceIdeal) (hPre_fox_finite := hPre_fox_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7) (hPre_tables := hPre_tables)
    ∧ quiescent_Kernel7Ideal (hKernel7Ideal := hKernel7Ideal) (hPre_tables := hPre_tables)
    ∧ quiescent_Reference7Ideal (hReference7Ideal := hReference7Ideal)
    ∧ quiescent_Reference7Ideal_pre_tables (hReference7Ideal := hReference7Ideal) (hPre_tables := hPre_tables)
    ∧ quiescent_Kernel8 (hKernel8 := hKernel8) (hPre_down_tables := hPre_down_tables)
    ∧ quiescent_Kernel8Ideal (hKernel8Ideal := hKernel8Ideal) (hPre_down_tables := hPre_down_tables)
    ∧ quiescent_Reference8Ideal (hReference8Ideal := hReference8Ideal)
    ∧ quiescent_Reference8Ideal_pre_down_tables (hReference8Ideal := hReference8Ideal) (hPre_down_tables := hPre_down_tables)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ preserves_Kernel_KernelIdeal
    ∧ algebraic_KernelIdeal_ReferenceIdeal_pre_fox_finite (hKernelIdeal := hKernelIdeal) (hReferenceIdeal := hReferenceIdeal) (hPre_fox_finite := hPre_fox_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal) (hPre_tables := hPre_tables)
    ∧ preserves_Kernel8_Kernel8Ideal
    ∧ algebraic_Kernel8Ideal_Reference8Ideal (hKernel8Ideal := hKernel8Ideal) (hReference8Ideal := hReference8Ideal) (hPre_down_tables := hPre_down_tables)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
-- ==== Pre_down_tables.lean ====
abbrev S20480x2816 : Shape := ⟨2, ![20480, 2816]⟩
abbrev S2x8x2816x2048 : Shape := ⟨4, ![2, 8, 2816, 2048]⟩
abbrev S40 : Shape := ⟨1, ![40]⟩
abbrev S_ : Shape := ⟨0, ![]⟩

class Facts : Prop where
  bcast_S_S40 : S_.BroadcastsInDim S40 (![] : Fin 0 → Fin S40.rank)
  reducesTo_S40_S_d0 : S40.ReducesTo [0] S_
  h_S_ : 0 < S_.numel

variable [Facts]

def fn {F : FTy → Type} [FloatOps F] (main_arg0 : FVec F S20480x2816 .bf16) (main_arg1 : FVec F S2x8x2816x2048 .f32) (main_arg2 : IVec S40 32) (main_arg3 : IVec S40 32) : IVec S_ 1 :=
  let main_c : IVec S_ 32 := constantI S_ 32 0#32
  let main_v0 : IVec S40 32 := broadcastInDim S40 ![] bcast_S_S40 main_c
  let main_v1 : IVec S40 1 := cmpi .sge main_arg2 main_v0
  let main_c_0 : IVec S_ 32 := constantI S_ 32 8#32
  let main_v2 : IVec S40 32 := broadcastInDim S40 ![] bcast_S_S40 main_c_0
  let main_v3 : IVec S40 1 := cmpi .slt main_arg2 main_v2
  let main_v4 : IVec S40 1 := andi main_v1 main_v3
  let main_c_1 : IVec S_ 1 := constantI S_ 1 1#1
  let main_v5 : IVec S_ 1 := (fun x v => Host.reduce IntOp.andi x v reducesTo_S40_S_d0 h_S_) main_v4 main_c_1
  let main_c_2 : IVec S_ 32 := constantI S_ 32 0#32
  let main_v6 : IVec S40 32 := broadcastInDim S40 ![] bcast_S_S40 main_c_2
  let main_v7 : IVec S40 1 := cmpi .sge main_arg3 main_v6
  let main_c_3 : IVec S_ 32 := constantI S_ 32 1#32
  let main_v8 : IVec S40 32 := broadcastInDim S40 ![] bcast_S_S40 main_c_3
  let main_v9 : IVec S40 1 := cmpi .sle main_arg3 main_v8
  let main_v10 : IVec S40 1 := andi main_v7 main_v9
  let main_c_4 : IVec S_ 1 := constantI S_ 1 1#1
  let main_v11 : IVec S_ 1 := (fun x v => Host.reduce IntOp.andi x v reducesTo_S40_S_d0 h_S_) main_v10 main_c_4
  let main_v12 : IVec S_ 1 := andi main_v5 main_v11
  main_v12
-- ==== Pre_fox_finite.lean ====
abbrev S8192x2048 : Shape := ⟨2, ![8192, 2048]⟩
abbrev S8192x16 : Shape := ⟨2, ![8192, 16]⟩
abbrev S_ : Shape := ⟨0, ![]⟩

class Facts : Prop where
  bitsLt_bf16_f32 : FTy.bits .bf16 < FTy.bits .f32
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S8192x16 : S_.BroadcastsInDim S8192x16 (![] : Fin 0 → Fin S8192x16.rank)
  reducesTo_S8192x16_S_d0_1 : S8192x16.ReducesTo [0, 1] S_

variable [Facts]

def fn {F : FTy → Type} [FloatOps F] (main_arg0 : FVec F S8192x2048 .bf16) (main_arg1 : FVec F S8192x2048 .bf16) (main_arg2 : FVec F S8192x2048 .bf16) (main_arg3 : FVec F S8192x16 .f32) : IVec S_ 1 :=
  let main_v0 : FVec F S8192x2048 .f32 := (extf .f32 · bitsLt_bf16_f32) main_arg0
  let main_v1 : FVec F S8192x2048 .f32 := Host.absf main_v0
  let main_cst : FVec F S_ .f32 := constant S_ .f32 0x7F800000#32
  let main_v2 : FVec F S8192x2048 .f32 := broadcastInDim S8192x2048 ![] bcast_S_S8192x2048 main_cst
  let main_v3 : IVec S8192x2048 1 := cmpf .olt main_v1 main_v2
  let main_c : IVec S_ 1 := constantI S_ 1 1#1
  let main_v4 : IVec S_ 1 := (fun x v => Host.reduce IntOp.andi x v reducesTo_S8192x2048_S_d0_1 h_S_) main_v3 main_c
  let main_v5 : FVec F S8192x2048 .f32 := (extf .f32 · bitsLt_bf16_f32) main_arg1
  let main_v6 : FVec F S8192x2048 .f32 := Host.absf main_v5
  let main_cst_0 : FVec F S_ .f32 := constant S_ .f32 0x7F800000#32
  let main_v7 : FVec F S8192x2048 .f32 := broadcastInDim S8192x2048 ![] bcast_S_S8192x2048 main_cst_0
  let main_v8 : IVec S8192x2048 1 := cmpf .olt main_v6 main_v7
  let main_c_1 : IVec S_ 1 := constantI S_ 1 1#1
  let main_v9 : IVec S_ 1 := (fun x v => Host.reduce IntOp.andi x v reducesTo_S8192x2048_S_d0_1 h_S_) main_v8 main_c_1
  let main_v10 : IVec S_ 1 := andi main_v4 main_v9
  let main_v11 : FVec F S8192x16 .f32 := Host.absf main_arg3
  let main_cst_2 : FVec F S_ .f32 := constant S_ .f32 0x7F800000#32
  let main_v12 : FVec F S8192x16 .f32 := broadcastInDim S8192x16 ![] bcast_S_S8192x16 main_cst_2
  let main_v13 : IVec S8192x16 1 := cmpf .olt main_v11 main_v12
  let main_c_3 : IVec S_ 1 := constantI S_ 1 1#1
  let main_v14 : IVec S_ 1 := (fun x v => Host.reduce IntOp.andi x v reducesTo_S8192x16_S_d0_1 h_S_) main_v13 main_c_3
  let main_v15 : IVec S_ 1 := andi main_v10 main_v14
  main_v15
-- ==== Pre_tables.lean ====
abbrev S20480x2048 : Shape := ⟨2, ![20480, 2048]⟩
abbrev S2x8x2048x5632 : Shape := ⟨4, ![2, 8, 2048, 5632]⟩
abbrev S40 : Shape := ⟨1, ![40]⟩
abbrev S_ : Shape := ⟨0, ![]⟩

class Facts : Prop where
  bcast_S_S40 : S_.BroadcastsInDim S40 (![] : Fin 0 → Fin S40.rank)
  reducesTo_S40_S_d0 : S40.ReducesTo [0] S_
  h_S_ : 0 < S_.numel

variable [Facts]

def fn {F : FTy → Type} [FloatOps F] (main_arg0 : FVec F S20480x2048 .bf16) (main_arg1 : FVec F S2x8x2048x5632 .f32) (main_arg2 : IVec S40 32) (main_arg3 : IVec S40 32) : IVec S_ 1 :=
  let main_c : IVec S_ 32 := constantI S_ 32 0#32
  let main_v0 : IVec S40 32 := broadcastInDim S40 ![] bcast_S_S40 main_c
  let main_v1 : IVec S40 1 := cmpi .sge main_arg2 main_v0
  let main_c_0 : IVec S_ 32 := constantI S_ 32 8#32
  let main_v2 : IVec S40 32 := broadcastInDim S40 ![] bcast_S_S40 main_c_0
  let main_v3 : IVec S40 1 := cmpi .slt main_arg2 main_v2
  let main_v4 : IVec S40 1 := andi main_v1 main_v3
  let main_c_1 : IVec S_ 1 := constantI S_ 1 1#1
  let main_v5 : IVec S_ 1 := (fun x v => Host.reduce IntOp.andi x v reducesTo_S40_S_d0 h_S_) main_v4 main_c_1
  let main_c_2 : IVec S_ 32 := constantI S_ 32 0#32
  let main_v6 : IVec S40 32 := broadcastInDim S40 ![] bcast_S_S40 main_c_2
  let main_v7 : IVec S40 1 := cmpi .sge main_arg3 main_v6
  let main_c_3 : IVec S_ 32 := constantI S_ 32 1#32
  let main_v8 : IVec S40 32 := broadcastInDim S40 ![] bcast_S_S40 main_c_3
  let main_v9 : IVec S40 1 := cmpi .sle main_arg3 main_v8
  let main_v10 : IVec S40 1 := andi main_v7 main_v9
  let main_c_4 : IVec S_ 1 := constantI S_ 1 1#1
  let main_v11 : IVec S_ 1 := (fun x v => Host.reduce IntOp.andi x v reducesTo_S40_S_d0 h_S_) main_v10 main_c_4
  let main_v12 : IVec S_ 1 := andi main_v5 main_v11
  main_v12
-- ==== Kernel.lean ====
abbrev S8192x2048 : Shape := ⟨2, ![8192, 2048]⟩
abbrev S8192x16 : Shape := ⟨2, ![8192, 16]⟩
abbrev S_ : Shape := ⟨0, ![]⟩
abbrev S8192x128 : Shape := ⟨2, ![8192, 128]⟩
abbrev S16x8192 : Shape := ⟨2, ![16, 8192]⟩
abbrev S512x128 : Shape := ⟨2, ![512, 128]⟩
abbrev S2048x128 : Shape := ⟨2, ![2048, 128]⟩
abbrev S16x2048 : Shape := ⟨2, ![16, 2048]⟩
abbrev S512 : Shape := ⟨1, ![512]⟩
abbrev S512x1 : Shape := ⟨2, ![512, 1]⟩
abbrev S2048 : Shape := ⟨1, ![2048]⟩
abbrev S1x2048 : Shape := ⟨2, ![1, 2048]⟩
abbrev S512x512 : Shape := ⟨2, ![512, 512]⟩
abbrev S1x512 : Shape := ⟨2, ![1, 512]⟩
abbrev S1024x128 : Shape := ⟨2, ![1024, 128]⟩
abbrev S512x1024 : Shape := ⟨2, ![512, 1024]⟩
abbrev S1x1024 : Shape := ⟨2, ![1, 1024]⟩
abbrev S1536x128 : Shape := ⟨2, ![1536, 128]⟩
abbrev S512x1536 : Shape := ⟨2, ![512, 1536]⟩
abbrev S1x1536 : Shape := ⟨2, ![1, 1536]⟩

abbrev nBuf : Space → Nat
  | .hbm => 9
  | .vmem => 12
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S8192x2048, .bf16⟩
  | .hbm, ⟨3, _⟩ => ⟨S8192x16, .f32⟩
  | .hbm, ⟨4, _⟩ => ⟨S_, .i32⟩
  | .hbm, ⟨5, _⟩ => ⟨S_, .f32⟩
  | .hbm, ⟨6, _⟩ => ⟨S8192x128, .f32⟩
  | .hbm, ⟨7, _⟩ => ⟨S16x8192, .f32⟩
  | .hbm, ⟨8, _⟩ => ⟨S8192x2048, .bf16⟩
  | .local _ .vmem, ⟨0, _⟩ => ⟨S512x128, .bf16⟩
  | .local _ .vmem, ⟨1, _⟩ => ⟨S512x128, .bf16⟩
  | .local _ .vmem, ⟨2, _⟩ => ⟨S2048x128, .bf16⟩
  | .local _ .vmem, ⟨3, _⟩ => ⟨S2048x128, .bf16⟩
  | .local _ .vmem, ⟨4, _⟩ => ⟨S2048x128, .bf16⟩
  | .local _ .vmem, ⟨5, _⟩ => ⟨S2048x128, .bf16⟩
  | .local _ .vmem, ⟨6, _⟩ => ⟨S512x128, .f32⟩
  | .local _ .vmem, ⟨7, _⟩ => ⟨S512x128, .f32⟩
  | .local _ .vmem, ⟨8, _⟩ => ⟨S16x2048, .f32⟩
  | .local _ .vmem, ⟨9, _⟩ => ⟨S16x2048, .f32⟩
  | .local _ .vmem, ⟨10, _⟩ => ⟨S512x128, .bf16⟩
  | .local _ .vmem, ⟨11, _⟩ => ⟨S512x128, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![4, 16, 4], ![false, false, false]⟩

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg2 : BitVec 32 := BitVec.ofNat 32 (i 2).val
  let c1_i32 : BitVec 32 := 1#32
  let v3 : BitVec 1 := Scalar.cmpi .eq arg2 c1_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg2 : BitVec 32 := BitVec.ofNat 32 (i 2).val
  let c2_i32 : BitVec 32 := 2#32
  let v6 : BitVec 1 := Scalar.cmpi .eq arg2 c2_i32
  let v7 : BitVec 32 := Scalar.extui v6
  let c0_i32_2 : BitVec 32 := 0#32
  let v8 : BitVec 1 := Scalar.cmpi .ne v7 c0_i32_2
  v8

def k0_cond4 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_3 : BitVec 32 := 0#32
  let v11 : BitVec 1 := Scalar.cmpi .ne v10 c0_i32_3
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

abbrev stage0_0 : Fin 2 → Memref sig .tc .vmem S512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S16x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== ReferenceIdeal.lean ====
abbrev S8192x2048 : Shape := ⟨2, ![8192, 2048]⟩
abbrev S8192x16 : Shape := ⟨2, ![8192, 16]⟩
abbrev S4x2048x16x128 : Shape := ⟨4, ![4, 2048, 16, 128]⟩
abbrev S4x2048x16 : Shape := ⟨3, ![4, 2048, 16]⟩
abbrev S4x16x2048 : Shape := ⟨3, ![4, 16, 2048]⟩
abbrev S4x16x2048x2048 : Shape := ⟨4, ![4, 16, 2048, 2048]⟩
abbrev S_ : Shape := ⟨0, ![]⟩
abbrev S4x16x2048x1 : Shape := ⟨4, ![4, 16, 2048, 1]⟩
abbrev S4x16x1x2048 : Shape := ⟨4, ![4, 16, 1, 2048]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S4x16x128x2048 : Shape := ⟨4, ![4, 16, 128, 2048]⟩

abbrev nBuf : Space → Nat
  | .hbm => 51
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S8192x2048, .bf16⟩
  | .hbm, ⟨3, _⟩ => ⟨S8192x16, .f32⟩
  | .hbm, ⟨4, _⟩ => ⟨S8192x2048, .f32⟩
  | .hbm, ⟨5, _⟩ => ⟨S4x2048x16x128, .f32⟩
  | .hbm, ⟨6, _⟩ => ⟨S8192x2048, .f32⟩
  | .hbm, ⟨7, _⟩ => ⟨S4x2048x16x128, .f32⟩
  | .hbm, ⟨8, _⟩ => ⟨S8192x2048, .f32⟩
  | .hbm, ⟨9, _⟩ => ⟨S4x2048x16x128, .f32⟩
  | .hbm, ⟨10, _⟩ => ⟨S4x2048x16, .f32⟩
  | .hbm, ⟨11, _⟩ => ⟨S4x16x2048, .f32⟩
  | .hbm, ⟨12, _⟩ => ⟨S4x16x2048x2048, .f32⟩
  | .hbm, ⟨13, _⟩ => ⟨S_, .f32⟩
  | .hbm, ⟨14, _⟩ => ⟨S4x16x2048x2048, .f32⟩
  | .hbm, ⟨15, _⟩ => ⟨S4x16x2048x2048, .f32⟩
  | .hbm, ⟨16, _⟩ => ⟨S4x16x2048x1, .f32⟩
  | .hbm, ⟨17, _⟩ => ⟨S4x16x2048x2048, .f32⟩
  | .hbm, ⟨18, _⟩ => ⟨S4x16x2048x2048, .f32⟩
  | .hbm, ⟨19, _⟩ => ⟨S4x16x1x2048, .f32⟩
  | .hbm, ⟨20, _⟩ => ⟨S4x16x2048x2048, .f32⟩
  | .hbm, ⟨21, _⟩ => ⟨S4x16x2048x2048, .f32⟩
  | .hbm, ⟨22, _⟩ => ⟨S2048, .i32⟩
  | .hbm, ⟨23, _⟩ => ⟨S1x2048, .i32⟩
  | .hbm, ⟨24, _⟩ => ⟨S2048x1, .i32⟩
  | .hbm, ⟨25, _⟩ => ⟨S2048x2048, .i32⟩
  | .hbm, ⟨26, _⟩ => ⟨S2048x2048, .i32⟩
  | .hbm, ⟨27, _⟩ => ⟨S2048x2048, .i1⟩
  | .hbm, ⟨28, _⟩ => ⟨S_, .f32⟩
  | .hbm, ⟨29, _⟩ => ⟨S_, .f32⟩
  | .hbm, ⟨30, _⟩ => ⟨S4x16x2048x2048, .i1⟩
  | .hbm, ⟨31, _⟩ => ⟨S4x16x2048x2048, .f32⟩
  | .hbm, ⟨32, _⟩ => ⟨S4x16x2048x2048, .f32⟩
  | .hbm, ⟨33, _⟩ => ⟨S_, .f32⟩
  | .hbm, ⟨34, _⟩ => ⟨S4x16x2048, .f32⟩
  | .hbm, ⟨35, _⟩ => ⟨S_, .f32⟩
  | .hbm, ⟨36, _⟩ => ⟨S4x16x2048, .f32⟩
  | .hbm, ⟨37, _⟩ => ⟨S4x16x2048, .f32⟩
  | .hbm, ⟨38, _⟩ => ⟨S4x16x2048x1, .f32⟩
  | .hbm, ⟨39, _⟩ => ⟨S4x16x2048x2048, .f32⟩
  | .hbm, ⟨40, _⟩ => ⟨S4x16x2048x2048, .f32⟩
  | .hbm, ⟨41, _⟩ => ⟨S4x16x2048x2048, .f32⟩
  | .hbm, ⟨42, _⟩ => ⟨S_, .f32⟩
  | .hbm, ⟨43, _⟩ => ⟨S4x16x2048, .f32⟩
  | .hbm, ⟨44, _⟩ => ⟨S4x16x2048x1, .f32⟩
  | .hbm, ⟨45, _⟩ => ⟨S4x16x2048x2048, .f32⟩
  | .hbm, ⟨46, _⟩ => ⟨S4x16x2048x2048, .f32⟩
  | .hbm, ⟨47, _⟩ => ⟨S4x16x128x2048, .f32⟩
  | .hbm, ⟨48, _⟩ => ⟨S4x2048x16x128, .f32⟩
  | .hbm, ⟨49, _⟩ => ⟨S8192x2048, .f32⟩
  | .hbm, ⟨50, _⟩ => ⟨S8192x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_cst_0 : Ref sig .tc := ⟨.hbm, 28, rfl⟩
abbrev main_call0_v0 : Ref sig .tc := ⟨.hbm, 29, rfl⟩
abbrev main_call0_v1 : Ref sig .tc := ⟨.hbm, 30, rfl⟩
abbrev main_call0_v2 : Ref sig .tc := ⟨.hbm, 31, rfl⟩
abbrev main_v23 : Ref sig .tc := ⟨.hbm, 32, rfl⟩
abbrev main_cst_1 : Ref sig .tc := ⟨.hbm, 33, rfl⟩
abbrev main_v24 : Ref sig .tc := ⟨.hbm, 34, rfl⟩
abbrev main_cst_2 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_3 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩

abbrev nD : Nat := 1
abbrev τ : Topo := Topo.v7x

variable {F : FTy → Type} [FloatOps F]
-- ==== Kernel2.lean ====
abbrev S8192x2048 : Shape := ⟨2, ![8192, 2048]⟩
abbrev S2x2048x11264 : Shape := ⟨3, ![2, 2048, 11264]⟩
abbrev S8192x5632 : Shape := ⟨2, ![8192, 5632]⟩
abbrev S1024x2048 : Shape := ⟨2, ![1024, 2048]⟩
abbrev S1x2048x512 : Shape := ⟨3, ![1, 2048, 512]⟩
abbrev S1024x512 : Shape := ⟨2, ![1024, 512]⟩
abbrev S2048x512 : Shape := ⟨2, ![2048, 512]⟩

abbrev nBuf : Space → Nat
  | .hbm => 3
  | .vmem => 10
  | .smem => 0
  | _ => 0

abbrev bufTy : (tb : Table) → Fin (tcTables nBuf tb) → BufTy
  | .hbm, ⟨0, _⟩ => ⟨S8192x2048, .bf16⟩
  | .hbm, ⟨1, _⟩ => ⟨S2x2048x11264, .f32⟩
  | .hbm, ⟨2, _⟩ => ⟨S8192x5632, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x512, .f32⟩
  | .local _ .vmem, ⟨3, _⟩ => ⟨S1x2048x512, .f32⟩
  | .local _ .vmem, ⟨4, _⟩ => ⟨S1x2048x512, .f32⟩
  | .local _ .vmem, ⟨5, _⟩ => ⟨S1x2048x512, .f32⟩
  | .local _ .vmem, ⟨6, _⟩ => ⟨S1024x512, .bf16⟩
  | .local _ .vmem, ⟨7, _⟩ => ⟨S1024x512, .bf16⟩
  | .local _ .vmem, ⟨8, _⟩ => ⟨S2048x512, .bf16⟩
  | .local _ .vmem, ⟨9, _⟩ => ⟨S2048x512, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![11, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![c0_i32_0.toNat, c0_i32_1.toNat, v0.toNat]

def cc0_transform_2 (i : grid0.Coords) : Fin 3 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg0
  let c0_i32 : BitVec 32 := 0#32
  let c0_i32_0 : BitVec 32 := 0#32
  let c0_i32_1 : BitVec 32 := 0#32
  ![c0_i32.toNat, c0_i32_0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference2Ideal.lean ====
abbrev S8192x2048 : Shape := ⟨2, ![8192, 2048]⟩
abbrev S2x2048x11264 : Shape := ⟨3, ![2, 2048, 11264]⟩
abbrev S1x2048x11264 : Shape := ⟨3, ![1, 2048, 11264]⟩
abbrev S2048x11264 : Shape := ⟨2, ![2048, 11264]⟩
abbrev S8192x11264 : Shape := ⟨2, ![8192, 11264]⟩
abbrev S8192x5632 : Shape := ⟨2, ![8192, 5632]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2x2048x11264, .f32⟩
  | .hbm, ⟨2, _⟩ => ⟨S8192x2048, .f32⟩
  | .hbm, ⟨3, _⟩ => ⟨S1x2048x11264, .f32⟩
  | .hbm, ⟨4, _⟩ => ⟨S2048x11264, .f32⟩
  | .hbm, ⟨5, _⟩ => ⟨S8192x11264, .f32⟩
  | .hbm, ⟨6, _⟩ => ⟨S8192x5632, .f32⟩
  | .hbm, ⟨7, _⟩ => ⟨S8192x5632, .f32⟩
  | .hbm, ⟨8, _⟩ => ⟨S8192x5632, .f32⟩
  | .hbm, ⟨9, _⟩ => ⟨S8192x5632, .f32⟩
  | .hbm, ⟨10, _⟩ => ⟨S_, .f32⟩
  | .hbm, ⟨11, _⟩ => ⟨S8192x5632, .f32⟩
  | .hbm, ⟨12, _⟩ => ⟨S8192x5632, .f32⟩
  | .hbm, ⟨13, _⟩ => ⟨S_, .f32⟩
  | .hbm, ⟨14, _⟩ => ⟨S8192x5632, .f32⟩
  | .hbm, ⟨15, _⟩ => ⟨S8192x5632, .f32⟩
  | .hbm, ⟨16, _⟩ => ⟨S8192x5632, .f32⟩
  | .hbm, ⟨17, _⟩ => ⟨S8192x5632, .f32⟩
  | .hbm, ⟨18, _⟩ => ⟨S8192x5632, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩

abbrev nD : Nat := 1
abbrev τ : Topo := Topo.v7x

variable {F : FTy → Type} [FloatOps F]
-- ==== Kernel3.lean ====
abbrev S8192x5632 : Shape := ⟨2, ![8192, 5632]⟩
abbrev S2x5632x2048 : Shape := ⟨3, ![2, 5632, 2048]⟩
abbrev S8192x2048 : Shape := ⟨2, ![8192, 2048]⟩
abbrev S512x5632 : Shape := ⟨2, ![512, 5632]⟩
abbrev S1x5632x512 : Shape := ⟨3, ![1, 5632, 512]⟩
abbrev S512x512 : Shape := ⟨2, ![512, 512]⟩
abbrev S5632x512 : Shape := ⟨2, ![5632, 512]⟩

abbrev nBuf : Space → Nat
  | .hbm => 3
  | .vmem => 7
  | .smem => 0
  | _ => 0

abbrev bufTy : (tb : Table) → Fin (tcTables nBuf tb) → BufTy
  | .hbm, ⟨0, _⟩ => ⟨S8192x5632, .bf16⟩
  | .hbm, ⟨1, _⟩ => ⟨S2x5632x2048, .f32⟩
  | .hbm, ⟨2, _⟩ => ⟨S8192x2048, .f32⟩
  | .local _ .vmem, ⟨0, _⟩ => ⟨S512x5632, .bf16⟩
  | .local _ .vmem, ⟨1, _⟩ => ⟨S512x5632, .bf16⟩
  | .local _ .vmem, ⟨2, _⟩ => ⟨S1x5632x512, .f32⟩
  | .local _ .vmem, ⟨3, _⟩ => ⟨S1x5632x512, .f32⟩
  | .local _ .vmem, ⟨4, _⟩ => ⟨S512x512, .f32⟩
  | .local _ .vmem, ⟨5, _⟩ => ⟨S512x512, .f32⟩
  | .local _ .vmem, ⟨6, _⟩ => ⟨S5632x512, .bf16⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![c0_i32_0.toNat, c0_i32_1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x5632x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference3Ideal.lean ====
abbrev S8192x5632 : Shape := ⟨2, ![8192, 5632]⟩
abbrev S2x5632x2048 : Shape := ⟨3, ![2, 5632, 2048]⟩
abbrev S1x5632x2048 : Shape := ⟨3, ![1, 5632, 2048]⟩
abbrev S5632x2048 : Shape := ⟨2, ![5632, 2048]⟩
abbrev S8192x2048 : Shape := ⟨2, ![8192, 2048]⟩

abbrev nBuf : Space → Nat
  | .hbm => 6
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S2x5632x2048, .f32⟩
  | .hbm, ⟨2, _⟩ => ⟨S8192x5632, .f32⟩
  | .hbm, ⟨3, _⟩ => ⟨S1x5632x2048, .f32⟩
  | .hbm, ⟨4, _⟩ => ⟨S5632x2048, .f32⟩
  | .hbm, ⟨5, _⟩ => ⟨S8192x2048, .f32⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel4.lean ====
abbrev S8192x2048 : Shape := ⟨2, ![8192, 2048]⟩
abbrev S2x2048x8224 : Shape := ⟨3, ![2, 2048, 8224]⟩
abbrev S8192x8192 : Shape := ⟨2, ![8192, 8192]⟩
abbrev S1024x2048 : Shape := ⟨2, ![1024, 2048]⟩
abbrev S1x2048x1024 : Shape := ⟨3, ![1, 2048, 1024]⟩
abbrev S1024x1024 : Shape := ⟨2, ![1024, 1024]⟩
abbrev S2048x1024 : Shape := ⟨2, ![2048, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S2x2048x8224, .f32⟩
  | .hbm, ⟨2, _⟩ => ⟨S8192x8192, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .f32⟩
  | .local _ .vmem, ⟨3, _⟩ => ⟨S1x2048x1024, .f32⟩
  | .local _ .vmem, ⟨4, _⟩ => ⟨S1024x1024, .f32⟩
  | .local _ .vmem, ⟨5, _⟩ => ⟨S1024x1024, .f32⟩
  | .local _ .vmem, ⟨6, _⟩ => ⟨S2048x1024, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![c0_i32_0.toNat, c0_i32_1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference4Ideal.lean ====
abbrev S8192x2048 : Shape := ⟨2, ![8192, 2048]⟩
abbrev S2x2048x8224 : Shape := ⟨3, ![2, 2048, 8224]⟩
abbrev S1x2048x8192 : Shape := ⟨3, ![1, 2048, 8192]⟩
abbrev S2048x8192 : Shape := ⟨2, ![2048, 8192]⟩
abbrev S8192x8192 : Shape := ⟨2, ![8192, 8192]⟩

abbrev nBuf : Space → Nat
  | .hbm => 6
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2x2048x8224, .f32⟩
  | .hbm, ⟨2, _⟩ => ⟨S8192x2048, .f32⟩
  | .hbm, ⟨3, _⟩ => ⟨S1x2048x8192, .f32⟩
  | .hbm, ⟨4, _⟩ => ⟨S2048x8192, .f32⟩
  | .hbm, ⟨5, _⟩ => ⟨S8192x8192, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel5.lean ====
abbrev S8192x2048 : Shape := ⟨2, ![8192, 2048]⟩
abbrev S2x2048x2048 : Shape := ⟨3, ![2, 2048, 2048]⟩
abbrev S1024x2048 : Shape := ⟨2, ![1024, 2048]⟩
abbrev S1x2048x1024 : Shape := ⟨3, ![1, 2048, 1024]⟩
abbrev S1024x1024 : Shape := ⟨2, ![1024, 1024]⟩
abbrev S2048x1024 : Shape := ⟨2, ![2048, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S2x2048x2048, .f32⟩
  | .hbm, ⟨2, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .f32⟩
  | .local _ .vmem, ⟨3, _⟩ => ⟨S1x2048x1024, .f32⟩
  | .local _ .vmem, ⟨4, _⟩ => ⟨S1024x1024, .f32⟩
  | .local _ .vmem, ⟨5, _⟩ => ⟨S1024x1024, .f32⟩
  | .local _ .vmem, ⟨6, _⟩ => ⟨S2048x1024, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![c0_i32_0.toNat, c0_i32_1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference5Ideal.lean ====
abbrev S8192x2048 : Shape := ⟨2, ![8192, 2048]⟩
abbrev S2x2048x2048 : Shape := ⟨3, ![2, 2048, 2048]⟩
abbrev S1x2048x2048 : Shape := ⟨3, ![1, 2048, 2048]⟩
abbrev S2048x2048 : Shape := ⟨2, ![2048, 2048]⟩

abbrev nBuf : Space → Nat
  | .hbm => 6
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2x2048x2048, .f32⟩
  | .hbm, ⟨2, _⟩ => ⟨S8192x2048, .f32⟩
  | .hbm, ⟨3, _⟩ => ⟨S1x2048x2048, .f32⟩
  | .hbm, ⟨4, _⟩ => ⟨S2048x2048, .f32⟩
  | .hbm, ⟨5, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel6.lean ====
abbrev S8192x2048 : Shape := ⟨2, ![8192, 2048]⟩
abbrev S2048x4112 : Shape := ⟨2, ![2048, 4112]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S8192x2048, .bf16⟩
  | .hbm, ⟨1, _⟩ => ⟨S2048x4112, .f32⟩
  | .hbm, ⟨2, _⟩ => ⟨S8192x2048, .f32⟩
  | .hbm, ⟨3, _⟩ => ⟨S8192x2048, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .f32⟩
  | .local _ .vmem, ⟨3, _⟩ => ⟨S2048x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .bf16⟩
  | .local _ .vmem, ⟨7, _⟩ => ⟨S1024x1024, .bf16⟩
  | .local _ .vmem, ⟨8, _⟩ => ⟨S2048x1024, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference6Ideal.lean ====
abbrev S8192x2048 : Shape := ⟨2, ![8192, 2048]⟩
abbrev S2048x4112 : Shape := ⟨2, ![2048, 4112]⟩
abbrev S2048x2048 : Shape := ⟨2, ![2048, 2048]⟩

abbrev nBuf : Space → Nat
  | .hbm => 6
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x4112, .f32⟩
  | .hbm, ⟨2, _⟩ => ⟨S8192x2048, .f32⟩
  | .hbm, ⟨3, _⟩ => ⟨S2048x2048, .f32⟩
  | .hbm, ⟨4, _⟩ => ⟨S8192x2048, .f32⟩
  | .hbm, ⟨5, _⟩ => ⟨S8192x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel7.lean ====
abbrev S20480x2048 : Shape := ⟨2, ![20480, 2048]⟩
abbrev S2x8x2048x5632 : Shape := ⟨4, ![2, 8, 2048, 5632]⟩
abbrev S40 : Shape := ⟨1, ![40]⟩
abbrev S_ : Shape := ⟨0, ![]⟩
abbrev S1 : Shape := ⟨1, ![1]⟩
abbrev S39 : Shape := ⟨1, ![39]⟩
abbrev S20480x2816 : Shape := ⟨2, ![20480, 2816]⟩
abbrev S512x2048 : Shape := ⟨2, ![512, 2048]⟩
abbrev S1x1x2048x1408 : Shape := ⟨4, ![1, 1, 2048, 1408]⟩
abbrev S512x1408 : Shape := ⟨2, ![512, 1408]⟩
abbrev S2048x1408 : Shape := ⟨2, ![2048, 1408]⟩

abbrev nBuf : Space → Nat
  | .hbm => 9
  | .vmem => 8
  | .smem => 3
  | _ => 0

abbrev bufTy : (tb : Table) → Fin (tcTables nBuf tb) → BufTy
  | .hbm, ⟨0, _⟩ => ⟨S20480x2048, .bf16⟩
  | .hbm, ⟨1, _⟩ => ⟨S2x8x2048x5632, .f32⟩
  | .hbm, ⟨2, _⟩ => ⟨S_, .i32⟩
  | .hbm, ⟨3, _⟩ => ⟨S1, .i32⟩
  | .hbm, ⟨4, _⟩ => ⟨S39, .i32⟩
  | .hbm, ⟨5, _⟩ => ⟨S39, .i32⟩
  | .hbm, ⟨6, _⟩ => ⟨S39, .i1⟩
  | .hbm, ⟨7, _⟩ => ⟨S39, .i32⟩
  | .hbm, ⟨8, _⟩ => ⟨S20480x2816, .bf16⟩
  | .local _ .vmem, ⟨0, _⟩ => ⟨S512x2048, .bf16⟩
  | .local _ .vmem, ⟨1, _⟩ => ⟨S512x2048, .bf16⟩
  | .local _ .vmem, ⟨2, _⟩ => ⟨S1x1x2048x1408, .f32⟩
  | .local _ .vmem, ⟨3, _⟩ => ⟨S1x1x2048x1408, .f32⟩
  | .local _ .vmem, ⟨4, _⟩ => ⟨S512x1408, .bf16⟩
  | .local _ .vmem, ⟨5, _⟩ => ⟨S512x1408, .bf16⟩
  | .local _ .vmem, ⟨6, _⟩ => ⟨S2048x1408, .bf16⟩
  | .local _ .vmem, ⟨7, _⟩ => ⟨S2048x1408, .bf16⟩
  | .local _ .smem, ⟨0, _⟩ => ⟨S40, .i32⟩
  | .local _ .smem, ⟨1, _⟩ => ⟨S40, .i32⟩
  | .local _ .smem, ⟨2, _⟩ => ⟨S40, .i32⟩
  | _, _ => ⟨S20480x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v6 : Ref sig .tc := ⟨.hbm, 8, rfl⟩
abbrev main_arg2 : Ref sig .tc := ⟨.smem, 0, rfl⟩
abbrev main_v5 : Ref sig .tc := ⟨.smem, 1, rfl⟩
abbrev main_arg3 : Ref sig .tc := ⟨.smem, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![2, 40], ![false, false]⟩

abbrev pre0 : Pipeline.Prefetch sig := ⟨3, ![main_arg2.idx, main_v5.idx, main_arg3.idx], fun | 0 => main_arg2.names | 1 => main_v5.names | 2 => main_arg3.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_off2 (i : grid0.Coords) : Fin 1 → Nat :=
  let arg1 : BitVec 32 := BitVec.ofNat 32 (i 1).val
  let v5 : Index := Scalar.indexCast arg1
  ![v5.toNat]
def k0_off3 (i : grid0.Coords) : Fin 1 → Nat :=
  let arg1 : BitVec 32 := BitVec.ofNat 32 (i 1).val
  let v10 : Index := Scalar.indexCast arg1
  ![v10.toNat]
def k0_cond2 (v6 : BitVec 32) : BitVec 1 :=
  let c1_i32_0 : BitVec 32 := 1#32
  let v7 : BitVec 1 := Scalar.cmpi .eq v6 c1_i32_0
  let v8 : BitVec 32 := Scalar.extui v7
  let c0_i32_1 : BitVec 32 := 0#32
  let v9 : BitVec 1 := Scalar.cmpi .ne v8 c0_i32_1
  v9

def k0_cond3 (v11 : BitVec 32) : BitVec 1 :=
  let c0_i32_2 : BitVec 32 := 0#32
  let v12 : BitVec 1 := Scalar.cmpi .eq v11 c0_i32_2
  let v13 : BitVec 32 := Scalar.extui v12
  let c0_i32_3 : BitVec 32 := 0#32
  let v14 : BitVec 1 := Scalar.cmpi .ne v13 c0_i32_3
  v14

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (k0_off1_inb : ∀ i : grid0.Coords, ∀ a, (k0_off1 i) a + S1.size a ≤ S40.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S40) ![v0.toNat] S1.size (k0_off1_inb i)) numel1_S1
  let c0_i32 : BitVec 32 := 0#32
  let v2 : BitVec 32 := Scalar.addi c0_i32 arg0
  let c0_i32_0 : BitVec 32 := 0#32
  let c0_i32_1 : BitVec 32 := 0#32
  let c0_i32_2 : BitVec 32 := 0#32
  ![c0_i32_0.toNat, v1.toNat, c0_i32_1.toNat, v2.toNat]

def cc0_transform_2 (k0_off1_inb : ∀ i : grid0.Coords, ∀ a, (k0_off1 i) a + S1.size a ≤ S40.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S40) ![v0.toNat] S1.size (k0_off1_inb i)) numel1_S1
  let c2_i32 : BitVec 32 := 2#32
  let v2 : BitVec 32 := Scalar.addi c2_i32 arg0
  let c0_i32 : BitVec 32 := 0#32
  let c0_i32_0 : BitVec 32 := 0#32
  let c0_i32_1 : BitVec 32 := 0#32
  ![c0_i32.toNat, v1.toNat, c0_i32_0.toNat, v2.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x1x2048x1408 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x1x2048x1408 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 2 → Memref sig .tc .vmem S512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference7Ideal.lean ====
abbrev S20480x2048 : Shape := ⟨2, ![20480, 2048]⟩
abbrev S2x8x2048x5632 : Shape := ⟨4, ![2, 8, 2048, 5632]⟩
abbrev S40 : Shape := ⟨1, ![40]⟩
abbrev S40x512 : Shape := ⟨2, ![40, 512]⟩
abbrev S20480 : Shape := ⟨1, ![20480]⟩
abbrev S20480x1 : Shape := ⟨2, ![20480, 1]⟩
abbrev S_ : Shape := ⟨0, ![]⟩
abbrev S20480x2816 : Shape := ⟨2, ![20480, 2816]⟩
abbrev S1x1x2048x5632 : Shape := ⟨4, ![1, 1, 2048, 5632]⟩
abbrev S2048x5632 : Shape := ⟨2, ![2048, 5632]⟩
abbrev S20480x5632 : Shape := ⟨2, ![20480, 5632]⟩

abbrev nBuf : Space → Nat
  | .hbm => 217
  | .vmem => 0
  | .smem => 0
  | _ => 0

abbrev hbmTy0_0 (i : Nat) : BufTy := match i % 128 with
  | 0 => ⟨S20480x2048, .bf16⟩
  | 1 => ⟨S2x8x2048x5632, .f32⟩
  | 2 => ⟨S40, .i32⟩
  | 3 => ⟨S40, .i32⟩
  | 4 => ⟨S20480x2048, .f32⟩
  | 5 => ⟨S40x512, .i32⟩
  | 6 => ⟨S20480, .i32⟩
  | 7 => ⟨S20480x1, .i32⟩
  | 8 => ⟨S40x512, .i32⟩
  | 9 => ⟨S20480, .i32⟩
  | 10 => ⟨S20480x1, .i32⟩
  | 11 => ⟨S_, .i32⟩
  | 12 => ⟨S20480x1, .i32⟩
  | 13 => ⟨S20480x1, .i1⟩
  | 14 => ⟨S_, .f32⟩
  | 15 => ⟨S20480x2816, .f32⟩
  | 16 => ⟨S1x1x2048x5632, .f32⟩
  | 17 => ⟨S2048x5632, .f32⟩
  | 18 => ⟨S20480x5632, .f32⟩
  | 19 => ⟨S20480x2816, .f32⟩
  | 20 => ⟨S20480x2816, .f32⟩
  | 21 => ⟨S_, .i32⟩
  | 22 => ⟨S20480x1, .i32⟩
  | 23 => ⟨S20480x1, .i1⟩
  | 24 => ⟨S20480x1, .i1⟩
  | 25 => ⟨S20480x2816, .f32⟩
  | 26 => ⟨S20480x2816, .f32⟩
  | 27 => ⟨S_, .f32⟩
  | 28 => ⟨S20480x2816, .f32⟩
  | 29 => ⟨S20480x2816, .f32⟩
  | 30 => ⟨S_, .f32⟩
  | 31 => ⟨S20480x2816, .f32⟩
  | 32 => ⟨S20480x2816, .f32⟩
  | 33 => ⟨S20480x2816, .f32⟩
  | 34 => ⟨S20480x2816, .f32⟩
  | 35 => ⟨S_, .i32⟩
  | 36 => ⟨S_, .f32⟩
  | 37 => ⟨S20480x2816, .i1⟩
  | 38 => ⟨S20480x2816, .f32⟩
  | 39 => ⟨S20480x2816, .f32⟩
  | 40 => ⟨S20480x2816, .f32⟩
  | 41 => ⟨S1x1x2048x5632, .f32⟩
  | 42 => ⟨S2048x5632, .f32⟩
  | 43 => ⟨S20480x5632, .f32⟩
  | 44 => ⟨S20480x2816, .f32⟩
  | 45 => ⟨S20480x2816, .f32⟩
  | 46 => ⟨S_, .i32⟩
  | 47 => ⟨S20480x1, .i32⟩
  | 48 => ⟨S20480x1, .i1⟩
  | 49 => ⟨S20480x1, .i1⟩
  | 50 => ⟨S20480x2816, .f32⟩
  | 51 => ⟨S20480x2816, .f32⟩
  | 52 => ⟨S_, .f32⟩
  | 53 => ⟨S20480x2816, .f32⟩
  | 54 => ⟨S20480x2816, .f32⟩
  | 55 => ⟨S_, .f32⟩
  | 56 => ⟨S20480x2816, .f32⟩
  | 57 => ⟨S20480x2816, .f32⟩
  | 58 => ⟨S20480x2816, .f32⟩
  | 59 => ⟨S20480x2816, .f32⟩
  | 60 => ⟨S_, .i32⟩
  | 61 => ⟨S_, .f32⟩
  | 62 => ⟨S20480x2816, .i1⟩
  | 63 => ⟨S20480x2816, .f32⟩
  | 64 => ⟨S20480x2816, .f32⟩
  | 65 => ⟨S20480x2816, .f32⟩
  | 66 => ⟨S1x1x2048x5632, .f32⟩
  | 67 => ⟨S2048x5632, .f32⟩
  | 68 => ⟨S20480x5632, .f32⟩
  | 69 => ⟨S20480x2816, .f32⟩
  | 70 => ⟨S20480x2816, .f32⟩
  | 71 => ⟨S_, .i32⟩
  | 72 => ⟨S20480x1, .i32⟩
  | 73 => ⟨S20480x1, .i1⟩
  | 74 => ⟨S20480x1, .i1⟩
  | 75 => ⟨S20480x2816, .f32⟩
  | 76 => ⟨S20480x2816, .f32⟩
  | 77 => ⟨S_, .f32⟩
  | 78 => ⟨S20480x2816, .f32⟩
  | 79 => ⟨S20480x2816, .f32⟩
  | 80 => ⟨S_, .f32⟩
  | 81 => ⟨S20480x2816, .f32⟩
  | 82 => ⟨S20480x2816, .f32⟩
  | 83 => ⟨S20480x2816, .f32⟩
  | 84 => ⟨S20480x2816, .f32⟩
  | 85 => ⟨S_, .i32⟩
  | 86 => ⟨S_, .f32⟩
  | 87 => ⟨S20480x2816, .i1⟩
  | 88 => ⟨S20480x2816, .f32⟩
  | 89 => ⟨S20480x2816, .f32⟩
  | 90 => ⟨S20480x2816, .f32⟩
  | 91 => ⟨S1x1x2048x5632, .f32⟩
  | 92 => ⟨S2048x5632, .f32⟩
  | 93 => ⟨S20480x5632, .f32⟩
  | 94 => ⟨S20480x2816, .f32⟩
  | 95 => ⟨S20480x2816, .f32⟩
  | 96 => ⟨S_, .i32⟩
  | 97 => ⟨S20480x1, .i32⟩
  | 98 => ⟨S20480x1, .i1⟩
  | 99 => ⟨S20480x1, .i1⟩
  | 100 => ⟨S20480x2816, .f32⟩
  | 101 => ⟨S20480x2816, .f32⟩
  | 102 => ⟨S_, .f32⟩
  | 103 => ⟨S20480x2816, .f32⟩
  | 104 => ⟨S20480x2816, .f32⟩
  | 105 => ⟨S_, .f32⟩
  | 106 => ⟨S20480x2816, .f32⟩
  | 107 => ⟨S20480x2816, .f32⟩
  | 108 => ⟨S20480x2816, .f32⟩
  | 109 => ⟨S20480x2816, .f32⟩
  | 110 => ⟨S_, .i32⟩
  | 111 => ⟨S_, .f32⟩
  | 112 => ⟨S20480x2816, .i1⟩
  | 113 => ⟨S20480x2816, .f32⟩
  | 114 => ⟨S20480x2816, .f32⟩
  | 115 => ⟨S20480x2816, .f32⟩
  | 116 => ⟨S1x1x2048x5632, .f32⟩
  | 117 => ⟨S2048x5632, .f32⟩
  | 118 => ⟨S20480x5632, .f32⟩
  | 119 => ⟨S20480x2816, .f32⟩
  | 120 => ⟨S20480x2816, .f32⟩
  | 121 => ⟨S_, .i32⟩
  | 122 => ⟨S20480x1, .i32⟩
  | 123 => ⟨S20480x1, .i1⟩
  | 124 => ⟨S20480x1, .i1⟩
  | 125 => ⟨S20480x2816, .f32⟩
  | 126 => ⟨S20480x2816, .f32⟩
  | 127 => ⟨S_, .f32⟩
  | _ => ⟨S20480x2048, .bf16⟩

abbrev hbmTy0_1 (i : Nat) : BufTy := match i % 128 with
  | 0 => ⟨S20480x2816, .f32⟩
  | 1 => ⟨S20480x2816, .f32⟩
  | 2 => ⟨S_, .f32⟩
  | 3 => ⟨S20480x2816, .f32⟩
  | 4 => ⟨S20480x2816, .f32⟩
  | 5 => ⟨S20480x2816, .f32⟩
  | 6 => ⟨S20480x2816, .f32⟩
  | 7 => ⟨S_, .i32⟩
  | 8 => ⟨S_, .f32⟩
  | 9 => ⟨S20480x2816, .i1⟩
  | 10 => ⟨S20480x2816, .f32⟩
  | 11 => ⟨S20480x2816, .f32⟩
  | 12 => ⟨S20480x2816, .f32⟩
  | 13 => ⟨S1x1x2048x5632, .f32⟩
  | 14 => ⟨S2048x5632, .f32⟩
  | 15 => ⟨S20480x5632, .f32⟩
  | 16 => ⟨S20480x2816, .f32⟩
  | 17 => ⟨S20480x2816, .f32⟩
  | 18 => ⟨S_, .i32⟩
  | 19 => ⟨S20480x1, .i32⟩
  | 20 => ⟨S20480x1, .i1⟩
  | 21 => ⟨S20480x1, .i1⟩
  | 22 => ⟨S20480x2816, .f32⟩
  | 23 => ⟨S20480x2816, .f32⟩
  | 24 => ⟨S_, .f32⟩
  | 25 => ⟨S20480x2816, .f32⟩
  | 26 => ⟨S20480x2816, .f32⟩
  | 27 => ⟨S_, .f32⟩
  | 28 => ⟨S20480x2816, .f32⟩
  | 29 => ⟨S20480x2816, .f32⟩
  | 30 => ⟨S20480x2816, .f32⟩
  | 31 => ⟨S20480x2816, .f32⟩
  | 32 => ⟨S_, .i32⟩
  | 33 => ⟨S_, .f32⟩
  | 34 => ⟨S20480x2816, .i1⟩
  | 35 => ⟨S20480x2816, .f32⟩
  | 36 => ⟨S20480x2816, .f32⟩
  | 37 => ⟨S20480x2816, .f32⟩
  | 38 => ⟨S1x1x2048x5632, .f32⟩
  | 39 => ⟨S2048x5632, .f32⟩
  | 40 => ⟨S20480x5632, .f32⟩
  | 41 => ⟨S20480x2816, .f32⟩
  | 42 => ⟨S20480x2816, .f32⟩
  | 43 => ⟨S_, .i32⟩
  | 44 => ⟨S20480x1, .i32⟩
  | 45 => ⟨S20480x1, .i1⟩
  | 46 => ⟨S20480x1, .i1⟩
  | 47 => ⟨S20480x2816, .f32⟩
  | 48 => ⟨S20480x2816, .f32⟩
  | 49 => ⟨S_, .f32⟩
  | 50 => ⟨S20480x2816, .f32⟩
  | 51 => ⟨S20480x2816, .f32⟩
  | 52 => ⟨S_, .f32⟩
  | 53 => ⟨S20480x2816, .f32⟩
  | 54 => ⟨S20480x2816, .f32⟩
  | 55 => ⟨S20480x2816, .f32⟩
  | 56 => ⟨S20480x2816, .f32⟩
  | 57 => ⟨S_, .i32⟩
  | 58 => ⟨S_, .f32⟩
  | 59 => ⟨S20480x2816, .i1⟩
  | 60 => ⟨S20480x2816, .f32⟩
  | 61 => ⟨S20480x2816, .f32⟩
  | 62 => ⟨S20480x2816, .f32⟩
  | 63 => ⟨S1x1x2048x5632, .f32⟩
  | 64 => ⟨S2048x5632, .f32⟩
  | 65 => ⟨S20480x5632, .f32⟩
  | 66 => ⟨S20480x2816, .f32⟩
  | 67 => ⟨S20480x2816, .f32⟩
  | 68 => ⟨S_, .i32⟩
  | 69 => ⟨S20480x1, .i32⟩
  | 70 => ⟨S20480x1, .i1⟩
  | 71 => ⟨S20480x1, .i1⟩
  | 72 => ⟨S20480x2816, .f32⟩
  | 73 => ⟨S20480x2816, .f32⟩
  | 74 => ⟨S_, .f32⟩
  | 75 => ⟨S20480x2816, .f32⟩
  | 76 => ⟨S20480x2816, .f32⟩
  | 77 => ⟨S_, .f32⟩
  | 78 => ⟨S20480x2816, .f32⟩
  | 79 => ⟨S20480x2816, .f32⟩
  | 80 => ⟨S20480x2816, .f32⟩
  | 81 => ⟨S20480x2816, .f32⟩
  | 82 => ⟨S_, .i32⟩
  | 83 => ⟨S_, .f32⟩
  | 84 => ⟨S20480x2816, .i1⟩
  | 85 => ⟨S20480x2816, .f32⟩
  | 86 => ⟨S20480x2816, .f32⟩
  | 87 => ⟨S20480x2816, .f32⟩
  | 88 => ⟨S20480x2816, .bf16⟩
  | _ => ⟨S20480x2048, .bf16⟩

abbrev hbmTy (i : Nat) : BufTy := match i / 128 with
  | 0 => hbmTy0_0 i
  | 1 => hbmTy0_1 i
  | _ => ⟨S20480x2048, .bf16⟩

abbrev bufTy : (tb : Table) → Fin (tcTables nBuf tb) → BufTy
  | .hbm, ⟨i, _⟩ => hbmTy i
  | _, _ => ⟨S20480x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_c_0 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_call0_v0 : Ref sig .tc := ⟨.hbm, 25, rfl⟩
abbrev main_call0_v1 : Ref sig .tc := ⟨.hbm, 26, rfl⟩
abbrev main_call0_cst : Ref sig .tc := ⟨.hbm, 27, rfl⟩
abbrev main_call0_v2 : Ref sig .tc := ⟨.hbm, 28, rfl⟩
abbrev main_call0_v3 : Ref sig .tc := ⟨.hbm, 29, rfl⟩
abbrev main_call0_cst_0 : Ref sig .tc := ⟨.hbm, 30, rfl⟩
abbrev main_call0_v4 : Ref sig .tc := ⟨.hbm, 31, rfl⟩
abbrev main_call0_v5 : Ref sig .tc := ⟨.hbm, 32, rfl⟩
abbrev main_v18 : Ref sig .tc := ⟨.hbm, 33, rfl⟩
abbrev main_v19 : Ref sig .tc := ⟨.hbm, 34, rfl⟩
abbrev main_c_1 : Ref sig .tc := ⟨.hbm, 35, rfl⟩
abbrev main_call1_v0 : Ref sig .tc := ⟨.hbm, 36, rfl⟩
abbrev main_call1_v1 : Ref sig .tc := ⟨.hbm, 37, rfl⟩
abbrev main_call1_v2 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_c_2 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_call2_v0 : Ref sig .tc := ⟨.hbm, 50, rfl⟩
abbrev main_call2_v1 : Ref sig .tc := ⟨.hbm, 51, rfl⟩
abbrev main_call2_cst : Ref sig .tc := ⟨.hbm, 52, rfl⟩
abbrev main_call2_v2 : Ref sig .tc := ⟨.hbm, 53, rfl⟩
abbrev main_call2_v3 : Ref sig .tc := ⟨.hbm, 54, rfl⟩
abbrev main_call2_cst_0 : Ref sig .tc := ⟨.hbm, 55, rfl⟩
abbrev main_call2_v4 : Ref sig .tc := ⟨.hbm, 56, rfl⟩
abbrev main_call2_v5 : Ref sig .tc := ⟨.hbm, 57, rfl⟩
abbrev main_v30 : Ref sig .tc := ⟨.hbm, 58, rfl⟩
abbrev main_v31 : Ref sig .tc := ⟨.hbm, 59, rfl⟩
abbrev main_c_3 : Ref sig .tc := ⟨.hbm, 60, rfl⟩
abbrev main_call3_v0 : Ref sig .tc := ⟨.hbm, 61, rfl⟩
abbrev main_call3_v1 : Ref sig .tc := ⟨.hbm, 62, rfl⟩
abbrev main_call3_v2 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_c_4 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_call4_v0 : Ref sig .tc := ⟨.hbm, 75, rfl⟩
abbrev main_call4_v1 : Ref sig .tc := ⟨.hbm, 76, rfl⟩
abbrev main_call4_cst : Ref sig .tc := ⟨.hbm, 77, rfl⟩
abbrev main_call4_v2 : Ref sig .tc := ⟨.hbm, 78, rfl⟩
abbrev main_call4_v3 : Ref sig .tc := ⟨.hbm, 79, rfl⟩
abbrev main_call4_cst_0 : Ref sig .tc := ⟨.hbm, 80, rfl⟩
abbrev main_call4_v4 : Ref sig .tc := ⟨.hbm, 81, rfl⟩
abbrev main_call4_v5 : Ref sig .tc := ⟨.hbm, 82, rfl⟩
abbrev main_v42 : Ref sig .tc := ⟨.hbm, 83, rfl⟩
abbrev main_v43 : Ref sig .tc := ⟨.hbm, 84, rfl⟩
abbrev main_c_5 : Ref sig .tc := ⟨.hbm, 85, rfl⟩
abbrev main_call5_v0 : Ref sig .tc := ⟨.hbm, 86, rfl⟩
abbrev main_call5_v1 : Ref sig .tc := ⟨.hbm, 87, rfl⟩
abbrev main_call5_v2 : Ref sig .tc := ⟨.hbm, 88, rfl⟩
abbrev main_v44 : Ref sig .tc := ⟨.hbm, 89, rfl⟩
abbrev main_v45 : Ref sig .tc := ⟨.hbm, 90, rfl⟩
abbrev main_v46 : Ref sig .tc := ⟨.hbm, 91, rfl⟩
abbrev main_v47 : Ref sig .tc := ⟨.hbm, 92, rfl⟩
abbrev main_v48 : Ref sig .tc := ⟨.hbm, 93, rfl⟩
abbrev main_v49 : Ref sig .tc := ⟨.hbm, 94, rfl⟩
abbrev main_v50 : Ref sig .tc := ⟨.hbm, 95, rfl⟩
abbrev main_c_6 : Ref sig .tc := ⟨.hbm, 96, rfl⟩
abbrev main_v51 : Ref sig .tc := ⟨.hbm, 97, rfl⟩
abbrev main_v52 : Ref sig .tc := ⟨.hbm, 98, rfl⟩
abbrev main_v53 : Ref sig .tc := ⟨.hbm, 99, rfl⟩
abbrev main_call6_v0 : Ref sig .tc := ⟨.hbm, 100, rfl⟩
abbrev main_call6_v1 : Ref sig .tc := ⟨.hbm, 101, rfl⟩
abbrev main_call6_cst : Ref sig .tc := ⟨.hbm, 102, rfl⟩
abbrev main_call6_v2 : Ref sig .tc := ⟨.hbm, 103, rfl⟩
abbrev main_call6_v3 : Ref sig .tc := ⟨.hbm, 104, rfl⟩
abbrev main_call6_cst_0 : Ref sig .tc := ⟨.hbm, 105, rfl⟩
abbrev main_call6_v4 : Ref sig .tc := ⟨.hbm, 106, rfl⟩
abbrev main_call6_v5 : Ref sig .tc := ⟨.hbm, 107, rfl⟩
abbrev main_v54 : Ref sig .tc := ⟨.hbm, 108, rfl⟩
abbrev main_v55 : Ref sig .tc := ⟨.hbm, 109, rfl⟩
abbrev main_c_7 : Ref sig .tc := ⟨.hbm, 110, rfl⟩
abbrev main_call7_v0 : Ref sig .tc := ⟨.hbm, 111, rfl⟩
abbrev main_call7_v1 : Ref sig .tc := ⟨.hbm, 112, rfl⟩
abbrev main_call7_v2 : Ref sig .tc := ⟨.hbm, 113, rfl⟩
abbrev main_v56 : Ref sig .tc := ⟨.hbm, 114, rfl⟩
abbrev main_v57 : Ref sig .tc := ⟨.hbm, 115, rfl⟩
abbrev main_v58 : Ref sig .tc := ⟨.hbm, 116, rfl⟩
abbrev main_v59 : Ref sig .tc := ⟨.hbm, 117, rfl⟩
abbrev main_v60 : Ref sig .tc := ⟨.hbm, 118, rfl⟩
abbrev main_v61 : Ref sig .tc := ⟨.hbm, 119, rfl⟩
abbrev main_v62 : Ref sig .tc := ⟨.hbm, 120, rfl⟩
abbrev main_c_8 : Ref sig .tc := ⟨.hbm, 121, rfl⟩
abbrev main_v63 : Ref sig .tc := ⟨.hbm, 122, rfl⟩
abbrev main_v64 : Ref sig .tc := ⟨.hbm, 123, rfl⟩
abbrev main_v65 : Ref sig .tc := ⟨.hbm, 124, rfl⟩
abbrev main_call8_v0 : Ref sig .tc := ⟨.hbm, 125, rfl⟩
abbrev main_call8_v1 : Ref sig .tc := ⟨.hbm, 126, rfl⟩
abbrev main_call8_cst : Ref sig .tc := ⟨.hbm, 127, rfl⟩
abbrev main_call8_v2 : Ref sig .tc := ⟨.hbm, 128, rfl⟩
abbrev main_call8_v3 : Ref sig .tc := ⟨.hbm, 129, rfl⟩
abbrev main_call8_cst_0 : Ref sig .tc := ⟨.hbm, 130, rfl⟩
abbrev main_call8_v4 : Ref sig .tc := ⟨.hbm, 131, rfl⟩
abbrev main_call8_v5 : Ref sig .tc := ⟨.hbm, 132, rfl⟩
abbrev main_v66 : Ref sig .tc := ⟨.hbm, 133, rfl⟩
abbrev main_v67 : Ref sig .tc := ⟨.hbm, 134, rfl⟩
abbrev main_c_9 : Ref sig .tc := ⟨.hbm, 135, rfl⟩
abbrev main_call9_v0 : Ref sig .tc := ⟨.hbm, 136, rfl⟩
abbrev main_call9_v1 : Ref sig .tc := ⟨.hbm, 137, rfl⟩
abbrev main_call9_v2 : Ref sig .tc := ⟨.hbm, 138, rfl⟩
abbrev main_v68 : Ref sig .tc := ⟨.hbm, 139, rfl⟩
abbrev main_v69 : Ref sig .tc := ⟨.hbm, 140, rfl⟩
abbrev main_v70 : Ref sig .tc := ⟨.hbm, 141, rfl⟩
abbrev main_v71 : Ref sig .tc := ⟨.hbm, 142, rfl⟩
abbrev main_v72 : Ref sig .tc := ⟨.hbm, 143, rfl⟩
abbrev main_v73 : Ref sig .tc := ⟨.hbm, 144, rfl⟩
abbrev main_v74 : Ref sig .tc := ⟨.hbm, 145, rfl⟩
abbrev main_c_10 : Ref sig .tc := ⟨.hbm, 146, rfl⟩
abbrev main_v75 : Ref sig .tc := ⟨.hbm, 147, rfl⟩
abbrev main_v76 : Ref sig .tc := ⟨.hbm, 148, rfl⟩
abbrev main_v77 : Ref sig .tc := ⟨.hbm, 149, rfl⟩
abbrev main_call10_v0 : Ref sig .tc := ⟨.hbm, 150, rfl⟩
abbrev main_call10_v1 : Ref sig .tc := ⟨.hbm, 151, rfl⟩
abbrev main_call10_cst : Ref sig .tc := ⟨.hbm, 152, rfl⟩
abbrev main_call10_v2 : Ref sig .tc := ⟨.hbm, 153, rfl⟩
abbrev main_call10_v3 : Ref sig .tc := ⟨.hbm, 154, rfl⟩
abbrev main_call10_cst_0 : Ref sig .tc := ⟨.hbm, 155, rfl⟩
abbrev main_call10_v4 : Ref sig .tc := ⟨.hbm, 156, rfl⟩
abbrev main_call10_v5 : Ref sig .tc := ⟨.hbm, 157, rfl⟩
abbrev main_v78 : Ref sig .tc := ⟨.hbm, 158, rfl⟩
abbrev main_v79 : Ref sig .tc := ⟨.hbm, 159, rfl⟩
abbrev main_c_11 : Ref sig .tc := ⟨.hbm, 160, rfl⟩
abbrev main_call11_v0 : Ref sig .tc := ⟨.hbm, 161, rfl⟩
abbrev main_call11_v1 : Ref sig .tc := ⟨.hbm, 162, rfl⟩
abbrev main_call11_v2 : Ref sig .tc := ⟨.hbm, 163, rfl⟩
abbrev main_v80 : Ref sig .tc := ⟨.hbm, 164, rfl⟩
abbrev main_v81 : Ref sig .tc := ⟨.hbm, 165, rfl⟩
abbrev main_v82 : Ref sig .tc := ⟨.hbm, 166, rfl⟩
abbrev main_v83 : Ref sig .tc := ⟨.hbm, 167, rfl⟩
abbrev main_v84 : Ref sig .tc := ⟨.hbm, 168, rfl⟩
abbrev main_v85 : Ref sig .tc := ⟨.hbm, 169, rfl⟩
abbrev main_v86 : Ref sig .tc := ⟨.hbm, 170, rfl⟩
abbrev main_c_12 : Ref sig .tc := ⟨.hbm, 171, rfl⟩
abbrev main_v87 : Ref sig .tc := ⟨.hbm, 172, rfl⟩
abbrev main_v88 : Ref sig .tc := ⟨.hbm, 173, rfl⟩
abbrev main_v89 : Ref sig .tc := ⟨.hbm, 174, rfl⟩
abbrev main_call12_v0 : Ref sig .tc := ⟨.hbm, 175, rfl⟩
abbrev main_call12_v1 : Ref sig .tc := ⟨.hbm, 176, rfl⟩
abbrev main_call12_cst : Ref sig .tc := ⟨.hbm, 177, rfl⟩
abbrev main_call12_v2 : Ref sig .tc := ⟨.hbm, 178, rfl⟩
abbrev main_call12_v3 : Ref sig .tc := ⟨.hbm, 179, rfl⟩
abbrev main_call12_cst_0 : Ref sig .tc := ⟨.hbm, 180, rfl⟩
abbrev main_call12_v4 : Ref sig .tc := ⟨.hbm, 181, rfl⟩
abbrev main_call12_v5 : Ref sig .tc := ⟨.hbm, 182, rfl⟩
abbrev main_v90 : Ref sig .tc := ⟨.hbm, 183, rfl⟩
abbrev main_v91 : Ref sig .tc := ⟨.hbm, 184, rfl⟩
abbrev main_c_13 : Ref sig .tc := ⟨.hbm, 185, rfl⟩
abbrev main_call13_v0 : Ref sig .tc := ⟨.hbm, 186, rfl⟩
abbrev main_call13_v1 : Ref sig .tc := ⟨.hbm, 187, rfl⟩
abbrev main_call13_v2 : Ref sig .tc := ⟨.hbm, 188, rfl⟩
abbrev main_v92 : Ref sig .tc := ⟨.hbm, 189, rfl⟩
abbrev main_v93 : Ref sig .tc := ⟨.hbm, 190, rfl⟩
abbrev main_v94 : Ref sig .tc := ⟨.hbm, 191, rfl⟩
abbrev main_v95 : Ref sig .tc := ⟨.hbm, 192, rfl⟩
abbrev main_v96 : Ref sig .tc := ⟨.hbm, 193, rfl⟩
abbrev main_v97 : Ref sig .tc := ⟨.hbm, 194, rfl⟩
abbrev main_v98 : Ref sig .tc := ⟨.hbm, 195, rfl⟩
abbrev main_c_14 : Ref sig .tc := ⟨.hbm, 196, rfl⟩
abbrev main_v99 : Ref sig .tc := ⟨.hbm, 197, rfl⟩
abbrev main_v100 : Ref sig .tc := ⟨.hbm, 198, rfl⟩
abbrev main_v101 : Ref sig .tc := ⟨.hbm, 199, rfl⟩
abbrev main_call14_v0 : Ref sig .tc := ⟨.hbm, 200, rfl⟩
abbrev main_call14_v1 : Ref sig .tc := ⟨.hbm, 201, rfl⟩
abbrev main_call14_cst : Ref sig .tc := ⟨.hbm, 202, rfl⟩
abbrev main_call14_v2 : Ref sig .tc := ⟨.hbm, 203, rfl⟩
abbrev main_call14_v3 : Ref sig .tc := ⟨.hbm, 204, rfl⟩
abbrev main_call14_cst_0 : Ref sig .tc := ⟨.hbm, 205, rfl⟩
abbrev main_call14_v4 : Ref sig .tc := ⟨.hbm, 206, rfl⟩
abbrev main_call14_v5 : Ref sig .tc := ⟨.hbm, 207, rfl⟩
abbrev main_v102 : Ref sig .tc := ⟨.hbm, 208, rfl⟩
abbrev main_v103 : Ref sig .tc := ⟨.hbm, 209, rfl⟩
abbrev main_c_15 : Ref sig .tc := ⟨.hbm, 210, rfl⟩
abbrev main_call15_v0 : Ref sig .tc := ⟨.hbm, 211, rfl⟩
abbrev main_call15_v1 : Ref sig .tc := ⟨.hbm, 212, rfl⟩
abbrev main_call15_v2 : Ref sig .tc := ⟨.hbm, 213, rfl⟩
abbrev main_v104 : Ref sig .tc := ⟨.hbm, 214, rfl⟩
abbrev main_v105 : Ref sig .tc := ⟨.hbm, 215, rfl⟩
abbrev main_v106 : Ref sig .tc := ⟨.hbm, 216, rfl⟩

abbrev nD : Nat := 1
abbrev τ : Topo := Topo.v7x

variable {F : FTy → Type} [FloatOps F]
-- ==== Kernel8.lean ====
abbrev S20480x2816 : Shape := ⟨2, ![20480, 2816]⟩
abbrev S2x8x2816x2048 : Shape := ⟨4, ![2, 8, 2816, 2048]⟩
abbrev S40 : Shape := ⟨1, ![40]⟩
abbrev S_ : Shape := ⟨0, ![]⟩
abbrev S1 : Shape := ⟨1, ![1]⟩
abbrev S39 : Shape := ⟨1, ![39]⟩
abbrev S20480x2048 : Shape := ⟨2, ![20480, 2048]⟩
abbrev S512x2816 : Shape := ⟨2, ![512, 2816]⟩
abbrev S1x1x2816x1024 : Shape := ⟨4, ![1, 1, 2816, 1024]⟩
abbrev S512x1024 : Shape := ⟨2, ![512, 1024]⟩
abbrev S2816x1024 : Shape := ⟨2, ![2816, 1024]⟩

abbrev nBuf : Space → Nat
  | .hbm => 9
  | .vmem => 7
  | .smem => 3
  | _ => 0

abbrev bufTy : (tb : Table) → Fin (tcTables nBuf tb) → BufTy
  | .hbm, ⟨0, _⟩ => ⟨S20480x2816, .bf16⟩
  | .hbm, ⟨1, _⟩ => ⟨S2x8x2816x2048, .f32⟩
  | .hbm, ⟨2, _⟩ => ⟨S_, .i32⟩
  | .hbm, ⟨3, _⟩ => ⟨S1, .i32⟩
  | .hbm, ⟨4, _⟩ => ⟨S39, .i32⟩
  | .hbm, ⟨5, _⟩ => ⟨S39, .i32⟩
  | .hbm, ⟨6, _⟩ => ⟨S39, .i1⟩
  | .hbm, ⟨7, _⟩ => ⟨S39, .i32⟩
  | .hbm, ⟨8, _⟩ => ⟨S20480x2048, .f32⟩
  | .local _ .vmem, ⟨0, _⟩ => ⟨S512x2816, .bf16⟩
  | .local _ .vmem, ⟨1, _⟩ => ⟨S512x2816, .bf16⟩
  | .local _ .vmem, ⟨2, _⟩ => ⟨S1x1x2816x1024, .f32⟩
  | .local _ .vmem, ⟨3, _⟩ => ⟨S1x1x2816x1024, .f32⟩
  | .local _ .vmem, ⟨4, _⟩ => ⟨S512x1024, .f32⟩
  | .local _ .vmem, ⟨5, _⟩ => ⟨S512x1024, .f32⟩
  | .local _ .vmem, ⟨6, _⟩ => ⟨S2816x1024, .bf16⟩
  | .local _ .smem, ⟨0, _⟩ => ⟨S40, .i32⟩
  | .local _ .smem, ⟨1, _⟩ => ⟨S40, .i32⟩
  | .local _ .smem, ⟨2, _⟩ => ⟨S40, .i32⟩
  | _, _ => ⟨S20480x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v6 : Ref sig .tc := ⟨.hbm, 8, rfl⟩
abbrev main_arg2 : Ref sig .tc := ⟨.smem, 0, rfl⟩
abbrev main_v5 : Ref sig .tc := ⟨.smem, 1, rfl⟩
abbrev main_arg3 : Ref sig .tc := ⟨.smem, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 40], ![false, false]⟩

abbrev pre0 : Pipeline.Prefetch sig := ⟨3, ![main_arg2.idx, main_v5.idx, main_arg3.idx], fun | 0 => main_arg2.names | 1 => main_v5.names | 2 => main_arg3.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_off2 (i : grid0.Coords) : Fin 1 → Nat :=
  let arg1 : BitVec 32 := BitVec.ofNat 32 (i 1).val
  let v5 : Index := Scalar.indexCast arg1
  ![v5.toNat]
def k0_off3 (i : grid0.Coords) : Fin 1 → Nat :=
  let arg1 : BitVec 32 := BitVec.ofNat 32 (i 1).val
  let v10 : Index := Scalar.indexCast arg1
  ![v10.toNat]
def k0_cond2 (v6 : BitVec 32) : BitVec 1 :=
  let c1_i32_0 : BitVec 32 := 1#32
  let v7 : BitVec 1 := Scalar.cmpi .eq v6 c1_i32_0
  let v8 : BitVec 32 := Scalar.extui v7
  let c0_i32_1 : BitVec 32 := 0#32
  let v9 : BitVec 1 := Scalar.cmpi .ne v8 c0_i32_1
  v9

def k0_cond3 (v11 : BitVec 32) : BitVec 1 :=
  let c0_i32_2 : BitVec 32 := 0#32
  let v12 : BitVec 1 := Scalar.cmpi .eq v11 c0_i32_2
  let v13 : BitVec 32 := Scalar.extui v12
  let c0_i32_3 : BitVec 32 := 0#32
  let v14 : BitVec 1 := Scalar.cmpi .ne v13 c0_i32_3
  v14

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (k0_off1_inb : ∀ i : grid0.Coords, ∀ a, (k0_off1 i) a + S1.size a ≤ S40.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S40) ![v0.toNat] S1.size (k0_off1_inb i)) numel1_S1
  let c0_i32 : BitVec 32 := 0#32
  let v2 : BitVec 32 := Scalar.addi c0_i32 arg0
  let c0_i32_0 : BitVec 32 := 0#32
  let c0_i32_1 : BitVec 32 := 0#32
  let c0_i32_2 : BitVec 32 := 0#32
  ![c0_i32_0.toNat, v1.toNat, c0_i32_1.toNat, v2.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1x2816x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference8Ideal.lean ====
abbrev S20480x2816 : Shape := ⟨2, ![20480, 2816]⟩
abbrev S2x8x2816x2048 : Shape := ⟨4, ![2, 8, 2816, 2048]⟩
abbrev S40 : Shape := ⟨1, ![40]⟩
abbrev S40x512 : Shape := ⟨2, ![40, 512]⟩
abbrev S20480 : Shape := ⟨1, ![20480]⟩
abbrev S20480x1 : Shape := ⟨2, ![20480, 1]⟩
abbrev S_ : Shape := ⟨0, ![]⟩
abbrev S20480x2048 : Shape := ⟨2, ![20480, 2048]⟩
abbrev S1x1x2816x2048 : Shape := ⟨4, ![1, 1, 2816, 2048]⟩
abbrev S2816x2048 : Shape := ⟨2, ![2816, 2048]⟩

abbrev nBuf : Space → Nat
  | .hbm => 120
  | .vmem => 0
  | .smem => 0
  | _ => 0

abbrev bufTy : (tb : Table) → Fin (tcTables nBuf tb) → BufTy
  | .hbm, ⟨0, _⟩ => ⟨S20480x2816, .bf16⟩
  | .hbm, ⟨1, _⟩ => ⟨S2x8x2816x2048, .f32⟩
  | .hbm, ⟨2, _⟩ => ⟨S40, .i32⟩
  | .hbm, ⟨3, _⟩ => ⟨S40, .i32⟩
  | .hbm, ⟨4, _⟩ => ⟨S20480x2816, .f32⟩
  | .hbm, ⟨5, _⟩ => ⟨S40x512, .i32⟩
  | .hbm, ⟨6, _⟩ => ⟨S20480, .i32⟩
  | .hbm, ⟨7, _⟩ => ⟨S20480x1, .i32⟩
  | .hbm, ⟨8, _⟩ => ⟨S40x512, .i32⟩
  | .hbm, ⟨9, _⟩ => ⟨S20480, .i32⟩
  | .hbm, ⟨10, _⟩ => ⟨S20480x1, .i32⟩
  | .hbm, ⟨11, _⟩ => ⟨S_, .i32⟩
  | .hbm, ⟨12, _⟩ => ⟨S20480x1, .i32⟩
  | .hbm, ⟨13, _⟩ => ⟨S20480x1, .i1⟩
  | .hbm, ⟨14, _⟩ => ⟨S_, .f32⟩
  | .hbm, ⟨15, _⟩ => ⟨S20480x2048, .f32⟩
  | .hbm, ⟨16, _⟩ => ⟨S_, .i32⟩
  | .hbm, ⟨17, _⟩ => ⟨S20480x1, .i32⟩
  | .hbm, ⟨18, _⟩ => ⟨S20480x1, .i1⟩
  | .hbm, ⟨19, _⟩ => ⟨S20480x1, .i1⟩
  | .hbm, ⟨20, _⟩ => ⟨S1x1x2816x2048, .f32⟩
  | .hbm, ⟨21, _⟩ => ⟨S2816x2048, .f32⟩
  | .hbm, ⟨22, _⟩ => ⟨S20480x2048, .f32⟩
  | .hbm, ⟨23, _⟩ => ⟨S_, .i32⟩
  | .hbm, ⟨24, _⟩ => ⟨S_, .f32⟩
  | .hbm, ⟨25, _⟩ => ⟨S20480x2048, .i1⟩
  | .hbm, ⟨26, _⟩ => ⟨S20480x2048, .f32⟩
  | .hbm, ⟨27, _⟩ => ⟨S20480x2048, .f32⟩
  | .hbm, ⟨28, _⟩ => ⟨S20480x2048, .f32⟩
  | .hbm, ⟨29, _⟩ => ⟨S_, .i32⟩
  | .hbm, ⟨30, _⟩ => ⟨S20480x1, .i32⟩
  | .hbm, ⟨31, _⟩ => ⟨S20480x1, .i1⟩
  | .hbm, ⟨32, _⟩ => ⟨S20480x1, .i1⟩
  | .hbm, ⟨33, _⟩ => ⟨S1x1x2816x2048, .f32⟩
  | .hbm, ⟨34, _⟩ => ⟨S2816x2048, .f32⟩
  | .hbm, ⟨35, _⟩ => ⟨S20480x2048, .f32⟩
  | .hbm, ⟨36, _⟩ => ⟨S_, .i32⟩
  | .hbm, ⟨37, _⟩ => ⟨S_, .f32⟩
  | .hbm, ⟨38, _⟩ => ⟨S20480x2048, .i1⟩
  | .hbm, ⟨39, _⟩ => ⟨S20480x2048, .f32⟩
  | .hbm, ⟨40, _⟩ => ⟨S20480x2048, .f32⟩
  | .hbm, ⟨41, _⟩ => ⟨S20480x2048, .f32⟩
  | .hbm, ⟨42, _⟩ => ⟨S_, .i32⟩
  | .hbm, ⟨43, _⟩ => ⟨S20480x1, .i32⟩
  | .hbm, ⟨44, _⟩ => ⟨S20480x1, .i1⟩
  | .hbm, ⟨45, _⟩ => ⟨S20480x1, .i1⟩
  | .hbm, ⟨46, _⟩ => ⟨S1x1x2816x2048, .f32⟩
  | .hbm, ⟨47, _⟩ => ⟨S2816x2048, .f32⟩
  | .hbm, ⟨48, _⟩ => ⟨S20480x2048, .f32⟩
  | .hbm, ⟨49, _⟩ => ⟨S_, .i32⟩
  | .hbm, ⟨50, _⟩ => ⟨S_, .f32⟩
  | .hbm, ⟨51, _⟩ => ⟨S20480x2048, .i1⟩
  | .hbm, ⟨52, _⟩ => ⟨S20480x2048, .f32⟩
  | .hbm, ⟨53, _⟩ => ⟨S20480x2048, .f32⟩
  | .hbm, ⟨54, _⟩ => ⟨S20480x2048, .f32⟩
  | .hbm, ⟨55, _⟩ => ⟨S_, .i32⟩
  | .hbm, ⟨56, _⟩ => ⟨S20480x1, .i32⟩
  | .hbm, ⟨57, _⟩ => ⟨S20480x1, .i1⟩
  | .hbm, ⟨58, _⟩ => ⟨S20480x1, .i1⟩
  | .hbm, ⟨59, _⟩ => ⟨S1x1x2816x2048, .f32⟩
  | .hbm, ⟨60, _⟩ => ⟨S2816x2048, .f32⟩
  | .hbm, ⟨61, _⟩ => ⟨S20480x2048, .f32⟩
  | .hbm, ⟨62, _⟩ => ⟨S_, .i32⟩
  | .hbm, ⟨63, _⟩ => ⟨S_, .f32⟩
  | .hbm, ⟨64, _⟩ => ⟨S20480x2048, .i1⟩
  | .hbm, ⟨65, _⟩ => ⟨S20480x2048, .f32⟩
  | .hbm, ⟨66, _⟩ => ⟨S20480x2048, .f32⟩
  | .hbm, ⟨67, _⟩ => ⟨S20480x2048, .f32⟩
  | .hbm, ⟨68, _⟩ => ⟨S_, .i32⟩
  | .hbm, ⟨69, _⟩ => ⟨S20480x1, .i32⟩
  | .hbm, ⟨70, _⟩ => ⟨S20480x1, .i1⟩
  | .hbm, ⟨71, _⟩ => ⟨S20480x1, .i1⟩
  | .hbm, ⟨72, _⟩ => ⟨S1x1x2816x2048, .f32⟩
  | .hbm, ⟨73, _⟩ => ⟨S2816x2048, .f32⟩
  | .hbm, ⟨74, _⟩ => ⟨S20480x2048, .f32⟩
  | .hbm, ⟨75, _⟩ => ⟨S_, .i32⟩
  | .hbm, ⟨76, _⟩ => ⟨S_, .f32⟩
  | .hbm, ⟨77, _⟩ => ⟨S20480x2048, .i1⟩
  | .hbm, ⟨78, _⟩ => ⟨S20480x2048, .f32⟩
  | .hbm, ⟨79, _⟩ => ⟨S20480x2048, .f32⟩
  | .hbm, ⟨80, _⟩ => ⟨S20480x2048, .f32⟩
  | .hbm, ⟨81, _⟩ => ⟨S_, .i32⟩
  | .hbm, ⟨82, _⟩ => ⟨S20480x1, .i32⟩
  | .hbm, ⟨83, _⟩ => ⟨S20480x1, .i1⟩
  | .hbm, ⟨84, _⟩ => ⟨S20480x1, .i1⟩
  | .hbm, ⟨85, _⟩ => ⟨S1x1x2816x2048, .f32⟩
  | .hbm, ⟨86, _⟩ => ⟨S2816x2048, .f32⟩
  | .hbm, ⟨87, _⟩ => ⟨S20480x2048, .f32⟩
  | .hbm, ⟨88, _⟩ => ⟨S_, .i32⟩
  | .hbm, ⟨89, _⟩ => ⟨S_, .f32⟩
  | .hbm, ⟨90, _⟩ => ⟨S20480x2048, .i1⟩
  | .hbm, ⟨91, _⟩ => ⟨S20480x2048, .f32⟩
  | .hbm, ⟨92, _⟩ => ⟨S20480x2048, .f32⟩
  | .hbm, ⟨93, _⟩ => ⟨S20480x2048, .f32⟩
  | .hbm, ⟨94, _⟩ => ⟨S_, .i32⟩
  | .hbm, ⟨95, _⟩ => ⟨S20480x1, .i32⟩
  | .hbm, ⟨96, _⟩ => ⟨S20480x1, .i1⟩
  | .hbm, ⟨97, _⟩ => ⟨S20480x1, .i1⟩
  | .hbm, ⟨98, _⟩ => ⟨S1x1x2816x2048, .f32⟩
  | .hbm, ⟨99, _⟩ => ⟨S2816x2048, .f32⟩
  | .hbm, ⟨100, _⟩ => ⟨S20480x2048, .f32⟩
  | .hbm, ⟨101, _⟩ => ⟨S_, .i32⟩
  | .hbm, ⟨102, _⟩ => ⟨S_, .f32⟩
  | .hbm, ⟨103, _⟩ => ⟨S20480x2048, .i1⟩
  | .hbm, ⟨104, _⟩ => ⟨S20480x2048, .f32⟩
  | .hbm, ⟨105, _⟩ => ⟨S20480x2048, .f32⟩
  | .hbm, ⟨106, _⟩ => ⟨S20480x2048, .f32⟩
  | .hbm, ⟨107, _⟩ => ⟨S_, .i32⟩
  | .hbm, ⟨108, _⟩ => ⟨S20480x1, .i32⟩
  | .hbm, ⟨109, _⟩ => ⟨S20480x1, .i1⟩
  | .hbm, ⟨110, _⟩ => ⟨S20480x1, .i1⟩
  | .hbm, ⟨111, _⟩ => ⟨S1x1x2816x2048, .f32⟩
  | .hbm, ⟨112, _⟩ => ⟨S2816x2048, .f32⟩
  | .hbm, ⟨113, _⟩ => ⟨S20480x2048, .f32⟩
  | .hbm, ⟨114, _⟩ => ⟨S_, .i32⟩
  | .hbm, ⟨115, _⟩ => ⟨S_, .f32⟩
  | .hbm, ⟨116, _⟩ => ⟨S20480x2048, .i1⟩
  | .hbm, ⟨117, _⟩ => ⟨S20480x2048, .f32⟩
  | .hbm, ⟨118, _⟩ => ⟨S20480x2048, .f32⟩
  | .hbm, ⟨119, _⟩ => ⟨S20480x2048, .f32⟩
  | _, _ => ⟨S20480x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_c_0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_c_1 : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_v16 : Ref sig .tc := ⟨.hbm, 27, rfl⟩
abbrev main_v17 : Ref sig .tc := ⟨.hbm, 28, rfl⟩
abbrev main_c_2 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_c_3 : Ref sig .tc := ⟨.hbm, 36, rfl⟩
abbrev main_call1_v0 : Ref sig .tc := ⟨.hbm, 37, rfl⟩
abbrev main_call1_v1 : Ref sig .tc := ⟨.hbm, 38, rfl⟩
abbrev main_call1_v2 : Ref sig .tc := ⟨.hbm, 39, rfl⟩
abbrev main_v24 : Ref sig .tc := ⟨.hbm, 40, rfl⟩
abbrev main_v25 : Ref sig .tc := ⟨.hbm, 41, rfl⟩
abbrev main_c_4 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_c_5 : Ref sig .tc := ⟨.hbm, 49, rfl⟩
abbrev main_call2_v0 : Ref sig .tc := ⟨.hbm, 50, rfl⟩
abbrev main_call2_v1 : Ref sig .tc := ⟨.hbm, 51, rfl⟩
abbrev main_call2_v2 : Ref sig .tc := ⟨.hbm, 52, rfl⟩
abbrev main_v32 : Ref sig .tc := ⟨.hbm, 53, rfl⟩
abbrev main_v33 : Ref sig .tc := ⟨.hbm, 54, rfl⟩
abbrev main_c_6 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_c_7 : Ref sig .tc := ⟨.hbm, 62, rfl⟩
abbrev main_call3_v0 : Ref sig .tc := ⟨.hbm, 63, rfl⟩
abbrev main_call3_v1 : Ref sig .tc := ⟨.hbm, 64, rfl⟩
abbrev main_call3_v2 : Ref sig .tc := ⟨.hbm, 65, rfl⟩
abbrev main_v40 : Ref sig .tc := ⟨.hbm, 66, rfl⟩
abbrev main_v41 : Ref sig .tc := ⟨.hbm, 67, rfl⟩
abbrev main_c_8 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_c_9 : Ref sig .tc := ⟨.hbm, 75, rfl⟩
abbrev main_call4_v0 : Ref sig .tc := ⟨.hbm, 76, rfl⟩
abbrev main_call4_v1 : Ref sig .tc := ⟨.hbm, 77, rfl⟩
abbrev main_call4_v2 : Ref sig .tc := ⟨.hbm, 78, rfl⟩
abbrev main_v48 : Ref sig .tc := ⟨.hbm, 79, rfl⟩
abbrev main_v49 : Ref sig .tc := ⟨.hbm, 80, rfl⟩
abbrev main_c_10 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_c_11 : Ref sig .tc := ⟨.hbm, 88, rfl⟩
abbrev main_call5_v0 : Ref sig .tc := ⟨.hbm, 89, rfl⟩
abbrev main_call5_v1 : Ref sig .tc := ⟨.hbm, 90, rfl⟩
abbrev main_call5_v2 : Ref sig .tc := ⟨.hbm, 91, rfl⟩
abbrev main_v56 : Ref sig .tc := ⟨.hbm, 92, rfl⟩
abbrev main_v57 : Ref sig .tc := ⟨.hbm, 93, rfl⟩
abbrev main_c_12 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_c_13 : Ref sig .tc := ⟨.hbm, 101, rfl⟩
abbrev main_call6_v0 : Ref sig .tc := ⟨.hbm, 102, rfl⟩
abbrev main_call6_v1 : Ref sig .tc := ⟨.hbm, 103, rfl⟩
abbrev main_call6_v2 : Ref sig .tc := ⟨.hbm, 104, rfl⟩
abbrev main_v64 : Ref sig .tc := ⟨.hbm, 105, rfl⟩
abbrev main_v65 : Ref sig .tc := ⟨.hbm, 106, rfl⟩
abbrev main_c_14 : Ref sig .tc := ⟨.hbm, 107, rfl⟩
abbrev main_v66 : Ref sig .tc := ⟨.hbm, 108, rfl⟩
abbrev main_v67 : Ref sig .tc := ⟨.hbm, 109, rfl⟩
abbrev main_v68 : Ref sig .tc := ⟨.hbm, 110, rfl⟩
abbrev main_v69 : Ref sig .tc := ⟨.hbm, 111, rfl⟩
abbrev main_v70 : Ref sig .tc := ⟨.hbm, 112, rfl⟩
abbrev main_v71 : Ref sig .tc := ⟨.hbm, 113, rfl⟩
abbrev main_c_15 : Ref sig .tc := ⟨.hbm, 114, rfl⟩
abbrev main_call7_v0 : Ref sig .tc := ⟨.hbm, 115, rfl⟩
abbrev main_call7_v1 : Ref sig .tc := ⟨.hbm, 116, rfl⟩
abbrev main_call7_v2 : Ref sig .tc := ⟨.hbm, 117, rfl⟩
abbrev main_v72 : Ref sig .tc := ⟨.hbm, 118, rfl⟩
abbrev main_v73 : Ref sig .tc := ⟨.hbm, 119, rfl⟩

abbrev nD : Nat := 1
abbrev τ : Topo := Topo.v7x

variable {F : FTy → Type} [FloatOps F]
-- ==== Kernel9.lean ====
abbrev S8192x2048 : Shape := ⟨2, ![8192, 2048]⟩
abbrev S2x2048x2048 : Shape := ⟨3, ![2, 2048, 2048]⟩
abbrev S2x128 : Shape := ⟨2, ![2, 128]⟩
abbrev S1x128 : Shape := ⟨2, ![1, 128]⟩
abbrev S128 : Shape := ⟨1, ![128]⟩
abbrev S1024x2048 : Shape := ⟨2, ![1024, 2048]⟩
abbrev S1x2048x1024 : Shape := ⟨3, ![1, 2048, 1024]⟩
abbrev S1024x1024 : Shape := ⟨2, ![1024, 1024]⟩
abbrev S2048x1024 : Shape := ⟨2, ![2048, 1024]⟩
abbrev S1024x128 : Shape := ⟨2, ![1024, 128]⟩
abbrev S1024 : Shape := ⟨1, ![1024]⟩
abbrev S1024x1 : Shape := ⟨2, ![1024, 1]⟩

abbrev nBuf : Space → Nat
  | .hbm => 7
  | .vmem => 8
  | .smem => 0
  | _ => 0

abbrev bufTy : (tb : Table) → Fin (tcTables nBuf tb) → BufTy
  | .hbm, ⟨0, _⟩ => ⟨S8192x2048, .bf16⟩
  | .hbm, ⟨1, _⟩ => ⟨S2x2048x2048, .f32⟩
  | .hbm, ⟨2, _⟩ => ⟨S2x128, .f32⟩
  | .hbm, ⟨3, _⟩ => ⟨S1x128, .f32⟩
  | .hbm, ⟨4, _⟩ => ⟨S128, .f32⟩
  | .hbm, ⟨5, _⟩ => ⟨S1x128, .f32⟩
  | .hbm, ⟨6, _⟩ => ⟨S8192x2048, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .f32⟩
  | .local _ .vmem, ⟨3, _⟩ => ⟨S1x2048x1024, .f32⟩
  | .local _ .vmem, ⟨4, _⟩ => ⟨S1x128, .f32⟩
  | .local _ .vmem, ⟨5, _⟩ => ⟨S1024x1024, .bf16⟩
  | .local _ .vmem, ⟨6, _⟩ => ⟨S1024x1024, .bf16⟩
  | .local _ .vmem, ⟨7, _⟩ => ⟨S2048x1024, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![c0_i32_0.toNat, c0_i32_1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference9Ideal.lean ====
abbrev S8192x2048 : Shape := ⟨2, ![8192, 2048]⟩
abbrev S2x2048x2048 : Shape := ⟨3, ![2, 2048, 2048]⟩
abbrev S2x128 : Shape := ⟨2, ![2, 128]⟩
abbrev S1x2048x2048 : Shape := ⟨3, ![1, 2048, 2048]⟩
abbrev S2048x2048 : Shape := ⟨2, ![2048, 2048]⟩
abbrev S8192x16x128 : Shape := ⟨3, ![8192, 16, 128]⟩
abbrev S1x128 : Shape := ⟨2, ![1, 128]⟩
abbrev S128 : Shape := ⟨1, ![128]⟩
abbrev S_ : Shape := ⟨0, ![]⟩
abbrev S8192x16 : Shape := ⟨2, ![8192, 16]⟩
abbrev S8192x16x1 : Shape := ⟨3, ![8192, 16, 1]⟩
abbrev S1x1x128 : Shape := ⟨3, ![1, 1, 128]⟩

abbrev nBuf : Space → Nat
  | .hbm => 28
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2x2048x2048, .f32⟩
  | .hbm, ⟨2, _⟩ => ⟨S2x128, .f32⟩
  | .hbm, ⟨3, _⟩ => ⟨S8192x2048, .f32⟩
  | .hbm, ⟨4, _⟩ => ⟨S1x2048x2048, .f32⟩
  | .hbm, ⟨5, _⟩ => ⟨S2048x2048, .f32⟩
  | .hbm, ⟨6, _⟩ => ⟨S8192x2048, .f32⟩
  | .hbm, ⟨7, _⟩ => ⟨S8192x16x128, .f32⟩
  | .hbm, ⟨8, _⟩ => ⟨S1x128, .f32⟩
  | .hbm, ⟨9, _⟩ => ⟨S128, .f32⟩
  | .hbm, ⟨10, _⟩ => ⟨S8192x16x128, .f32⟩
  | .hbm, ⟨11, _⟩ => ⟨S_, .f32⟩
  | .hbm, ⟨12, _⟩ => ⟨S8192x16, .f32⟩
  | .hbm, ⟨13, _⟩ => ⟨S8192x16x1, .f32⟩
  | .hbm, ⟨14, _⟩ => ⟨S_, .f32⟩
  | .hbm, ⟨15, _⟩ => ⟨S8192x16x1, .f32⟩
  | .hbm, ⟨16, _⟩ => ⟨S8192x16x1, .f32⟩
  | .hbm, ⟨17, _⟩ => ⟨S_, .f32⟩
  | .hbm, ⟨18, _⟩ => ⟨S8192x16x1, .f32⟩
  | .hbm, ⟨19, _⟩ => ⟨S8192x16x1, .f32⟩
  | .hbm, ⟨20, _⟩ => ⟨S8192x16x1, .f32⟩
  | .hbm, ⟨21, _⟩ => ⟨S8192x16x128, .f32⟩
  | .hbm, ⟨22, _⟩ => ⟨S8192x16x128, .f32⟩
  | .hbm, ⟨23, _⟩ => ⟨S1x1x128, .f32⟩
  | .hbm, ⟨24, _⟩ => ⟨S8192x16x128, .f32⟩
  | .hbm, ⟨25, _⟩ => ⟨S8192x16x128, .f32⟩
  | .hbm, ⟨26, _⟩ => ⟨S8192x2048, .f32⟩
  | .hbm, ⟨27, _⟩ => ⟨S8192x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩

abbrev nD : Nat := 1
abbrev τ : Topo := Topo.v7x

variable {F : FTy → Type} [FloatOps F]
-- ==== Kernel10.lean ====
abbrev S8192x2048 : Shape := ⟨2, ![8192, 2048]⟩
abbrev S2048x4112 : Shape := ⟨2, ![2048, 4112]⟩
abbrev S128 : Shape := ⟨1, ![128]⟩
abbrev S1x128 : Shape := ⟨2, ![1, 128]⟩
abbrev S1024x2048 : Shape := ⟨2, ![1024, 2048]⟩
abbrev S2048x1024 : Shape := ⟨2, ![2048, 1024]⟩
abbrev S1024x1024 : Shape := ⟨2, ![1024, 1024]⟩
abbrev S1024x128 : Shape := ⟨2, ![1024, 128]⟩
abbrev S1024 : Shape := ⟨1, ![1024]⟩
abbrev S1024x1 : Shape := ⟨2, ![1024, 1]⟩

abbrev nBuf : Space → Nat
  | .hbm => 6
  | .vmem => 10
  | .smem => 0
  | _ => 0

abbrev bufTy : (tb : Table) → Fin (tcTables nBuf tb) → BufTy
  | .hbm, ⟨0, _⟩ => ⟨S8192x2048, .bf16⟩
  | .hbm, ⟨1, _⟩ => ⟨S2048x4112, .f32⟩
  | .hbm, ⟨2, _⟩ => ⟨S128, .f32⟩
  | .hbm, ⟨3, _⟩ => ⟨S1x128, .f32⟩
  | .hbm, ⟨4, _⟩ => ⟨S8192x2048, .f32⟩
  | .hbm, ⟨5, _⟩ => ⟨S8192x2048, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .f32⟩
  | .local _ .vmem, ⟨3, _⟩ => ⟨S2048x1024, .f32⟩
  | .local _ .vmem, ⟨4, _⟩ => ⟨S1x128, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .bf16⟩
  | .local _ .vmem, ⟨8, _⟩ => ⟨S1024x1024, .bf16⟩
  | .local _ .vmem, ⟨9, _⟩ => ⟨S2048x1024, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference10Ideal.lean ====
abbrev S8192x2048 : Shape := ⟨2, ![8192, 2048]⟩
abbrev S2048x4112 : Shape := ⟨2, ![2048, 4112]⟩
abbrev S128 : Shape := ⟨1, ![128]⟩
abbrev S2048x2048 : Shape := ⟨2, ![2048, 2048]⟩
abbrev S8192x16x128 : Shape := ⟨3, ![8192, 16, 128]⟩
abbrev S_ : Shape := ⟨0, ![]⟩
abbrev S8192x16 : Shape := ⟨2, ![8192, 16]⟩
abbrev S8192x16x1 : Shape := ⟨3, ![8192, 16, 1]⟩
abbrev S1x1x128 : Shape := ⟨3, ![1, 1, 128]⟩

abbrev nBuf : Space → Nat
  | .hbm => 25
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x4112, .f32⟩
  | .hbm, ⟨2, _⟩ => ⟨S128, .f32⟩
  | .hbm, ⟨3, _⟩ => ⟨S8192x2048, .f32⟩
  | .hbm, ⟨4, _⟩ => ⟨S2048x2048, .f32⟩
  | .hbm, ⟨5, _⟩ => ⟨S8192x2048, .f32⟩
  | .hbm, ⟨6, _⟩ => ⟨S8192x16x128, .f32⟩
  | .hbm, ⟨7, _⟩ => ⟨S8192x16x128, .f32⟩
  | .hbm, ⟨8, _⟩ => ⟨S_, .f32⟩
  | .hbm, ⟨9, _⟩ => ⟨S8192x16, .f32⟩
  | .hbm, ⟨10, _⟩ => ⟨S8192x16x1, .f32⟩
  | .hbm, ⟨11, _⟩ => ⟨S_, .f32⟩
  | .hbm, ⟨12, _⟩ => ⟨S8192x16x1, .f32⟩
  | .hbm, ⟨13, _⟩ => ⟨S8192x16x1, .f32⟩
  | .hbm, ⟨14, _⟩ => ⟨S_, .f32⟩
  | .hbm, ⟨15, _⟩ => ⟨S8192x16x1, .f32⟩
  | .hbm, ⟨16, _⟩ => ⟨S8192x16x1, .f32⟩
  | .hbm, ⟨17, _⟩ => ⟨S8192x16x1, .f32⟩
  | .hbm, ⟨18, _⟩ => ⟨S8192x16x128, .f32⟩
  | .hbm, ⟨19, _⟩ => ⟨S8192x16x128, .f32⟩
  | .hbm, ⟨20, _⟩ => ⟨S1x1x128, .f32⟩
  | .hbm, ⟨21, _⟩ => ⟨S8192x16x128, .f32⟩
  | .hbm, ⟨22, _⟩ => ⟨S8192x16x128, .f32⟩
  | .hbm, ⟨23, _⟩ => ⟨S8192x2048, .f32⟩
  | .hbm, ⟨24, _⟩ => ⟨S8192x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩

abbrev nD : Nat := 1
abbrev τ : Topo := Topo.v7x

variable {F : FTy → Type} [FloatOps F]
-- ==== Proof.FoxMath.lean ====
/- The arithmetic of one row of causal softmax attention, over the extended reals.

A row has one score per key, each a real number or `⊥` (a key the mask hides), at least one of them real, and one
value per key (anything at all). The reference subtracts the largest score, exponentiates, divides by the sum, and
adds up the values with those weights. The kernel looks only at the visible keys, which it splits into two
families (the diagonal block and everything left of it), and divides once at the end. `row_split` says that the
two are equal. -/
module

public import Idealize.ShloMosaic.PureOps.Ideal
public import Mathlib.Data.EReal.Operations

@[expose] public section

noncomputable section

namespace Cert.Fox

open Idealize.ShloMosaic

/-- A score that the mask hides, or a real number. -/
def Score (x : EReal) : Prop := x = ⊥ ∨ ∃ r : ℝ, x = r

/-- The largest of finitely many numbers, as a fold from `⊥`. -/
theorem le_foldMax {ι : Type} [Fintype ι] (s : ι → EReal) (i : ι) : s i ≤ Finset.univ.fold max ⊥ s :=
  (Finset.le_fold_max _).2 (.inr ⟨i, Finset.mem_univ i, le_rfl⟩)

theorem foldMax_le {ι : Type} [Fintype ι] {s : ι → EReal} {b : EReal} (h : ∀ i, s i ≤ b) :
    Finset.univ.fold max ⊥ s ≤ b :=
  (Finset.fold_max_le _).2 ⟨bot_le, fun i _ => h i⟩

/-- The largest of scores is a score. -/
theorem score_foldMax {ι : Type} [Fintype ι] {s : ι → EReal} (h : ∀ i, Score (s i)) :
    Score (Finset.univ.fold max ⊥ s) := by
  induction (Finset.univ : Finset ι) using Finset.cons_induction with
  | empty => exact .inl rfl
  | cons i S hi ih => rw [Finset.fold_cons]; rcases max_choice (s i) (Finset.fold max ⊥ s S) with e | e <;> rw [e] <;> [exact h i; exact ih]

/-- The largest of scores one of which is real is real. -/
theorem foldMax_real {ι : Type} [Fintype ι] {s : ι → EReal} (h : ∀ i, Score (s i)) (i : ι) {r : ℝ} (hi : s i = r) :
    ∃ M : ℝ, Finset.univ.fold max ⊥ s = M := by
  rcases score_foldMax h with e | e
  · have := le_foldMax s i
    rw [e, hi] at this
    exact absurd (le_bot_iff.1 this) (EReal.coe_ne_bot r)
  · exact e

/-- The largest over two families that take all the real values of a third (which is `⊥` elsewhere). -/
theorem foldMax_split {ι κ ν : Type} [Fintype ι] [Fintype κ] [Fintype ν] (s : ν → EReal) (a : ι ⊕ κ → ν)
    (hs : ∀ c, c ∉ Set.range a → s c = ⊥) :
    Finset.univ.fold max ⊥ s
      = max (Finset.univ.fold max ⊥ fun i => s (a (.inl i))) (Finset.univ.fold max ⊥ fun k => s (a (.inr k))) := by
  refine le_antisymm (foldMax_le fun c => ?_) (max_le (foldMax_le fun i => le_foldMax s _) (foldMax_le fun k => le_foldMax s _))
  by_cases hc : c ∈ Set.range a
  · obtain ⟨i | k, rfl⟩ := hc
    · exact (le_foldMax (fun i => s (a (.inl i))) i).trans (le_max_left _ _)
    · exact (le_foldMax (fun k => s (a (.inr k))) k).trans (le_max_right _ _)
  · rw [hs c hc]; exact bot_le

/-- The exponential of a score less a real is a nonnegative real. -/
theorem exp_score {x : EReal} (h : Score x) (M : ℝ) : ∃ p : ℝ, 0 ≤ p ∧ Ideal.exp (x - M) = p := by
  rcases h with rfl | ⟨r, rfl⟩
  · exact ⟨0, le_rfl, by simp⟩
  · exact ⟨Real.exp (r - M), (Real.exp_pos _).le, by rw [← EReal.coe_sub, Ideal.exp_coe]⟩

/-- The exponential of a hidden score is zero. -/
theorem exp_hidden (M : ℝ) : Ideal.exp ((⊥ : EReal) - M) = 0 := by simp

/-- A finite sum times a nonnegative real, term by term: no two terms need be summable apart. -/
theorem sum_mul_coe {ι : Type} (S : Finset ι) (f : ι → EReal) {r : ℝ} (hr : 0 ≤ r) :
    (∑ i ∈ S, f i) * (r : EReal) = ∑ i ∈ S, f i * (r : EReal) := by
  classical
  induction S using Finset.induction_on with
  | empty => simp
  | insert i S hi ih =>
    rw [Finset.sum_insert hi, Finset.sum_insert hi, ← ih,
      EReal.right_distrib_of_nonneg_of_ne_top (by exact_mod_cast hr) (EReal.coe_ne_top r)]

/-- One row of the reference: the values weighted by the softmax of the scores. -/
def row {ν : Type} [Fintype ν] (s v : ν → EReal) : EReal :=
  ∑ c, v c * Ideal.div (Ideal.exp (s c - max ⊥ (Finset.univ.fold max ⊥ s)))
    (∑ c', Ideal.exp (s c' - max ⊥ (Finset.univ.fold max ⊥ s)))

/-- One row of the kernel: over the diagonal block's keys and those left of it, divided once. -/
def rowSplit {ι κ : Type} [Fintype ι] [Fintype κ] (sd vd : ι → EReal) (so vo : κ → EReal) : EReal :=
  Ideal.div
    ((∑ i, Ideal.exp (sd i - max (Finset.univ.fold max ⊥ sd) (Finset.univ.fold max ⊥ so)) * vd i)
      + ∑ k, Ideal.exp (so k - max (Finset.univ.fold max ⊥ sd) (Finset.univ.fold max ⊥ so)) * vo k)
    ((∑ i, Ideal.exp (sd i - max (Finset.univ.fold max ⊥ sd) (Finset.univ.fold max ⊥ so)))
      + ∑ k, Ideal.exp (so k - max (Finset.univ.fold max ⊥ sd) (Finset.univ.fold max ⊥ so)))

/-- THE ROW: the split row is the reference's row, when the two families enumerate (once each) keys outside of
    which every score is hidden, and some score is real. -/
theorem row_split {ι κ ν : Type} [Fintype ι] [Fintype κ] [Fintype ν] (s v : ν → EReal) (a : ι ⊕ κ → ν)
    (ha : Function.Injective a) (hs : ∀ c, c ∉ Set.range a → s c = ⊥) (hsc : ∀ c, Score (s c))
    (c₀ : ν) (r₀ : ℝ) (h₀ : s c₀ = r₀) :
    rowSplit (fun i => s (a (.inl i))) (fun i => v (a (.inl i))) (fun k => s (a (.inr k))) (fun k => v (a (.inr k)))
      = row s v := by
  obtain ⟨M, hM⟩ := foldMax_real hsc c₀ h₀
  unfold rowSplit row
  rw [← foldMax_split s a hs, max_eq_right bot_le, hM]
  have hden : (∑ c, Ideal.exp (s c - (M : EReal)))
      = (∑ i, Ideal.exp (s (a (.inl i)) - (M : EReal))) + ∑ k, Ideal.exp (s (a (.inr k)) - (M : EReal)) := by
    rw [← Fintype.sum_sum_type (fun x => Ideal.exp (s (a x) - (M : EReal)))]
    exact (Fintype.sum_of_injective a ha _ _ (fun c hc => by rw [hs c hc]; exact exp_hidden M) fun _ => rfl).symm
  have hnum : (∑ c, v c * Ideal.exp (s c - (M : EReal)))
      = (∑ i, Ideal.exp (s (a (.inl i)) - (M : EReal)) * v (a (.inl i)))
        + ∑ k, Ideal.exp (s (a (.inr k)) - (M : EReal)) * v (a (.inr k)) := by
    rw [← Fintype.sum_sum_type (fun x => Ideal.exp (s (a x) - (M : EReal)) * v (a x))]
    exact (Fintype.sum_of_injective a ha _ (fun c => v c * Ideal.exp (s c - (M : EReal)))
      (fun c hc => by rw [hs c hc, exp_hidden, mul_zero]) fun _ => mul_comm _ _).symm
  rw [← hden, ← hnum]
  choose p hp0 hp using fun c => exp_score (hsc c) M
  have hpos : 0 < p c₀ := by
    have h := hp c₀
    rw [h₀, ← EReal.coe_sub, Ideal.exp_coe] at h
    rw [← EReal.coe_injective h]; exact Real.exp_pos _
  have hsum : (∑ c, Ideal.exp (s c - (M : EReal))) = ((∑ c, p c : ℝ) : EReal) := by
    simp only [hp]
    induction (Finset.univ : Finset ν) using Finset.cons_induction with
    | empty => simp
    | cons c S hc ih => rw [Finset.sum_cons, Finset.sum_cons, ih, EReal.coe_add]
  have hl : 0 < ∑ c, p c := Finset.sum_pos' (fun c _ => hp0 c) ⟨c₀, Finset.mem_univ _, hpos⟩
  rw [hsum, Ideal.div_coe hl.ne', sum_mul_coe _ _ (by positivity)]
  refine Finset.sum_congr rfl fun c _ => ?_
  rw [Ideal.div_coe hl.ne', mul_assoc]

/-- The row with no keys left of the diagonal block. -/
theorem row_diag {ι ν : Type} [Fintype ι] [Fintype ν] (s v : ν → EReal) (a : ι → ν)
    (ha : Function.Injective a) (hs : ∀ c, c ∉ Set.range a → s c = ⊥) (hsc : ∀ c, Score (s c))
    (c₀ : ν) (r₀ : ℝ) (h₀ : s c₀ = r₀) :
    Ideal.div (∑ i, Ideal.exp (s (a i) - Finset.univ.fold max ⊥ fun i => s (a i)) * v (a i))
      (∑ i, Ideal.exp (s (a i) - Finset.univ.fold max ⊥ fun i => s (a i))) = row s v := by
  have h := row_split (κ := Empty) s v (Sum.elim a Empty.elim)
    (by rintro (x | x) (y | y) h <;> first | exact x.elim | exact y.elim | exact congrArg _ (ha h))
    (fun c hc => hs c fun ⟨i, hi⟩ => hc ⟨.inl i, hi⟩) hsc c₀ r₀ h₀
  rw [← h]
  simp [rowSplit]

/-- Picking one entry of a row by adding up the row with every other entry put to zero. -/
theorem sum_pick {n : ℕ} (h : Fin n) (P : Fin n → Prop) [DecidablePred P] (hP : ∀ k, P k ↔ k = h) (x : Fin n → EReal) :
    (∑ k, if P k then x k else 0) = x h := by
  rw [Finset.sum_eq_single h (fun k _ hk => if_neg fun e => hk ((hP k).1 e)) (fun e => absurd (Finset.mem_univ h) e),
    if_pos ((hP h).2 rfl)]

/-- A finite sum of reals is real. -/
theorem sum_real {ι : Type} (S : Finset ι) (f : ι → EReal) (h : ∀ i, ∃ r : ℝ, f i = r) : ∃ r : ℝ, ∑ i ∈ S, f i = r := by
  choose g hg using h
  refine ⟨∑ i ∈ S, g i, ?_⟩
  simp only [hg]
  induction S using Finset.cons_induction with
  | empty => simp
  | cons c S hc ih => rw [Finset.sum_cons, Finset.sum_cons, ih, EReal.coe_add]

/-- The score of a query and a key, their products and log forget sums real, is real. -/
theorem score_real {n : ℕ} (q k : Fin n → EReal) (hq : ∀ d, ∃ r : ℝ, q d = r) (hk : ∀ d, ∃ r : ℝ, k d = r)
    {σ f g : EReal} (hσ : ∃ r : ℝ, σ = r) (hf : ∃ r : ℝ, f = r) (hg : ∃ r : ℝ, g = r) :
    ∃ r : ℝ, (∑ d, q d * k d) * σ + f - g = r := by
  obtain ⟨x, hx⟩ := sum_real Finset.univ (fun d => q d * k d) fun d => by
    obtain ⟨a, ha⟩ := hq d; obtain ⟨b, hb⟩ := hk d
    exact ⟨a * b, by rw [ha, hb, EReal.coe_mul]⟩
  obtain ⟨s, rfl⟩ := hσ; obtain ⟨f, rfl⟩ := hf; obtain ⟨g, rfl⟩ := hg
  exact ⟨x * s + f - g, by rw [hx]; push_cast; rfl⟩

end Cert.Fox

end
-- ==== Proof.FoxReference.lean ====
/- The reference of the forgetting attention, read at one entry of its result: the row of `FoxMath` at the scores of
one query of one head against the 2048 keys of its sequence. -/
module

public import proofs.«01_k».proof.Proof.Gen.ReferenceIdeal.Run
public import proofs.«01_k».proof.Proof.FoxMath
public import Idealize.ShloMosaic.Lib.Pipeline.ValueKit
public import Idealize.ShloMosaic.Lib.WordCmp

@[expose] public section

set_option maxRecDepth 16384

noncomputable section

namespace Cert.Fox

open Idealize.ShloMosaic Idealize.ShloMosaic.TcCoe

/-- The scale of the scores, `128 ^ (-1/2)` rounded to `f32`. -/
abbrev scale : EReal := Ideal.ofBits .f32 0x3DB504F3#32

/-- The word of minus infinity. -/
theorem negInf : Ideal.ofBits .f32 0xFF800000#32 = (⊥ : EReal) := by simp [Ideal.ofBits, Ideal.ieee]

/-- A choice by a comparison of two small words is the choice by the comparison of the numbers. -/
theorem select_sle {α : Type} {a b : ℕ} (ha : a < 2 ^ 31) (hb : b < 2 ^ 31) (x y : α) :
    Scalar.select (IntOp.cmpi .sle (BitVec.ofNat 32 a) (BitVec.ofNat 32 b)) x y = if a ≤ b then x else y := by
  rw [WordCmp.cmpi_sle_ofNat (by simpa using ha) (by simpa using hb)]; by_cases h : a ≤ b <;> simp [h, Scalar.select]

/-- The host's maximum along the last axis of a rank-4 array, at an index. -/
theorem hostMax_at {n0 n1 n2 n3 : ℕ} {u : Shape} (x : FVec Ideal ⟨4, ![n0, n1, n2, n3]⟩ .f32) (init : FVec Ideal u .f32)
    (h : (⟨4, ![n0, n1, n2, n3]⟩ : Shape).ReducesTo [3] ⟨3, ![n0, n1, n2]⟩) (hu : 0 < u.numel)
    (a : Fin n0) (b : Fin n1) (c : Fin n2) :
    Host.reduce FloatOps.maximumf x init h hu (ix3 a b c)
      = (Finset.univ : Finset (Fin n3)).fold max (init (Shape.Idx.first hu)) fun k => x (ix4 a b c k) := by
  rw [show (FloatOps.maximumf : Ideal .f32 → Ideal .f32 → Ideal .f32) = (max : EReal → EReal → EReal) from rfl,
    Host.reduce_eq_fold, Shape.ReducesTo.fold_fiber_r4_a3]
  rfl

variable (Q K V : FVec Ideal Cert.ReferenceIdeal.S8192x2048 .bf16) (G : FVec Ideal Cert.ReferenceIdeal.S8192x16 .f32)

/-- The score of query row `R` of head `h` against the key row `P`, mask apart. -/
def rawScore (h : Fin 16) (R P : Fin 8192) : EReal :=
  (∑ d : Fin 128, Q (ix2 R ⟨h.val * 128 + d.val, by omega⟩) * K (ix2 P ⟨h.val * 128 + d.val, by omega⟩)) * scale
    + G (ix2 R h) - G (ix2 P h)

/-- The row of key `c` of the sequence that row `R` lies in. -/
def keyRow (R : Fin 8192) (c : Fin 2048) : Fin 8192 := ⟨R.val / 2048 * 2048 + c.val, by omega⟩

/-- The score of query row `R` of head `h` against key `c` of its sequence, causally masked. -/
def score (h : Fin 16) (R : Fin 8192) (c : Fin 2048) : EReal :=
  if c.val ≤ R.val % 2048 then rawScore Q K G h R (keyRow R c) else ⊥

/-- The reference at row `R` and column `C`. -/
def spec (R : Fin 8192) (C : Fin 2048) : EReal :=
  row (score Q K G ⟨C.val / 128, by omega⟩ R) fun c => V (ix2 (keyRow R c) C)

open Cert.ReferenceIdeal Cert.ReferenceIdeal.Gen

/-- The reference's causal mask: whether the key's number is at most the query's. -/
def mask4 : IVec S4x16x2048x2048 1 :=
  broadcastInDim S4x16x2048x2048 ![2, 3] bcast_S2048x2048_S4x16x2048x2048_2_3 (cmpi .sle (broadcastInDim S2048x2048 ![0, 1] bcast_S1x2048_S2048x2048_0_1 (broadcastInDim S1x2048 ![1] bcast_S2048_S1x2048_1 (iotaInDim S2048 32 0))) (broadcastInDim S2048x2048 ![0, 1] bcast_S2048x1_S2048x2048_0_1 (broadcastInDim S2048x1 ![0] bcast_S2048_S2048x1_0 (iotaInDim S2048 32 0))))

/-- The reference's products of queries and keys: batch, head, query, key. -/
def products4 : FVec Ideal S4x16x2048x2048 .f32 :=
  Host.dotGeneral dot_S4x2048x16x128_S4x2048x16x128_S4x16x2048x2048_3_3_1_1_02_02 none (shapeCast _ (extf .f32 Q bitsLt_bf16_f32) shapeCasts_S8192x2048_S4x2048x16x128) (shapeCast _ (extf .f32 K bitsLt_bf16_f32) shapeCasts_S8192x2048_S4x2048x16x128)

/-- The log forget sums, batch, head, position. -/
def forget3 : FVec Ideal S4x16x2048 .f32 :=
  transpose S4x16x2048 [0, 2, 1] (shapeCast _ G shapeCasts_S8192x16_S4x2048x16) transposes_S4x2048x16_S4x16x2048_0_2_1

/-- The reference's masked scores, as it computes them. -/
def scores4 : FVec Ideal S4x16x2048x2048 .f32 :=
  select mask4
    (subf (addf (mulf (products4 Q K) (broadcastInDim S4x16x2048x2048 ![] bcast_S_S4x16x2048x2048 (constant S_ .f32 0x3DB504F3#32)))
      (broadcastInDim S4x16x2048x2048 ![0, 1, 2, 3] bcast_S4x16x2048x1_S4x16x2048x2048_0_1_2_3 (broadcastInDim S4x16x2048x1 ![0, 1, 2] bcast_S4x16x2048_S4x16x2048x1_0_1_2 (forget3 G))))
      (broadcastInDim S4x16x2048x2048 ![0, 1, 2, 3] bcast_S4x16x1x2048_S4x16x2048x2048_0_1_2_3 (broadcastInDim S4x16x1x2048 ![0, 1, 3] bcast_S4x16x2048_S4x16x1x2048_0_1_3 (forget3 G))))
    (broadcastInDim S4x16x2048x2048 ![] bcast_S_S4x16x2048x2048 (constant S_ .f32 0xFF800000#32))

variable (s : FVec Ideal S4x16x2048x2048 .f32)

/-- Each row's largest score. -/
def max3 : FVec Ideal S4x16x2048 .f32 :=
  Host.reduce FloatOps.maximumf s (constant S_ .f32 0xFF800000#32) reducesTo_S4x16x2048x2048_S4x16x2048_d3 h_S_

/-- A tensor's sums along the keys. -/
def sum3 : FVec Ideal S4x16x2048 .f32 :=
  Host.reduceAdd s (constant S_ .f32 0x00000000#32) reducesTo_S4x16x2048x2048_S4x16x2048_d3 h_S_

/-- A number per row, put back along the keys. -/
def spread4 (x : FVec Ideal S4x16x2048 .f32) : FVec Ideal S4x16x2048x2048 .f32 :=
  broadcastInDim S4x16x2048x2048 ![0, 1, 2, 3] bcast_S4x16x2048x1_S4x16x2048x2048_0_1_2_3 (broadcastInDim S4x16x2048x1 ![0, 1, 2] bcast_S4x16x2048_S4x16x2048x1_0_1_2 x)

/-- The exponentials of the scores less their row's largest. -/
def exps4 : FVec Ideal S4x16x2048x2048 .f32 :=
  Host.exp (subf s (spread4 (maximumf (broadcastInDim S4x16x2048 ![] bcast_S_S4x16x2048 (constant S_ .f32 0xFF800000#32)) (max3 s))))

/-- The values weighted by a tensor of weights, back in the arrays' layout. -/
def weigh (p : FVec Ideal S4x16x2048x2048 .f32) : FVec Ideal S8192x2048 .bf16 :=
  truncf .bf16 (shapeCast _ (transpose S4x2048x16x128 [0, 3, 1, 2] (Host.dotGeneral dot_S4x2048x16x128_S4x16x2048x2048_S4x16x128x2048_1_3_3_2_02_01 none (shapeCast _ (extf .f32 V bitsLt_bf16_f32) shapeCasts_S8192x2048_S4x2048x16x128) p) transposes_S4x16x128x2048_S4x2048x16x128_0_3_1_2) shapeCasts_S4x2048x16x128_S8192x2048) bitsLt_bf16_f32

/-- The reference: the values weighted by the softmax of the scores. -/
def reference4 : FVec Ideal S8192x2048 .bf16 :=
  weigh V (Host.divf (exps4 s) (spread4 (sum3 (exps4 s))))

theorem mask4_at (b : Fin 4) (h : Fin 16) (q c : Fin 2048) :
    mask4 (ix4 b h q c) = IntOp.cmpi .sle (BitVec.ofNat 32 c.val) (BitVec.ofNat 32 q.val) := by
  pointwise [mask4]

theorem products4_at (b : Fin 4) (h : Fin 16) (q c : Fin 2048) :
    products4 Q K (ix4 b h q c) = ∑ d : Fin 128,
      Q (ix2 ⟨b.val * 2048 + q.val, by omega⟩ ⟨h.val * 128 + d.val, by omega⟩)
        * K (ix2 ⟨b.val * 2048 + c.val, by omega⟩ ⟨h.val * 128 + d.val, by omega⟩) := by
  pointwise [products4]

theorem forget3_at (b : Fin 4) (h : Fin 16) (q : Fin 2048) :
    forget3 G (ix3 b h q) = G (ix2 ⟨b.val * 2048 + q.val, by omega⟩ h) := by
  pointwise [forget3]

theorem scores4_at (b : Fin 4) (h : Fin 16) (q c : Fin 2048) :
    scores4 Q K G (ix4 b h q c) = if c.val ≤ q.val then
      rawScore Q K G h ⟨b.val * 2048 + q.val, by omega⟩ ⟨b.val * 2048 + c.val, by omega⟩ else ⊥ := by
  pointwise [scores4]
  rw [mask4_at, select_sle (by omega) (by omega), negInf, products4_at, forget3_at, forget3_at, rawScore]

theorem max3_at (b : Fin 4) (h : Fin 16) (q : Fin 2048) :
    max3 s (ix3 b h q) = Finset.univ.fold max ⊥ fun c => s (ix4 b h q c) := by
  have ec : constant (F := Ideal) S_ .f32 0xFF800000#32 (Shape.Idx.first h_S_) = (⊥ : EReal) := negInf
  unfold max3
  rw [hostMax_at, ec]

theorem sum3_at (b : Fin 4) (h : Fin 16) (q : Fin 2048) : sum3 s (ix3 b h q) = ∑ c, s (ix4 b h q c) := by
  pointwise [sum3]

theorem spread4_at (x : FVec Ideal S4x16x2048 .f32) (b : Fin 4) (h : Fin 16) (q c : Fin 2048) :
    spread4 x (ix4 b h q c) = x (ix3 b h q) := by
  pointwise [spread4]

theorem exps4_at (b : Fin 4) (h : Fin 16) (q c : Fin 2048) :
    exps4 s (ix4 b h q c) = Ideal.exp (s (ix4 b h q c) - max ⊥ (Finset.univ.fold max ⊥ fun c => s (ix4 b h q c))) := by
  have e (y z : FVec Ideal S4x16x2048x2048 .f32) (j : S4x16x2048x2048.Idx) : Host.exp (subf y z) j = Ideal.exp (y j - z j) := rfl
  have em (y z : FVec Ideal S4x16x2048 .f32) (j : S4x16x2048.Idx) : maximumf y z j = max (y j) (z j) := rfl
  have ec (j : S4x16x2048.Idx) : broadcastInDim S4x16x2048 ![] bcast_S_S4x16x2048 (constant (F := Ideal) S_ .f32 0xFF800000#32) j = (⊥ : EReal) := negInf
  unfold exps4
  rw [e, spread4_at, em, ec, max3_at]

theorem weigh_at (p : FVec Ideal S4x16x2048x2048 .f32) (R : Fin 8192) (C : Fin 2048) :
    weigh V p (ix2 R C) = ∑ c : Fin 2048, V (ix2 (keyRow R c) C)
      * p (ix4 ⟨R.val / 2048, by omega⟩ ⟨C.val / 128, by omega⟩ ⟨R.val % 2048, by omega⟩ c) := by
  pointwise [weigh]
  rfl

theorem reference_at (R : Fin 8192) (C : Fin 2048) :
    reference4 V (scores4 Q K G) (ix2 R C) = spec Q K V G R C := by
  have hs (c : Fin 2048) : scores4 Q K G (ix4 ⟨R.val / 2048, by omega⟩ ⟨C.val / 128, by omega⟩ ⟨R.val % 2048, by omega⟩ c)
      = score Q K G ⟨C.val / 128, by omega⟩ R c := by
    rw [scores4_at]
    unfold score
    have hR : (⟨R.val / 2048 * 2048 + R.val % 2048, by omega⟩ : Fin 8192) = R := Fin.ext (Nat.div_add_mod' _ _)
    simp only [hR]
    rfl
  have hd (x y : FVec Ideal S4x16x2048x2048 .f32) (j : S4x16x2048x2048.Idx) : Host.divf x y j = Ideal.div (x j) (y j) := rfl
  unfold reference4 spec row
  rw [weigh_at]
  simp only [hd, spread4_at, sum3_at, exps4_at, hs]

/-- What the reference's program leaves is this reference. -/
theorem result (m : (ℓ : Loc nD τ sig) → Buf (Elt Ideal) ℓ) (c : Dev nD) :
    Cert.ReferenceIdeal.Value.res_main_v38 m c
      = reference4 (m ((c.tc : Thread nD τ).loc main_arg2))
          (scores4 (m ((c.tc : Thread nD τ).loc main_arg0)) (m ((c.tc : Thread nD τ).loc main_arg1)) (m ((c.tc : Thread nD τ).loc main_arg3))) := by
  unfold Cert.ReferenceIdeal.Value.res_main_v38
  rfl

end Cert.Fox

end
-- ==== Proof.FoxBlock.lean ====
/- The kernel body of the forgetting attention, read at one entry of the block of 512 query rows of one head that a
grid point computes: the split row of `FoxMath`, at scores read off the point's blocks. There are four forms of
the body, by the number of key blocks left of the diagonal (none, one, two or three). -/
module

public import proofs.«01_k».proof.Proof.Gen.KernelIdeal.Value
public import proofs.«01_k».proof.Proof.FoxReference

@[expose] public section

set_option maxRecDepth 16384

noncomputable section

namespace Cert.Fox

open Idealize.ShloMosaic Idealize.ShloMosaic.TcCoe Cert.KernelIdeal Cert.KernelIdeal.Gen

/-- Adding up a family with every member but the `h`-th put to zero by a comparison of words. -/
theorem sum_pick_word {n : ℕ} (hn : n ≤ 2 ^ 32) (h : Fin n) (x : Fin n → EReal) :
    (∑ k : Fin n, Scalar.select (IntOp.cmpi .eq (BitVec.ofNat 32 k.val) (BitVec.ofNat 32 h.val)) (x k) 0) = x h := by
  have hk (k : Fin n) : Scalar.select (IntOp.cmpi .eq (BitVec.ofNat 32 k.val) (BitVec.ofNat 32 h.val)) (x k) 0
      = if k = h then x k else 0 := by
    rw [WordCmp.cmpi_eq_ofNat (lt_of_lt_of_le k.isLt hn) (lt_of_lt_of_le h.isLt hn)]
    by_cases e : k = h
    · simp [Scalar.select, e]
    · simp [Scalar.select, e, Fin.val_ne_of_ne e]
  simp only [hk]
  exact sum_pick h _ (fun _ => Iff.rfl) x

variable (q : FVec Ideal S512x128 .bf16) (fc : FVec Ideal S512x128 .f32) (fr : FVec Ideal S16x2048 .f32)
variable (h : Fin 16) (r : Fin 512) (e : Fin 128)

/-- The score of the block's query row `r` against a key row `k`, with the key's log forget sum `g`. -/
def tileScore (k : Fin 128 → EReal) (g : EReal) : EReal :=
  (∑ d : Fin 128, q (ix2 r d) * k d) * scale + fc (ix2 r ⟨h.val, by omega⟩) - g

/-- The diagonal block's masked scores, its keys the block `kd` that starts at position `o`. -/
def diagScore (kd : FVec Ideal S512x128 .bf16) (o : ℕ) (ho : o + 512 ≤ 2048) (i : Fin 512) : EReal :=
  if i.val ≤ r.val then tileScore q fc h r (fun d => kd (ix2 i d)) (fr (ix2 h ⟨o + i.val, by omega⟩)) else ⊥

/-- The score against key `k` of the `n` keys from the sequence's start. -/
def leftScore {n : ℕ} (hn : n ≤ 2048) (ko : Fin n → Fin 128 → EReal) (k : Fin n) : EReal :=
  tileScore q fc h r (ko k) (fr (ix2 h ⟨k.val, by omega⟩))

theorem pay5_at (kd : FVec Ideal S512x128 .bf16) (i : Fin 512) :
    k0_pay5 (F := Ideal) (BitVec.ofNat 32 h.val) q fc fr kd (ix2 r i)
      = Ideal.exp (diagScore q fc fr h r kd 0 (by omega) i
          - Finset.univ.fold max ⊥ fun i => diagScore q fc fr h r kd 0 (by omega) i) := by
  pointwise [k0_pay5]
  have hx (i : Fin 512) : Scalar.select (IntOp.cmpi .sle (BitVec.ofNat 32 i.val) (BitVec.ofNat 32 r.val))
      ((∑ d : Fin 128, q (ix2 r d) * kd (ix2 i d)) * scale
        + (∑ l : Fin 128, Scalar.select (IntOp.cmpi .eq (BitVec.ofNat 32 l.val) (BitVec.ofNat 32 h.val)) (fc (ix2 r l)) 0)
        - ∑ l : Fin 16, Scalar.select (IntOp.cmpi .eq (BitVec.ofNat 32 l.val) (BitVec.ofNat 32 h.val)) (fr (ix2 l ⟨i.val, by omega⟩)) 0)
      (Ideal.ofBits .f32 0xFF800000#32) = diagScore q fc fr h r kd 0 (by omega) i := by
    rw [select_sle (by omega) (by omega), negInf, sum_pick_word (by norm_num) h,
      sum_pick_word (by norm_num) (⟨h.val, by omega⟩ : Fin 128)]
    simp only [diagScore, tileScore, Nat.zero_add]
  simp only [hx]
  rw [negInf]

theorem payA_at (kd vd : FVec Ideal S512x128 .bf16) :
    k0_pay1 (F := Ideal) (k0_pay6 (BitVec.ofNat 32 h.val) q fc fr kd) (k0_pay7 (F := Ideal) (BitVec.ofNat 32 h.val) q fc fr kd) vd (ix2 r e)
      = Ideal.div
          (∑ i, Ideal.exp (diagScore q fc fr h r kd 0 (by omega) i
              - Finset.univ.fold max ⊥ fun i => diagScore q fc fr h r kd 0 (by omega) i) * vd (ix2 i e))
          (∑ i, Ideal.exp (diagScore q fc fr h r kd 0 (by omega) i
              - Finset.univ.fold max ⊥ fun i => diagScore q fc fr h r kd 0 (by omega) i)) := by
  pointwise [k0_pay1, k0_pay6, k0_pay7]
  simp only [pay5_at]

/-! ## The log forget sums of the head: the same terms in every form with keys left of the diagonal -/

theorem pay8_at : k0_pay8 (F := Ideal) (BitVec.ofNat 32 h.val) fc (ix2 r 0) = fc (ix2 r ⟨h.val, by omega⟩) := by
  pointwise [k0_pay8]
  exact sum_pick_word (by norm_num) (⟨h.val, by omega⟩ : Fin 128) _

theorem pay9_at (k : Fin 2048) : k0_pay9 (F := Ideal) (BitVec.ofNat 32 h.val) fr (ix2 0 k) = fr (ix2 h k) := by
  pointwise [k0_pay9]
  exact sum_pick_word (by norm_num) h _

/-! ## One, two and three blocks of keys left of the diagonal -/

theorem pay10_at (kd : FVec Ideal S512x128 .bf16) (i : Fin 512) :
    k0_pay10 (F := Ideal) (BitVec.ofNat 32 h.val) q fc fr kd (ix2 r i) = diagScore q fc fr h r kd 512 (by omega) i := by
  pointwise [k0_pay10]
  rw [select_sle (by omega) (by omega), negInf]
  refine if_congr Iff.rfl (congrArg₂ _ (congrArg _ (pay8_at fc h r)) (pay9_at fr h _)) rfl

theorem payB_at (kd vd : FVec Ideal S512x128 .bf16) (ko vo : FVec Ideal S512x128 .bf16) :
    k0_pay2 (F := Ideal) (k0_pay9 (F := Ideal) (BitVec.ofNat 32 h.val) fr) (k0_pay10 (F := Ideal) (BitVec.ofNat 32 h.val) q fc fr kd)
        (k0_pay11 (F := Ideal) (BitVec.ofNat 32 h.val) q fc fr kd) (k0_pay12 (F := Ideal) q ko)
        (k0_pay13 (F := Ideal) (BitVec.ofNat 32 h.val) fc) vd vo (ix2 r e)
      = rowSplit (diagScore q fc fr h r kd 512 (by omega)) (fun i => vd (ix2 i e))
          (leftScore q fc fr h r (n := 512) (by omega) fun k d => ko (ix2 k d)) (fun k => vo (ix2 k e)) := by
  pointwise [k0_pay2, k0_pay11, k0_pay12, k0_pay13]
  have h8 : k0_pay8 (F := Ideal) (BitVec.ofNat 32 h.val) fc (ix2 r 0) = fc (ix2 r ⟨h.val, by omega⟩) := pay8_at fc h r
  have h9 (k : Fin 2048) : k0_pay9 (F := Ideal) (BitVec.ofNat 32 h.val) fr (ix2 0 k) = fr (ix2 h k) := pay9_at fr h k
  simp only [pay10_at, h8, h9, negInf]
  rfl

theorem pay16_at (kd : FVec Ideal S512x128 .bf16) (i : Fin 512) :
    k0_pay16 (F := Ideal) (BitVec.ofNat 32 h.val) q fc fr kd (ix2 r i) = diagScore q fc fr h r kd 1024 (by omega) i := by
  pointwise [k0_pay16]
  rw [select_sle (by omega) (by omega), negInf]
  refine if_congr Iff.rfl (congrArg₂ _ (congrArg _ (pay8_at fc h r)) (pay9_at fr h _)) rfl

theorem payC_at (kd vd : FVec Ideal S512x128 .bf16) (ko vo : FVec Ideal S1024x128 .bf16) :
    k0_pay3 (F := Ideal) (k0_pay15 (F := Ideal) (BitVec.ofNat 32 h.val) fr) (k0_pay16 (F := Ideal) (BitVec.ofNat 32 h.val) q fc fr kd)
        (k0_pay17 (F := Ideal) (BitVec.ofNat 32 h.val) q fc fr kd) (k0_pay18 (F := Ideal) q ko)
        (k0_pay19 (F := Ideal) (BitVec.ofNat 32 h.val) fc) vd vo (ix2 r e)
      = rowSplit (diagScore q fc fr h r kd 1024 (by omega)) (fun i => vd (ix2 i e))
          (leftScore q fc fr h r (n := 1024) (by omega) fun k d => ko (ix2 k d)) (fun k => vo (ix2 k e)) := by
  pointwise [k0_pay3, k0_pay17, k0_pay18, k0_pay19]
  have h8 : k0_pay14 (F := Ideal) (BitVec.ofNat 32 h.val) fc (ix2 r 0) = fc (ix2 r ⟨h.val, by omega⟩) := pay8_at fc h r
  have h9 (k : Fin 2048) : k0_pay15 (F := Ideal) (BitVec.ofNat 32 h.val) fr (ix2 0 k) = fr (ix2 h k) := pay9_at fr h k
  simp only [pay16_at, h8, h9, negInf]
  rfl

theorem pay22_at (kd : FVec Ideal S512x128 .bf16) (i : Fin 512) :
    k0_pay22 (F := Ideal) (BitVec.ofNat 32 h.val) q fc fr kd (ix2 r i) = diagScore q fc fr h r kd 1536 (by omega) i := by
  pointwise [k0_pay22]
  rw [select_sle (by omega) (by omega), negInf]
  refine if_congr Iff.rfl (congrArg₂ _ (congrArg _ (pay8_at fc h r)) (pay9_at fr h _)) rfl

theorem payD_at (kd vd : FVec Ideal S512x128 .bf16) (ko vo : FVec Ideal S1536x128 .bf16) :
    k0_pay4 (F := Ideal) (k0_pay21 (F := Ideal) (BitVec.ofNat 32 h.val) fr) (k0_pay22 (F := Ideal) (BitVec.ofNat 32 h.val) q fc fr kd)
        (k0_pay23 (F := Ideal) (BitVec.ofNat 32 h.val) q fc fr kd) (k0_pay24 (F := Ideal) q ko)
        (k0_pay25 (F := Ideal) (BitVec.ofNat 32 h.val) fc) vd vo (ix2 r e)
      = rowSplit (diagScore q fc fr h r kd 1536 (by omega)) (fun i => vd (ix2 i e))
          (leftScore q fc fr h r (n := 1536) (by omega) fun k d => ko (ix2 k d)) (fun k => vo (ix2 k e)) := by
  pointwise [k0_pay4, k0_pay23, k0_pay24, k0_pay25]
  have h8 : k0_pay20 (F := Ideal) (BitVec.ofNat 32 h.val) fc (ix2 r 0) = fc (ix2 r ⟨h.val, by omega⟩) := pay8_at fc h r
  have h9 (k : Fin 2048) : k0_pay21 (F := Ideal) (BitVec.ofNat 32 h.val) fr (ix2 0 k) = fr (ix2 h k) := pay9_at fr h k
  simp only [pay22_at, h8, h9, negInf]
  rfl

end Cert.Fox

end
-- ==== Proof.FoxRow.lean ====
/- From a grid point's blocks to the arrays: if the blocks that a point reads hold the rows and columns of the
arrays they should, then the row the point computes is the reference's row. -/
module

public import proofs.«01_k».proof.Proof.FoxBlock

@[expose] public section

set_option maxRecDepth 16384

noncomputable section

namespace Cert.Fox

open Idealize.ShloMosaic Cert.KernelIdeal

variable (Q K V : FVec Ideal Cert.ReferenceIdeal.S8192x2048 .bf16) (G : FVec Ideal Cert.ReferenceIdeal.S8192x16 .f32)

/-- The queries, the keys and the log forget sums are real numbers. -/
structure Finite : Prop where
  q : ∀ i, ∃ r : ℝ, Q i = r
  k : ∀ i, ∃ r : ℝ, K i = r
  g : ∀ i, ∃ r : ℝ, G i = r

/-- The scale is a real number. -/
theorem scale_real : ∃ r : ℝ, scale = (r : EReal) := ⟨_, by simp [scale, Ideal.ofBits, Ideal.ieee]; rfl⟩

variable {Q K G}

theorem rawScore_real (hf : Finite Q K G) (h : Fin 16) (R P : Fin 8192) : ∃ r : ℝ, rawScore Q K G h R P = r :=
  score_real (fun d : Fin 128 => Q (ix2 R ⟨h.val * 128 + d.val, by omega⟩)) (fun d : Fin 128 => K (ix2 P ⟨h.val * 128 + d.val, by omega⟩))
    (fun _ => hf.q _) (fun _ => hf.k _) scale_real (hf.g _) (hf.g _)

theorem score_score (hf : Finite Q K G) (h : Fin 16) (R : Fin 8192) (c : Fin 2048) : Score (score Q K G h R c) := by
  unfold score
  split
  · exact .inr (rawScore_real hf ..)
  · exact .inl rfl

/-- A query sees its own key. -/
theorem score_self (hf : Finite Q K G) (h : Fin 16) (R : Fin 8192) :
    ∃ r : ℝ, score Q K G h R ⟨R.val % 2048, by omega⟩ = r := by
  obtain ⟨r, hr⟩ := rawScore_real hf h R (keyRow R ⟨R.val % 2048, by omega⟩)
  exact ⟨r, by rw [score, if_pos le_rfl, hr]⟩

variable {V}
variable {q : FVec Ideal S512x128 .bf16} {fc : FVec Ideal S512x128 .f32} {fr : FVec Ideal S16x2048 .f32}
variable {h : Fin 16} {r : Fin 512} {e : Fin 128} {R : Fin 8192} {C : Fin 2048} {n : ℕ}

variable (Q G q fc fr h r R) in
/-- The blocks of the queries and of the log forget sums hold row `R`'s query and the sums of its sequence. -/
structure Holds : Prop where
  q : ∀ d : Fin 128, q (ix2 r d) = Q (ix2 R ⟨h.val * 128 + d.val, by omega⟩)
  fc : fc (ix2 r ⟨h.val, by omega⟩) = G (ix2 R h)
  fr : ∀ k, fr (ix2 h k) = G (ix2 (keyRow R k) h)

theorem tileScore_eq (hb : Holds Q G q fc fr h r R) (k : Fin 128 → EReal) (c : Fin 2048)
    (hk : ∀ d : Fin 128, k d = K (ix2 (keyRow R c) ⟨h.val * 128 + d.val, by omega⟩)) :
    tileScore q fc h r k (fr (ix2 h c)) = rawScore Q K G h R (keyRow R c) := by
  unfold tileScore rawScore
  simp only [hb.q, hb.fc, hb.fr, hk]

theorem diagScore_eq (hb : Holds Q G q fc fr h r R) (hR : R.val % 2048 = n + r.val) (hn : n + 512 ≤ 2048)
    (kd : FVec Ideal S512x128 .bf16)
    (hk : ∀ (i : Fin 512) (d : Fin 128), kd (ix2 i d) = K (ix2 (keyRow R ⟨n + i.val, by omega⟩) ⟨h.val * 128 + d.val, by omega⟩))
    (i : Fin 512) : diagScore q fc fr h r kd n hn i = score Q K G h R ⟨n + i.val, by omega⟩ := by
  unfold diagScore score
  rw [tileScore_eq hb _ _ (hk i)]
  exact if_congr (by simp only [hR]; omega) rfl rfl

theorem leftScore_eq (hb : Holds Q G q fc fr h r R) (hR : R.val % 2048 = n + r.val) (hn : n ≤ 2048)
    (ko : Fin n → Fin 128 → EReal)
    (hk : ∀ (i : Fin n) (d : Fin 128), ko i d = K (ix2 (keyRow R ⟨i.val, by omega⟩) ⟨h.val * 128 + d.val, by omega⟩))
    (i : Fin n) : leftScore q fc fr h r hn ko i = score Q K G h R ⟨i.val, by omega⟩ := by
  unfold leftScore score
  rw [tileScore_eq hb _ _ (hk i), if_pos (by simp only [hR]; omega)]

/-- The row of a point with keys left of its diagonal block. -/
theorem blockRow (hf : Finite Q K G) (hb : Holds Q G q fc fr h r R) (hR : R.val % 2048 = n + r.val) (hn : n + 512 ≤ 2048)
    (hC : C.val / 128 = h.val) (kd : FVec Ideal S512x128 .bf16) (vd : Fin 512 → EReal)
    (ko : Fin n → Fin 128 → EReal) (vo : Fin n → EReal)
    (hkd : ∀ (i : Fin 512) (d : Fin 128), kd (ix2 i d) = K (ix2 (keyRow R ⟨n + i.val, by omega⟩) ⟨h.val * 128 + d.val, by omega⟩))
    (hko : ∀ (i : Fin n) (d : Fin 128), ko i d = K (ix2 (keyRow R ⟨i.val, by omega⟩) ⟨h.val * 128 + d.val, by omega⟩))
    (hvd : ∀ i : Fin 512, vd i = V (ix2 (keyRow R ⟨n + i.val, by omega⟩) C))
    (hvo : ∀ i : Fin n, vo i = V (ix2 (keyRow R ⟨i.val, by omega⟩) C)) :
    rowSplit (diagScore q fc fr h r kd n hn) vd (leftScore q fc fr h r (by omega) ko) vo = spec Q K V G R C := by
  have hh : (⟨C.val / 128, by omega⟩ : Fin 16) = h := Fin.ext hC
  obtain ⟨r₀, h₀⟩ := score_self hf h R
  unfold spec
  rw [hh]
  rw [funext (diagScore_eq hb hR hn kd hkd), funext (leftScore_eq hb hR (by omega) ko hko), funext hvd, funext hvo]
  refine row_split (ι := Fin 512) (κ := Fin n) (score Q K G _ R) (fun c => V (ix2 (keyRow R c) C))
    (Sum.elim (fun i => ⟨n + i.val, by omega⟩) fun k => ⟨k.val, by omega⟩) ?_ ?_ (score_score hf _ R) _ r₀ h₀
  · rintro (x | x) (y | y) hxy <;> simp only [Sum.elim_inl, Sum.elim_inr, Fin.mk.injEq] at hxy
    · exact congrArg _ (Fin.ext (by omega))
    · omega
    · omega
    · exact congrArg _ (Fin.ext hxy)
  · intro c hc
    refine if_neg fun hle => hc ?_
    by_cases hcn : c.val < n
    · exact ⟨.inr ⟨c.val, hcn⟩, rfl⟩
    · exact ⟨.inl ⟨c.val - n, by omega⟩, Fin.ext (by simp only [Sum.elim_inl]; omega)⟩

/-- The row of a point whose diagonal block is the sequence's first. -/
theorem blockRow_first (hf : Finite Q K G) (hb : Holds Q G q fc fr h r R) (hR : R.val % 2048 = r.val)
    (hC : C.val / 128 = h.val) (kd : FVec Ideal S512x128 .bf16) (vd : Fin 512 → EReal)
    (hkd : ∀ (i : Fin 512) (d : Fin 128), kd (ix2 i d) = K (ix2 (keyRow R ⟨0 + i.val, by omega⟩) ⟨h.val * 128 + d.val, by omega⟩))
    (hvd : ∀ i : Fin 512, vd i = V (ix2 (keyRow R ⟨0 + i.val, by omega⟩) C)) :
    Ideal.div
        (∑ i, Ideal.exp (diagScore q fc fr h r kd 0 (by omega) i
            - Finset.univ.fold max ⊥ fun i => diagScore q fc fr h r kd 0 (by omega) i) * vd i)
        (∑ i, Ideal.exp (diagScore q fc fr h r kd 0 (by omega) i
            - Finset.univ.fold max ⊥ fun i => diagScore q fc fr h r kd 0 (by omega) i)) = spec Q K V G R C := by
  have hh : (⟨C.val / 128, by omega⟩ : Fin 16) = h := Fin.ext hC
  obtain ⟨r₀, h₀⟩ := score_self hf h R
  unfold spec
  rw [hh]
  simp only [diagScore_eq hb (n := 0) (by omega) (by omega) kd hkd, hvd]
  refine row_diag (ι := Fin 512) (score Q K G _ R) (fun c => V (ix2 (keyRow R c) C))
    (fun i => ⟨0 + i.val, by omega⟩) (fun x y hxy => Fin.ext ?_) (fun c hc => if_neg fun hle => hc ?_) (score_score hf _ R) _ r₀ h₀
  · simp only [Fin.mk.injEq] at hxy; omega
  · exact ⟨⟨c.val, by omega⟩, Fin.ext (Nat.zero_add _)⟩

end Cert.Fox

end
-- ==== Proof.FoxValue.lean ====
/- The forgetting attention's result array after the run: at every entry, the reference's row. Each grid point's
blocks are read as rows and columns of the arrays, and the four forms of the body put together. -/
module

public import proofs.«01_k».proof.Proof.FoxRow

@[expose] public section

set_option maxRecDepth 16384

noncomputable section

namespace Cert.Fox

open Idealize.ShloMosaic Idealize.ShloMosaic.TcCoe Cert.KernelIdeal Cert.KernelIdeal.Gen

/-- Where each window's block lies at each grid point, and the head's number. -/
theorem idx : ∀ t : Fin cfg0.N, win0_0.index t = ![t.val / 64 * 4 + t.val % 4, t.val / 4 % 16]
    ∧ win0_1.index t = ![t.val / 64, t.val / 4 % 16] ∧ win0_2.index t = ![t.val / 64, t.val / 4 % 16]
    ∧ win0_3.index t = ![t.val / 64 * 4 + t.val % 4, 0] ∧ win0_4.index t = ![0, t.val / 64]
    ∧ win0_5.index t = ![t.val / 64 * 4 + t.val % 4, t.val / 4 % 16]
    ∧ (grid0.coords t 1).val = t.val / 4 % 16 ∧ t.val / 64 < 4 :=
  (by decide +kernel : ∀ t : Fin grid0.N, _)

/-- A load of `n` rows from row `o` on, at an entry. -/
theorem ld_at {n o : ℕ} (X : FVec Ideal S2048x128 .bf16) (inb : ∀ a, (![o, 0] : Fin 2 → ℕ) a + (![n, 128] : Fin 2 → ℕ) a ≤ S2048x128.size a)
    (i : Fin n) (d : Fin 128) (ho : o + i.val < 2048) :
    View.ld (Val := Elt Ideal) (e' := .bf16) X (Rect.unit (s := S2048x128) ![o, 0] ![n, 128] inb) (ix2 i d) = X (ix2 ⟨o + i.val, ho⟩ d) :=
  View.ld_unit_apply_of (Val := Elt Ideal) (e := .bf16) X _ _ _ _ _ fun a => by fin_cases a <;> simp [ix2]

variable (m : (ℓ : Loc nD τ sig) → Buf (Elt Ideal) ℓ) (c : Dev nD)

/-- The arguments, as arrays. -/
abbrev argQ : FVec Ideal Cert.ReferenceIdeal.S8192x2048 .bf16 := m ((c : Thread nD τ).loc main_arg0)
abbrev argK : FVec Ideal Cert.ReferenceIdeal.S8192x2048 .bf16 := m ((c : Thread nD τ).loc main_arg1)
abbrev argV : FVec Ideal Cert.ReferenceIdeal.S8192x2048 .bf16 := m ((c : Thread nD τ).loc main_arg2)
abbrev argG : FVec Ideal Cert.ReferenceIdeal.S8192x16 .f32 := m ((c : Thread nD τ).loc main_arg3)

/-- The padded log forget sums hold the sums. -/
theorem padded (R : Fin 8192) (h : Fin 16) : V m c main_v0 (ix2 R ⟨h.val, by omega⟩) = argG m c (ix2 R h) := by
  dsimp only [V, hostOps0, hostOps0_1, hostOps0_2, List.flatten_cons, List.flatten_nil, List.cons_append, List.nil_append]
  entry_read
  change pad S8192x128 ![0, 0] ![0, 112] ![0, 0] (argG m c) _ pads_S8192x16_S8192x128_000_01120 h_S_ (ix2 R ⟨h.val, by omega⟩) = _
  pointwise

/-- The transposed log forget sums hold the sums. -/
theorem transposed (h : Fin 16) (R : Fin 8192) : V m c main_v1 (ix2 h R) = argG m c (ix2 R h) := by
  dsimp only [V, hostOps0, hostOps0_1, hostOps0_2, List.flatten_cons, List.flatten_nil, List.cons_append, List.nil_append]
  entry_read
  pointwise

variable (t : Fin cfg0.N)

theorem headOk : t.val / 4 % 16 < 16 := Nat.mod_lt _ (by norm_num)

theorem rowOk (r : Fin 512) : t.val / 64 * 2048 + t.val % 4 * 512 + r.val < 8192 := by
  have := (idx t).2.2.2.2.2.2.2
  omega

/-- The head of grid point `t`, and the array's row of its block's row `r`. -/
abbrev headOf : Fin 16 := ⟨t.val / 4 % 16, headOk t⟩
abbrev rowOf (r : Fin 512) : Fin 8192 := ⟨t.val / 64 * 2048 + t.val % 4 * 512 + r.val, rowOk t r⟩

theorem read0 (r : Fin 512) (d : Fin 128) :
    iblk m c 0 t (ix2 r d) = argQ m c (ix2 (rowOf t r) ⟨(headOf t).val * 128 + d.val, by omega⟩) := by
  blk_ext [iblk, V, idx t]

theorem read3 (r : Fin 512) : iblk m c 3 t (ix2 r ⟨(headOf t).val, by omega⟩) = argG m c (ix2 (rowOf t r) (headOf t)) := by
  rw [← padded]
  blk_ext [iblk, idx t]

theorem read4 (r : Fin 512) (k : Fin 2048) : iblk m c 4 t (ix2 (headOf t) k) = argG m c (ix2 (keyRow (rowOf t r) k) (headOf t)) := by
  rw [← transposed]
  blk_ext [iblk, idx t, keyRow]

theorem read1 (r : Fin 512) (k : Fin 2048) (d : Fin 128) :
    iblk m c 1 t (ix2 k d) = argK m c (ix2 (keyRow (rowOf t r) k) ⟨(headOf t).val * 128 + d.val, by omega⟩) := by
  blk_ext [iblk, V, idx t, keyRow]

theorem read2 (r : Fin 512) (k : Fin 2048) (d : Fin 128) :
    iblk m c 2 t (ix2 k d) = argV m c (ix2 (keyRow (rowOf t r) k) ⟨(headOf t).val * 128 + d.val, by omega⟩) := by
  blk_ext [iblk, V, idx t, keyRow]

theorem holds (r : Fin 512) :
    Holds (argQ m c) (argG m c) (iblk m c 0 t) (iblk m c 3 t) (iblk m c 4 t) (headOf t) r (rowOf t r) :=
  ⟨read0 m c t r, read3 m c t r, read4 m c t r⟩

/-- The column of the arrays at column `e` of the point's block. -/
abbrev colOf (e : Fin 128) : Fin 2048 := ⟨(headOf t).val * 128 + e.val, by omega⟩

theorem colOf_head (e : Fin 128) : (colOf t e).val / 128 = (headOf t).val := by
  simp only [colOf]; omega

/-- The rows of a point lie in its sequence from its query block on. -/
theorem rowOf_mod (r : Fin 512) : (rowOf t r).val % 2048 = t.val % 4 * 512 + r.val := by
  have := (idx t).2.2.2.2.2.2.2
  simp only [rowOf]; omega

theorem word : BitVec.ofNat 32 (grid0.coords t 1).val = BitVec.ofNat 32 (headOf t).val :=
  congrArg _ (idx t).2.2.2.2.2.2.1

variable {m c t}

/-- What a point at a sequence's first query block leaves. -/
theorem pointA (hf : Finite (argQ m c) (argK m c) (argG m c)) (h0 : t.val % 4 = 0) (h1 : ¬t.val % 4 = 1) (h2 : ¬t.val % 4 = 2) (h3 : ¬t.val % 4 = 3) (r : Fin 512) (e : Fin 128) :
    out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (fun h => h1 ((hcond0_1 t).mp h)) (fun h => h2 ((hcond0_2 t).mp h)) (fun h => h3 ((hcond0_3 t).mp h)) (iblk m c 0 t) (iblk m c 1 t) (iblk m c 2 t) (iblk m c 3 t) (iblk m c 4 t) (ix2 r e)
      = spec (argQ m c) (argK m c) (argV m c) (argG m c) (rowOf t r) (colOf t e) := by
  frame_out
  rw [word t]
  refine (payA_at _ _ _ (headOf t) r e _ _).trans (blockRow_first hf (holds m c t r) (by rw [rowOf_mod, h0]; omega) (colOf_head t e) _ _ (fun i d => ?_) fun i => ?_)
  · exact (ld_at _ _ i d (by omega)).trans (read1 m c t r _ d)
  · exact (ld_at _ _ i e (by omega)).trans (read2 m c t r _ e)

/-- What a point at the second query block leaves. -/
theorem pointB (hf : Finite (argQ m c) (argK m c) (argG m c)) (h0 : ¬t.val % 4 = 0) (h1 : t.val % 4 = 1) (h2 : ¬t.val % 4 = 2) (h3 : ¬t.val % 4 = 3) (r : Fin 512) (e : Fin 128) :
    out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) ((hcond0_1 t).mpr h1) (fun h => h2 ((hcond0_2 t).mp h)) (fun h => h3 ((hcond0_3 t).mp h)) (iblk m c 0 t) (iblk m c 1 t) (iblk m c 2 t) (iblk m c 3 t) (iblk m c 4 t) (ix2 r e)
      = spec (argQ m c) (argK m c) (argV m c) (argG m c) (rowOf t r) (colOf t e) := by
  frame_out
  rw [word t]
  refine (payB_at _ _ _ (headOf t) r e _ _ _ _).trans (blockRow hf (holds m c t r) (by rw [rowOf_mod, h1]) (by omega) (colOf_head t e) _ _ _ _ (fun i d => ?_) (fun i d => ?_) (fun i => ?_) fun i => ?_)
  · exact (ld_at _ _ i d (by omega)).trans (read1 m c t r _ d)
  · exact (ld_at _ _ i d (by omega)).trans ((congrArg (fun k => iblk m c 1 t (ix2 k d)) (Fin.ext (Nat.zero_add _))).trans (read1 m c t r ⟨i.val, by omega⟩ d))
  · exact (ld_at _ _ i e (by omega)).trans (read2 m c t r _ e)
  · exact (ld_at _ _ i e (by omega)).trans ((congrArg (fun k => iblk m c 2 t (ix2 k e)) (Fin.ext (Nat.zero_add _))).trans (read2 m c t r ⟨i.val, by omega⟩ e))

/-- What a point at the third leaves. -/
theorem pointC (hf : Finite (argQ m c) (argK m c) (argG m c)) (h0 : ¬t.val % 4 = 0) (h1 : ¬t.val % 4 = 1) (h2 : t.val % 4 = 2) (h3 : ¬t.val % 4 = 3) (r : Fin 512) (e : Fin 128) :
    out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) (fun h => h1 ((hcond0_1 t).mp h)) ((hcond0_2 t).mpr h2) (fun h => h3 ((hcond0_3 t).mp h)) (iblk m c 0 t) (iblk m c 1 t) (iblk m c 2 t) (iblk m c 3 t) (iblk m c 4 t) (ix2 r e)
      = spec (argQ m c) (argK m c) (argV m c) (argG m c) (rowOf t r) (colOf t e) := by
  frame_out
  rw [word t]
  refine (payC_at _ _ _ (headOf t) r e _ _ _ _).trans (blockRow hf (holds m c t r) (by rw [rowOf_mod, h2]) (by omega) (colOf_head t e) _ _ _ _ (fun i d => ?_) (fun i d => ?_) (fun i => ?_) fun i => ?_)
  · exact (ld_at _ _ i d (by omega)).trans (read1 m c t r _ d)
  · exact (ld_at _ _ i d (by omega)).trans ((congrArg (fun k => iblk m c 1 t (ix2 k d)) (Fin.ext (Nat.zero_add _))).trans (read1 m c t r ⟨i.val, by omega⟩ d))
  · exact (ld_at _ _ i e (by omega)).trans (read2 m c t r _ e)
  · exact (ld_at _ _ i e (by omega)).trans ((congrArg (fun k => iblk m c 2 t (ix2 k e)) (Fin.ext (Nat.zero_add _))).trans (read2 m c t r ⟨i.val, by omega⟩ e))

/-- What a point at the fourth leaves. -/
theorem pointD (hf : Finite (argQ m c) (argK m c) (argG m c)) (h0 : ¬t.val % 4 = 0) (h1 : ¬t.val % 4 = 1) (h2 : ¬t.val % 4 = 2) (h3 : t.val % 4 = 3) (r : Fin 512) (e : Fin 128) :
    out0_D_5 c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) (fun h => h1 ((hcond0_1 t).mp h)) (fun h => h2 ((hcond0_2 t).mp h)) ((hcond0_3 t).mpr h3) (iblk m c 0 t) (iblk m c 1 t) (iblk m c 2 t) (iblk m c 3 t) (iblk m c 4 t) (ix2 r e)
      = spec (argQ m c) (argK m c) (argV m c) (argG m c) (rowOf t r) (colOf t e) := by
  frame_out
  rw [word t]
  refine (payD_at _ _ _ (headOf t) r e _ _ _ _).trans (blockRow hf (holds m c t r) (by rw [rowOf_mod, h3]) (by omega) (colOf_head t e) _ _ _ _ (fun i d => ?_) (fun i d => ?_) (fun i => ?_) fun i => ?_)
  · exact (ld_at _ _ i d (by omega)).trans (read1 m c t r _ d)
  · exact (ld_at _ _ i d (by omega)).trans ((congrArg (fun k => iblk m c 1 t (ix2 k d)) (Fin.ext (Nat.zero_add _))).trans (read1 m c t r ⟨i.val, by omega⟩ d))
  · exact (ld_at _ _ i e (by omega)).trans (read2 m c t r _ e)
  · exact (ld_at _ _ i e (by omega)).trans ((congrArg (fun k => iblk m c 2 t (ix2 k e)) (Fin.ext (Nat.zero_add _))).trans (read2 m c t r ⟨i.val, by omega⟩ e))

variable (m c)

/-- THE RESULT: the output array after the run is the reference's. -/
theorem final (hf : Finite (argQ m c) (argK m c) (argG m c)) :
    (dats m 0 c).arrAt 5 cfg0.N = reference4 (argV m c) (scores4 (argQ m c) (argK m c) (argG m c)) := by
  refine (dats m 0 c).arrAt_eq_of_covers 5 _ (by decide +kernel) fun t _ y => ?_
  blk_simp
  idx_vars y
  have he : ((View.whole main_v2).slice (win0_5.rect t)).emb (ix2 y0 y1) = ix2 (rowOf t y0) (colOf t y1) := by
    blk_ext [idx t]
  rw [he, after0_5]
  refine Eq.trans ?_ (reference_at (argQ m c) (argK m c) (argV m c) (argG m c) (rowOf t y0) (colOf t y1)).symm
  by_cases h0 : t.val % 4 = 0
  · rw [outsAt0_A m c t h0 (by omega) (by omega) (by omega)]
    exact pointA hf h0 (by omega) (by omega) (by omega) y0 y1
  by_cases h1 : t.val % 4 = 1
  · rw [outsAt0_B m c t h0 h1 (by omega) (by omega)]
    exact pointB hf h0 h1 (by omega) (by omega) y0 y1
  by_cases h2 : t.val % 4 = 2
  · rw [outsAt0_C m c t h0 h1 h2 (by omega)]
    exact pointC hf h0 h1 h2 (by omega) y0 y1
  have h3 : t.val % 4 = 3 := by omega
  rw [outsAt0_D m c t h0 h1 h2 h3]
  exact pointD hf h0 h1 h2 h3 y0 y1

end Cert.Fox

end
-- ==== Proof.FoxFinite.lean ====
/- What the precondition says: every query, every key and every log forget sum is a real number. -/
module

public import proofs.«01_k».proof.Pre_fox_finite
public import Idealize.ShloMosaic.PureOps.Ideal
public import Idealize.ShloMosaic.Lib.ReduceAll
public import Idealize.ShloMosaic.Lib.Affine
public import Idealize.ShloMosaic.Lib.Decide

@[expose] public section

set_option maxRecDepth 16384

noncomputable section

namespace Cert.Fox

open Idealize.ShloMosaic

/-- A number whose absolute value is below infinity is real. -/
theorem real_of_abs_lt {x y : EReal} (hy : y = ⊤) (h : Ideal.cmp .olt (max x (-x)) y = 1#1) : ∃ r : ℝ, x = r := by
  subst hy
  have hlt : max x (-x) < ⊤ := by
    by_contra hn
    simp [Ideal.cmp, hn] at h
  induction x with
  | bot => simp at hlt
  | top => simp at hlt
  | coe r => exact ⟨r, rfl⟩

/-- The word of infinity. -/
theorem posInf : Ideal.ofBits .f32 0x7F800000#32 = (⊤ : EReal) := by simp [Ideal.ofBits, Ideal.ieee]

open Cert.Pre_fox_finite in
/-- The precondition, read: the queries, the keys and the log forget sums are real numbers. -/
theorem finite_of_pre [hF : Facts] (Q K V : FVec Ideal S8192x2048 .bf16) (G : FVec Ideal S8192x16 .f32)
    (h : fn (F := Ideal) Q K V G = fun _ => 1#1) :
    (∀ i, ∃ r : ℝ, Q i = r) ∧ (∀ i, ∃ r : ℝ, K i = r) ∧ ∀ i, ∃ r : ℝ, G i = r := by
  have h0 := congrFun h (Shape.Idx.first Facts.h_S_)
  dsimp only [fn] at h0
  obtain ⟨h1, hG⟩ := IntOp.andi_eq_one.1 h0
  obtain ⟨hQ, hK⟩ := IntOp.andi_eq_one.1 h1
  refine ⟨fun i => ?_, fun i => ?_, fun i => ?_⟩
  · exact real_of_abs_lt posInf (Host.reduce_andi_all _ _ _ _ _ hQ i)
  · exact real_of_abs_lt posInf (Host.reduce_andi_all _ _ _ _ _ hK i)
  · exact real_of_abs_lt posInf (Host.reduce_andi_all _ _ _ _ _ hG i)

end Cert.Fox

end
-- ==== Proof.Swiglu.lean ====
/- The dense feed-forward layer's gate and up projections with their SwiGLU, from one matrix of weights: the kernel's
result array after the run, and the reference's, at an entry. The kernel narrows the weights of a block of columns
once, at the first block of rows, and keeps them for the other blocks of rows. -/
module

public import proofs.«01_k».proof.Proof.Gen.Kernel2Ideal.Value
public import proofs.«01_k».proof.Proof.Gen.Reference2Ideal.Run
public import Idealize.ShloMosaic.Lib.Pipeline.ValueKit
public import Idealize.ShloMosaic.Lib.Pipeline.ValueKit.Held
public import Idealize.ShloMosaic.Lib.Pipeline.ReadBack

@[expose] public section

set_option maxRecDepth 16384

noncomputable section

namespace Cert.Swiglu

open Idealize.ShloMosaic Idealize.ShloMosaic.TcCoe

/-- The gated product: the gate `g` times its logistic, times `u`. -/
def gated (g u : EReal) : EReal := g * Ideal.div 1 (1 + Ideal.exp (-g)) * u

section

open Cert.Reference2Ideal

variable (U : FVec Ideal S8192x2048 .bf16) (W : FVec Ideal S2x2048x11264 .f32)

/-- Row `R` of the activations times column `C` of the first layer's weights. -/
def prod (R : Fin 8192) (C : Fin 11264) : EReal := ∑ k : Fin 2048, U (ix2 R k) * W (ix3 0 k C)

/-- The result at an entry. -/
def spec (R : Fin 8192) (C : Fin 5632) : EReal :=
  gated (prod U W R ⟨C.val, by omega⟩) (prod U W R ⟨5632 + C.val, by omega⟩)

open Cert.Reference2Ideal.Gen

/-- Both projections, side by side. -/
def products : FVec Ideal S8192x11264 .f32 :=
  Host.dotGeneral dot_S8192x2048_S2048x11264_S8192x11264_1_0_0_1_n_n none (extf .f32 U bitsLt_bf16_f32)
    (shapeCast _ (extractStridedSlice S1x2048x11264 ![0, 0, 0] W slices_S2x2048x11264_S1x2048x11264_0_0_0) shapeCasts_S1x2048x11264_S2048x11264)

theorem products_at (R : Fin 8192) (C : Fin 11264) : products U W (ix2 R C) = prod U W R C := by
  pointwise [products, prod]

/-- The reference's result, of its two arguments. -/
def reference : FVec Ideal S8192x5632 .bf16 :=
  let g := extractStridedSlice S8192x5632 ![0, 0] (products U W) slices_S8192x11264_S8192x5632_0_0
  truncf .bf16 (mulf (mulf g (Host.divf (broadcastInDim S8192x5632 ![] bcast_S_S8192x5632 (constant S_ .f32 0x3F800000#32))
      (addf (broadcastInDim S8192x5632 ![] bcast_S_S8192x5632 (constant S_ .f32 0x3F800000#32)) (Host.exp (Host.negf g)))))
    (extractStridedSlice S8192x5632 ![0, 5632] (products U W) slices_S8192x11264_S8192x5632_0_5632)) bitsLt_bf16_f32

theorem reference_at (R : Fin 8192) (C : Fin 5632) : reference U W (ix2 R C) = spec U W R C := by
  pointwise [reference]
  simp only [products_at]
  rfl

end

open Cert.Kernel2Ideal Cert.Kernel2Ideal.Gen

/-- The narrowed weights of a block of columns: the block's own entries. -/
theorem pay1_at (w : FVec Ideal S1x2048x512 .f32) (k : Fin 2048) (j : Fin 512) : k0_pay1 (F := Ideal) w (ix2 k j) = w (ix3 0 k j) := by
  pointwise [k0_pay1]

theorem pay2_at (w : FVec Ideal S1x2048x512 .f32) (k : Fin 2048) (j : Fin 512) : k0_pay2 (F := Ideal) w (ix2 k j) = w (ix3 0 k j) := by
  pointwise [k0_pay2]

/-- The body's result at an entry. -/
theorem pay3_at (x : FVec Ideal S1024x2048 .bf16) (a b : FVec Ideal S2048x512 .bf16) (r : Fin 1024) (j : Fin 512) :
    k0_pay3 (F := Ideal) x a b (ix2 r j)
      = gated (∑ k : Fin 2048, x (ix2 r k) * a (ix2 k j)) (∑ k : Fin 2048, x (ix2 r k) * b (ix2 k j)) := by
  pointwise [k0_pay3]
  rw [zero_sub]
  rfl

/-- Where each window's block lies at each grid point. -/
theorem idx : ∀ t : Fin cfg0.N, win0_0.index t = ![t.val % 8, 0] ∧ win0_1.index t = ![0, 0, t.val / 8]
    ∧ win0_2.index t = ![0, 0, 11 + t.val / 8] ∧ win0_3.index t = ![t.val % 8, t.val / 8] ∧ t.val / 8 < 11 :=
  (by decide +kernel : ∀ t : Fin grid0.N, _)

variable (m : (ℓ : Loc nD τ sig) → Buf (Elt Ideal) ℓ) (c : Dev nD)

/-- The arguments, as arrays. -/
abbrev argU : FVec Ideal S8192x2048 .bf16 := m ((c : Thread nD τ).loc main_arg0)
abbrev argW : FVec Ideal S2x2048x11264 .f32 := m ((c : Thread nD τ).loc main_arg1)

variable (t : Fin cfg0.N)

/-- The array's row and column at row `r` and column `j` of the point's block. -/
abbrev rowOf (r : Fin 1024) : Fin 8192 := ⟨t.val % 8 * 1024 + r.val, by omega⟩
abbrev colOf (j : Fin 512) : Fin 5632 := ⟨t.val / 8 * 512 + j.val, by have := (idx t).2.2.2.2; omega⟩

theorem read0 (r : Fin 1024) (k : Fin 2048) : iblk m c 0 t (ix2 r k) = argU m c (ix2 (rowOf t r) k) := by
  blk_ext [iblk, V, idx t]

theorem read1 (k : Fin 2048) (j : Fin 512) : iblk m c 1 t (ix3 0 k j) = argW m c (ix3 0 k ⟨(colOf t j).val, by omega⟩) := by
  blk_ext [iblk, V, idx t]

theorem read2 (k : Fin 2048) (j : Fin 512) : iblk m c 2 t (ix3 0 k j) = argW m c (ix3 0 k ⟨5632 + (colOf t j).val, by omega⟩) := by
  blk_ext [iblk, V, idx t]

/-- The kept gate weights at every point are the point's own block of columns. -/
theorem held1 (k : Fin 2048) (j : Fin 512) :
    (outsAt0 m c t.val t.isLt).2.1 (ix2 k j) = argW m c (ix3 0 k ⟨(colOf t j).val, by omega⟩) := by
  refine (Pipeline.eq_of_write_hold_apply (fun n h => (outsAt0 m c n h).2.1) 8 (fun t => k0_pay1 (F := Ideal) (iblk m c 1 t)) (fun t h i => ?_) (fun t h i => ?_) t (ix2 k j)).trans ?_
  · simp only [outsAt0_A m c t h]
    frame_out
  · simp only [outsAt0_B m c t h]
    rfl
  · rw [pay1_at, read1]
    congr 2
    simp [colOf, Nat.mul_div_cancel_left]

theorem held2 (k : Fin 2048) (j : Fin 512) :
    (outsAt0 m c t.val t.isLt).2.2 (ix2 k j) = argW m c (ix3 0 k ⟨5632 + (colOf t j).val, by omega⟩) := by
  refine (Pipeline.eq_of_write_hold_apply (fun n h => (outsAt0 m c n h).2.2) 8 (fun t => k0_pay2 (F := Ideal) (iblk m c 2 t)) (fun t h i => ?_) (fun t h i => ?_) t (ix2 k j)).trans ?_
  · simp only [outsAt0_A m c t h]
    frame_out
  · simp only [outsAt0_B m c t h]
    rfl
  · rw [pay2_at, read2]
    congr 2
    simp [colOf, Nat.mul_div_cancel_left]

/-- What a point leaves in the result's block: the body's result over the kept weights. -/
theorem left (r : Fin 1024) (j : Fin 512) :
    (outsAt0 m c t.val t.isLt).1 (ix2 r j)
      = k0_pay3 (F := Ideal) (iblk m c 0 t) (outsAt0 m c t.val t.isLt).2.1 (outsAt0 m c t.val t.isLt).2.2 (ix2 r j) := by
  by_cases h : t.val % 8 = 0
  · simp only [outsAt0_A m c t h]
    frame_out
  · simp only [outsAt0_B m c t h]
    frame_out
    simp only [read_unread_whole]
    rfl

/-- THE RESULT: the output array after the run is the reference's. -/
theorem final : (dats m 0 c).arrAt 3 cfg0.N = reference (argU m c) (argW m c) := by
  refine (dats m 0 c).arrAt_eq_of_covers 3 _ (by decide +kernel) fun t _ y => ?_
  blk_simp
  idx_vars y
  have he : ((View.whole main_v0).slice (win0_3.rect t)).emb (ix2 y0 y1) = ix2 (rowOf t y0) (colOf t y1) := by
    blk_ext [idx t]
  rw [he, after0_3]
  refine Eq.trans ?_ (reference_at (argU m c) (argW m c) (rowOf t y0) (colOf t y1)).symm
  rw [left, pay3_at]
  simp only [read0, held1, held2]
  rfl

end Cert.Swiglu

end
-- ==== Proof.Down.lean ====
/- The dense feed-forward layer's down projection: the kernel's result array after the run is
the reference's. The kernel narrows the weights of a block of columns at the first block of rows, and keeps them for
the others. -/
module

public import proofs.«01_k».proof.Proof.Gen.Kernel3Ideal.Value
public import proofs.«01_k».proof.Proof.Gen.Reference3Ideal.Run
public import Idealize.ShloMosaic.Lib.Pipeline.ValueKit
public import Idealize.ShloMosaic.Lib.Pipeline.ValueKit.Held
public import Idealize.ShloMosaic.Lib.Pipeline.ReadBack

@[expose] public section

set_option maxRecDepth 16384

noncomputable section

namespace Cert.Down

open Idealize.ShloMosaic Idealize.ShloMosaic.TcCoe

section

open Cert.Reference3Ideal Cert.Reference3Ideal.Gen

variable (X : FVec Ideal S8192x5632 .bf16) (W : FVec Ideal S2x5632x2048 .f32)

/-- Row `R` of the activations times column `C` of the first layer's weights. -/
def spec (R : Fin 8192) (C : Fin 2048) : EReal := ∑ k : Fin 5632, X (ix2 R k) * W (ix3 0 k C)

/-- The reference's result, of its two arguments. -/
def reference : FVec Ideal S8192x2048 .f32 :=
  Host.dotGeneral dot_S8192x5632_S5632x2048_S8192x2048_1_0_0_1_n_n none (extf .f32 X bitsLt_bf16_f32)
    (shapeCast _ (extractStridedSlice S1x5632x2048 ![0, 0, 0] W slices_S2x5632x2048_S1x5632x2048_0_0_0) shapeCasts_S1x5632x2048_S5632x2048)

theorem reference_at (R : Fin 8192) (C : Fin 2048) : reference X W (ix2 R C) = spec X W R C := by
  pointwise [reference, spec]

end

open Cert.Kernel3Ideal Cert.Kernel3Ideal.Gen

/-- The narrowed weights of a block of columns: the block's own entries. -/
theorem pay1_at (w : FVec Ideal S1x5632x512 .f32) (k : Fin 5632) (j : Fin 512) : k0_pay1 (F := Ideal) w (ix2 k j) = w (ix3 0 k j) := by
  pointwise [k0_pay1]

/-- The body's result at an entry. -/
theorem pay2_at (x : FVec Ideal S512x5632 .bf16) (a : FVec Ideal S5632x512 .bf16) (r : Fin 512) (j : Fin 512) :
    k0_pay2 (F := Ideal) x a (ix2 r j) = ∑ k : Fin 5632, x (ix2 r k) * a (ix2 k j) := by
  pointwise [k0_pay2]

/-- Where each window's block lies at each grid point. -/
theorem idx : ∀ t : Fin cfg0.N, win0_0.index t = ![t.val % 16, 0] ∧ win0_1.index t = ![0, 0, t.val / 16]
    ∧ win0_2.index t = ![t.val % 16, t.val / 16] ∧ t.val / 16 < 4 :=
  (by decide +kernel : ∀ t : Fin grid0.N, _)

variable (m : (ℓ : Loc nD τ sig) → Buf (Elt Ideal) ℓ) (c : Dev nD)

/-- The arguments, as arrays. -/
abbrev argX : FVec Ideal S8192x5632 .bf16 := m ((c : Thread nD τ).loc main_arg0)
abbrev argW : FVec Ideal S2x5632x2048 .f32 := m ((c : Thread nD τ).loc main_arg1)

variable (t : Fin cfg0.N)

/-- The array's row and column at row `r` and column `j` of the point's block. -/
abbrev rowOf (r : Fin 512) : Fin 8192 := ⟨t.val % 16 * 512 + r.val, by omega⟩
abbrev colOf (j : Fin 512) : Fin 2048 := ⟨t.val / 16 * 512 + j.val, by have := (idx t).2.2.2; omega⟩

theorem read0 (r : Fin 512) (k : Fin 5632) : iblk m c 0 t (ix2 r k) = argX m c (ix2 (rowOf t r) k) := by
  blk_ext [iblk, V, idx t]

theorem read1 (k : Fin 5632) (j : Fin 512) : iblk m c 1 t (ix3 0 k j) = argW m c (ix3 0 k (colOf t j)) := by
  blk_ext [iblk, V, idx t]

/-- The kept weights at every point are the point's own block of columns. -/
theorem held (k : Fin 5632) (j : Fin 512) :
    (outsAt0 m c t.val t.isLt).2 (ix2 k j) = argW m c (ix3 0 k (colOf t j)) := by
  refine (Pipeline.eq_of_write_hold_apply (fun n h => (outsAt0 m c n h).2) 16 (fun t => k0_pay1 (F := Ideal) (iblk m c 1 t)) (fun t h i => ?_) (fun t h i => ?_) t (ix2 k j)).trans ?_
  · simp only [outsAt0_A m c t h]
    frame_out
  · simp only [outsAt0_B m c t h]
    rfl
  · rw [pay1_at, read1]
    congr 2
    simp [colOf, Nat.mul_div_cancel_left]

/-- What a point leaves in the result's block: the body's result over the kept weights. -/
theorem left (r : Fin 512) (j : Fin 512) :
    (outsAt0 m c t.val t.isLt).1 (ix2 r j) = k0_pay2 (F := Ideal) (iblk m c 0 t) (outsAt0 m c t.val t.isLt).2 (ix2 r j) := by
  by_cases h : t.val % 16 = 0
  · simp only [outsAt0_A m c t h]
    frame_out
  · simp only [outsAt0_B m c t h]
    frame_out
    simp only [read_unread_whole]
    rfl

/-- THE RESULT: the output array after the run is the reference's. -/
theorem final : (dats m 0 c).arrAt 2 cfg0.N = reference (argX m c) (argW m c) := by
  refine (dats m 0 c).arrAt_eq_of_covers 2 _ (by decide +kernel) fun t _ y => ?_
  blk_simp
  idx_vars y
  have he : ((View.whole main_v0).slice (win0_2.rect t)).emb (ix2 y0 y1) = ix2 (rowOf t y0) (colOf t y1) := by
    blk_ext [idx t]
  rw [he, after0_2]
  refine Eq.trans ?_ (reference_at (argX m c) (argW m c) (rowOf t y0) (colOf t y1)).symm
  rw [left, pay2_at]
  simp only [read0, held]
  rfl

end Cert.Down

end
-- ==== Proof.DeltaIn.lean ====
/- The delta rule's projections to queries, keys, values and gate: the kernel's result array after the run is
the reference's. The kernel narrows the weights of a block of columns at the first block of rows, and keeps them for
the others. -/
module

public import proofs.«01_k».proof.Proof.Gen.Kernel4Ideal.Value
public import proofs.«01_k».proof.Proof.Gen.Reference4Ideal.Run
public import Idealize.ShloMosaic.Lib.Pipeline.ValueKit
public import Idealize.ShloMosaic.Lib.Pipeline.ValueKit.Held
public import Idealize.ShloMosaic.Lib.Pipeline.ReadBack

@[expose] public section

set_option maxRecDepth 16384

noncomputable section

namespace Cert.DeltaIn

open Idealize.ShloMosaic Idealize.ShloMosaic.TcCoe

section

open Cert.Reference4Ideal Cert.Reference4Ideal.Gen

variable (X : FVec Ideal S8192x2048 .bf16) (W : FVec Ideal S2x2048x8224 .f32)

/-- Row `R` of the activations times column `C` of the first layer's weights. -/
def spec (R : Fin 8192) (C : Fin 8192) : EReal := ∑ k : Fin 2048, X (ix2 R k) * W (ix3 0 k ⟨C.val, by omega⟩)

/-- The reference's result, of its two arguments. -/
def reference : FVec Ideal S8192x8192 .f32 :=
  Host.dotGeneral dot_S8192x2048_S2048x8192_S8192x8192_1_0_0_1_n_n none (extf .f32 X bitsLt_bf16_f32)
    (shapeCast _ (extractStridedSlice S1x2048x8192 ![0, 0, 0] W slices_S2x2048x8224_S1x2048x8192_0_0_0) shapeCasts_S1x2048x8192_S2048x8192)

theorem reference_at (R : Fin 8192) (C : Fin 8192) : reference X W (ix2 R C) = spec X W R C := by
  pointwise [reference, spec]

end

open Cert.Kernel4Ideal Cert.Kernel4Ideal.Gen

/-- The narrowed weights of a block of columns: the block's own entries. -/
theorem pay1_at (w : FVec Ideal S1x2048x1024 .f32) (k : Fin 2048) (j : Fin 1024) : k0_pay1 (F := Ideal) w (ix2 k j) = w (ix3 0 k j) := by
  pointwise [k0_pay1]

/-- The body's result at an entry. -/
theorem pay2_at (x : FVec Ideal S1024x2048 .bf16) (a : FVec Ideal S2048x1024 .bf16) (r : Fin 1024) (j : Fin 1024) :
    k0_pay2 (F := Ideal) x a (ix2 r j) = ∑ k : Fin 2048, x (ix2 r k) * a (ix2 k j) := by
  pointwise [k0_pay2]

/-- Where each window's block lies at each grid point. -/
theorem idx : ∀ t : Fin cfg0.N, win0_0.index t = ![t.val % 8, 0] ∧ win0_1.index t = ![0, 0, t.val / 8]
    ∧ win0_2.index t = ![t.val % 8, t.val / 8] ∧ t.val / 8 < 8 :=
  (by decide +kernel : ∀ t : Fin grid0.N, _)

variable (m : (ℓ : Loc nD τ sig) → Buf (Elt Ideal) ℓ) (c : Dev nD)

/-- The arguments, as arrays. -/
abbrev argX : FVec Ideal S8192x2048 .bf16 := m ((c : Thread nD τ).loc main_arg0)
abbrev argW : FVec Ideal S2x2048x8224 .f32 := m ((c : Thread nD τ).loc main_arg1)

variable (t : Fin cfg0.N)

/-- The array's row and column at row `r` and column `j` of the point's block. -/
abbrev rowOf (r : Fin 1024) : Fin 8192 := ⟨t.val % 8 * 1024 + r.val, by omega⟩
abbrev colOf (j : Fin 1024) : Fin 8192 := ⟨t.val / 8 * 1024 + j.val, by have := (idx t).2.2.2; omega⟩

theorem read0 (r : Fin 1024) (k : Fin 2048) : iblk m c 0 t (ix2 r k) = argX m c (ix2 (rowOf t r) k) := by
  blk_ext [iblk, V, idx t]

theorem read1 (k : Fin 2048) (j : Fin 1024) : X0_1 m c t (ix3 0 k j) = argW m c (ix3 0 k ⟨(colOf t j).val, by omega⟩) := by
  unfold X0_1 Pipeline.Window.fill
  rw [dif_pos (moved0_1 t _)]
  blk_ext [iblk, V, idx t]

/-- The kept weights at every point are the point's own block of columns. -/
theorem held (k : Fin 2048) (j : Fin 1024) :
    (outsAt0 m c t.val t.isLt).2 (ix2 k j) = argW m c (ix3 0 k ⟨(colOf t j).val, by omega⟩) := by
  refine (Pipeline.eq_of_write_hold_apply (fun n h => (outsAt0 m c n h).2) 8 (fun t => k0_pay1 (F := Ideal) (X0_1 m c t)) (fun t h i => ?_) (fun t h i => ?_) t (ix2 k j)).trans ?_
  · simp only [outsAt0_A m c t h]
    frame_out
  · simp only [outsAt0_B m c t h]
    rfl
  · rw [pay1_at, read1]
    congr 2
    simp [colOf, Nat.mul_div_cancel_left]

/-- What a point leaves in the result's block: the body's result over the kept weights. -/
theorem left (r : Fin 1024) (j : Fin 1024) :
    (outsAt0 m c t.val t.isLt).1 (ix2 r j) = k0_pay2 (F := Ideal) (iblk m c 0 t) (outsAt0 m c t.val t.isLt).2 (ix2 r j) := by
  by_cases h : t.val % 8 = 0
  · simp only [outsAt0_A m c t h]
    frame_out
  · simp only [outsAt0_B m c t h]
    frame_out
    simp only [read_unread_whole]
    rfl

/-- THE RESULT: the output array after the run is the reference's. -/
theorem final : (dats m 0 c).arrAt 2 cfg0.N = reference (argX m c) (argW m c) := by
  refine (dats m 0 c).arrAt_eq_of_covers 2 _ (by decide +kernel) fun t _ y => ?_
  blk_simp
  idx_vars y
  have he : ((View.whole main_v0).slice (win0_2.rect t)).emb (ix2 y0 y1) = ix2 (rowOf t y0) (colOf t y1) := by
    blk_ext [idx t]
  rw [he, after0_2]
  refine Eq.trans ?_ (reference_at (argX m c) (argW m c) (rowOf t y0) (colOf t y1)).symm
  rw [left, pay2_at]
  simp only [read0, held]
  rfl

end Cert.DeltaIn

end
-- ==== Proof.MixerOut.lean ====
/- The output projection of a mixer: the kernel's result array after the run is
the reference's. The kernel narrows the weights of a block of columns at the first block of rows, and keeps them for
the others. -/
module

public import proofs.«01_k».proof.Proof.Gen.Kernel5Ideal.Value
public import proofs.«01_k».proof.Proof.Gen.Reference5Ideal.Run
public import Idealize.ShloMosaic.Lib.Pipeline.ValueKit
public import Idealize.ShloMosaic.Lib.Pipeline.ValueKit.Held
public import Idealize.ShloMosaic.Lib.Pipeline.ReadBack

@[expose] public section

set_option maxRecDepth 16384

noncomputable section

namespace Cert.MixerOut

open Idealize.ShloMosaic Idealize.ShloMosaic.TcCoe

section

open Cert.Reference5Ideal Cert.Reference5Ideal.Gen

variable (X : FVec Ideal S8192x2048 .bf16) (W : FVec Ideal S2x2048x2048 .f32)

/-- Row `R` of the activations times column `C` of the first layer's weights. -/
def spec (R : Fin 8192) (C : Fin 2048) : EReal := ∑ k : Fin 2048, X (ix2 R k) * W (ix3 0 k C)

/-- The reference's result, of its two arguments. -/
def reference : FVec Ideal S8192x2048 .f32 :=
  Host.dotGeneral dot_S8192x2048_S2048x2048_S8192x2048_1_0_0_1_n_n none (extf .f32 X bitsLt_bf16_f32)
    (shapeCast _ (extractStridedSlice S1x2048x2048 ![0, 0, 0] W slices_S2x2048x2048_S1x2048x2048_0_0_0) shapeCasts_S1x2048x2048_S2048x2048)

theorem reference_at (R : Fin 8192) (C : Fin 2048) : reference X W (ix2 R C) = spec X W R C := by
  pointwise [reference, spec]

end

open Cert.Kernel5Ideal Cert.Kernel5Ideal.Gen

/-- The narrowed weights of a block of columns: the block's own entries. -/
theorem pay1_at (w : FVec Ideal S1x2048x1024 .f32) (k : Fin 2048) (j : Fin 1024) : k0_pay1 (F := Ideal) w (ix2 k j) = w (ix3 0 k j) := by
  pointwise [k0_pay1]

/-- The body's result at an entry. -/
theorem pay2_at (x : FVec Ideal S1024x2048 .bf16) (a : FVec Ideal S2048x1024 .bf16) (r : Fin 1024) (j : Fin 1024) :
    k0_pay2 (F := Ideal) x a (ix2 r j) = ∑ k : Fin 2048, x (ix2 r k) * a (ix2 k j) := by
  pointwise [k0_pay2]

/-- Where each window's block lies at each grid point. -/
theorem idx : ∀ t : Fin cfg0.N, win0_0.index t = ![t.val % 8, 0] ∧ win0_1.index t = ![0, 0, t.val / 8]
    ∧ win0_2.index t = ![t.val % 8, t.val / 8] ∧ t.val / 8 < 2 :=
  (by decide +kernel : ∀ t : Fin grid0.N, _)

variable (m : (ℓ : Loc nD τ sig) → Buf (Elt Ideal) ℓ) (c : Dev nD)

/-- The arguments, as arrays. -/
abbrev argX : FVec Ideal S8192x2048 .bf16 := m ((c : Thread nD τ).loc main_arg0)
abbrev argW : FVec Ideal S2x2048x2048 .f32 := m ((c : Thread nD τ).loc main_arg1)

variable (t : Fin cfg0.N)

/-- The array's row and column at row `r` and column `j` of the point's block. -/
abbrev rowOf (r : Fin 1024) : Fin 8192 := ⟨t.val % 8 * 1024 + r.val, by omega⟩
abbrev colOf (j : Fin 1024) : Fin 2048 := ⟨t.val / 8 * 1024 + j.val, by have := (idx t).2.2.2; omega⟩

theorem read0 (r : Fin 1024) (k : Fin 2048) : iblk m c 0 t (ix2 r k) = argX m c (ix2 (rowOf t r) k) := by
  blk_ext [iblk, V, idx t]

theorem read1 (k : Fin 2048) (j : Fin 1024) : iblk m c 1 t (ix3 0 k j) = argW m c (ix3 0 k (colOf t j)) := by
  blk_ext [iblk, V, idx t]

/-- The kept weights at every point are the point's own block of columns. -/
theorem held (k : Fin 2048) (j : Fin 1024) :
    (outsAt0 m c t.val t.isLt).2 (ix2 k j) = argW m c (ix3 0 k (colOf t j)) := by
  refine (Pipeline.eq_of_write_hold_apply (fun n h => (outsAt0 m c n h).2) 8 (fun t => k0_pay1 (F := Ideal) (iblk m c 1 t)) (fun t h i => ?_) (fun t h i => ?_) t (ix2 k j)).trans ?_
  · simp only [outsAt0_A m c t h]
    frame_out
  · simp only [outsAt0_B m c t h]
    rfl
  · rw [pay1_at, read1]
    congr 2
    simp [colOf, Nat.mul_div_cancel_left]

/-- What a point leaves in the result's block: the body's result over the kept weights. -/
theorem left (r : Fin 1024) (j : Fin 1024) :
    (outsAt0 m c t.val t.isLt).1 (ix2 r j) = k0_pay2 (F := Ideal) (iblk m c 0 t) (outsAt0 m c t.val t.isLt).2 (ix2 r j) := by
  by_cases h : t.val % 8 = 0
  · simp only [outsAt0_A m c t h]
    frame_out
  · simp only [outsAt0_B m c t h]
    frame_out
    simp only [read_unread_whole]
    rfl

/-- THE RESULT: the output array after the run is the reference's. -/
theorem final : (dats m 0 c).arrAt 2 cfg0.N = reference (argX m c) (argW m c) := by
  refine (dats m 0 c).arrAt_eq_of_covers 2 _ (by decide +kernel) fun t _ y => ?_
  blk_simp
  idx_vars y
  have he : ((View.whole main_v0).slice (win0_2.rect t)).emb (ix2 y0 y1) = ix2 (rowOf t y0) (colOf t y1) := by
    blk_ext [idx t]
  rw [he, after0_2]
  refine Eq.trans ?_ (reference_at (argX m c) (argW m c) (rowOf t y0) (colOf t y1)).symm
  rw [left, pay2_at]
  simp only [read0, held]
  rfl

end Cert.MixerOut

end
-- ==== Proof.Values.lean ====
/- The attention's shared values, from one matrix of weights: the kernel's two result arrays after the run, one in
the wider and one in the narrower precision, are the reference's. The kernel narrows the weights of a block of columns
at the first block of rows, and keeps them for the others. -/
module

public import proofs.«01_k».proof.Proof.Gen.Kernel6Ideal.Value
public import proofs.«01_k».proof.Proof.Gen.Reference6Ideal.Run
public import Idealize.ShloMosaic.Lib.Pipeline.ValueKit
public import Idealize.ShloMosaic.Lib.Pipeline.ValueKit.Held
public import Idealize.ShloMosaic.Lib.Pipeline.ReadBack

@[expose] public section

set_option maxRecDepth 16384

noncomputable section

namespace Cert.Values

open Idealize.ShloMosaic Idealize.ShloMosaic.TcCoe

section

open Cert.Reference6Ideal Cert.Reference6Ideal.Gen

variable (X : FVec Ideal S8192x2048 .bf16) (W : FVec Ideal S2048x4112 .f32)

/-- Row `R` of the activations times column `C` of the values' columns of the weights. -/
def spec (R : Fin 8192) (C : Fin 2048) : EReal := ∑ k : Fin 2048, X (ix2 R k) * W (ix2 k ⟨2048 + C.val, by omega⟩)

/-- The reference's result, of its two arguments. -/
def reference : FVec Ideal S8192x2048 .f32 :=
  Host.dotGeneral dot_S8192x2048_S2048x2048_S8192x2048_1_0_0_1_n_n none (extf .f32 X bitsLt_bf16_f32)
    (extractStridedSlice S2048x2048 ![0, 2048] W slices_S2048x4112_S2048x2048_0_2048)

theorem reference_at (R : Fin 8192) (C : Fin 2048) : reference X W (ix2 R C) = spec X W R C := by
  pointwise [reference, spec]

end

open Cert.Kernel6Ideal Cert.Kernel6Ideal.Gen

/-- The narrowed weights of a block of columns: the block's own entries. -/
theorem pay1_at (w : FVec Ideal S2048x1024 .f32) (k : Fin 2048) (j : Fin 1024) : k0_pay1 (F := Ideal) w (ix2 k j) = w (ix2 k j) := by
  pointwise [k0_pay1]

/-- The body's result at an entry. -/
theorem pay2_at (x : FVec Ideal S1024x2048 .bf16) (a : FVec Ideal S2048x1024 .bf16) (r : Fin 1024) (j : Fin 1024) :
    k0_pay2 (F := Ideal) x a (ix2 r j) = ∑ k : Fin 2048, x (ix2 r k) * a (ix2 k j) := by
  pointwise [k0_pay2]

/-- Where each window's block lies at each grid point. -/
theorem idx : ∀ t : Fin cfg0.N, win0_0.index t = ![t.val % 8, 0] ∧ win0_1.index t = ![0, 2 + t.val / 8]
    ∧ win0_2.index t = ![t.val % 8, t.val / 8] ∧ win0_3.index t = ![t.val % 8, t.val / 8] ∧ t.val / 8 < 2 :=
  (by decide +kernel : ∀ t : Fin grid0.N, _)

variable (m : (ℓ : Loc nD τ sig) → Buf (Elt Ideal) ℓ) (c : Dev nD)

/-- The arguments, as arrays. -/
abbrev argX : FVec Ideal S8192x2048 .bf16 := m ((c : Thread nD τ).loc main_arg0)
abbrev argW : FVec Ideal S2048x4112 .f32 := m ((c : Thread nD τ).loc main_arg1)

variable (t : Fin cfg0.N)

/-- The array's row and column at row `r` and column `j` of the point's block. -/
abbrev rowOf (r : Fin 1024) : Fin 8192 := ⟨t.val % 8 * 1024 + r.val, by omega⟩
abbrev colOf (j : Fin 1024) : Fin 2048 := ⟨t.val / 8 * 1024 + j.val, by have := (idx t).2.2.2.2; omega⟩

theorem read0 (r : Fin 1024) (k : Fin 2048) : iblk m c 0 t (ix2 r k) = argX m c (ix2 (rowOf t r) k) := by
  blk_ext [iblk, V, idx t]

theorem read1 (k : Fin 2048) (j : Fin 1024) : X0_1 m c t (ix2 k j) = argW m c (ix2 k ⟨2048 + (colOf t j).val, by omega⟩) := by
  unfold X0_1 Pipeline.Window.fill
  rw [dif_pos (moved0_1 t _)]
  blk_ext [iblk, V, idx t]

/-- The kept weights at every point are the point's own block of columns. -/
theorem held (k : Fin 2048) (j : Fin 1024) :
    (outsAt0 m c t.val t.isLt).2.2 (ix2 k j) = argW m c (ix2 k ⟨2048 + (colOf t j).val, by omega⟩) := by
  refine (Pipeline.eq_of_write_hold_apply (fun n h => (outsAt0 m c n h).2.2) 8 (fun t => k0_pay1 (F := Ideal) (X0_1 m c t)) (fun t h i => ?_) (fun t h i => ?_) t (ix2 k j)).trans ?_
  · simp only [outsAt0_A m c t h]
    frame_out
  · simp only [outsAt0_B m c t h]
    rfl
  · rw [pay1_at, read1]
    congr 2
    simp [colOf, Nat.mul_div_cancel_left]

/-- What a point leaves in the two results' blocks: the body's result over the kept weights. -/
theorem left (r : Fin 1024) (j : Fin 1024) :
    (outsAt0 m c t.val t.isLt).1 (ix2 r j) = k0_pay2 (F := Ideal) (iblk m c 0 t) (outsAt0 m c t.val t.isLt).2.2 (ix2 r j)
    ∧ (outsAt0 m c t.val t.isLt).2.1 (ix2 r j) = k0_pay2 (F := Ideal) (iblk m c 0 t) (outsAt0 m c t.val t.isLt).2.2 (ix2 r j) := by
  by_cases h : t.val % 8 = 0
  · simp only [outsAt0_A m c t h]
    constructor <;> frame_out <;> rfl
  · simp only [outsAt0_B m c t h]
    constructor <;> frame_out <;> simp only [read_unread_whole] <;> rfl

/-- The body's result over the kept weights is the reference's entry. -/
theorem point (r : Fin 1024) (j : Fin 1024) :
    k0_pay2 (F := Ideal) (iblk m c 0 t) (outsAt0 m c t.val t.isLt).2.2 (ix2 r j) = reference (argX m c) (argW m c) (ix2 (rowOf t r) (colOf t j)) := by
  rw [reference_at, pay2_at]
  simp only [read0, held]
  rfl

/-- THE RESULT in the wider precision: the output array after the run is the reference's. -/
theorem final_wide : (dats m 0 c).arrAt 2 cfg0.N = reference (argX m c) (argW m c) := by
  refine (dats m 0 c).arrAt_eq_of_covers 2 _ (by decide +kernel) fun t _ y => ?_
  blk_simp
  idx_vars y
  have he : ((View.whole main_v0_0).slice (win0_2.rect t)).emb (ix2 y0 y1) = ix2 (rowOf t y0) (colOf t y1) := by
    blk_ext [idx t]
  rw [he, after0_2, (left m c t y0 y1).1, point]

/-- THE RESULT in the narrower precision. -/
theorem final_narrow : (dats m 0 c).arrAt 3 cfg0.N = truncf .bf16 (reference (argX m c) (argW m c)) bitsLt_bf16_f32 := by
  refine (dats m 0 c).arrAt_eq_of_covers 3 _ (by decide +kernel) fun t _ y => ?_
  blk_simp
  idx_vars y
  have he : ((View.whole main_v0_1).slice (win0_3.rect t)).emb (ix2 y0 y1) = ix2 (rowOf t y0) (colOf t y1) := by
    blk_ext [idx t]
  rw [he, after0_3, (left m c t y0 y1).2, point]
  rfl

end Cert.Values

end
-- ==== Proof.GroupedKitIdeal.lean ====
/-
# The grouped product's launch: tables, blocks, staging memrefs

What the frame of the routed experts' gate and up product is stated over: the buffers the pipeline finds after the host
operations, the prefetched tables read off them, each window's block at a grid point, and the kernel body as the pipeline
calls it. Everything holds at any float instance.
-/
module

public import proofs.«01_k».proof.Proof.Gen.Kernel7Ideal.Launch
public import proofs.«01_k».proof.Proof.Gen.Kernel7Ideal.Skeleton
public import Idealize.ShloMosaic.Lib.Pipeline.Kit
public import Idealize.ShloMosaic.Lib.Pipeline.FrameBody
public import Idealize.ShloMosaic.Lib.Ring
public import Idealize.ShloMosaic.Lib.Tactic
public import Idealize.ShloMosaic.Lib.WordCmp
public import Idealize.ShloMosaic.Lib.VecWindow

@[expose] public section

set_option maxRecDepth 16384

noncomputable section

namespace Cert.Kernel7Ideal.Grouped

open Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 3) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S40 .i32 := Memref.whole main_arg2
abbrev htbM0_0 : tbM0_0.IsWhole := Memref.isWhole_whole _
abbrev tbM0_1 : Memref sig .tc .smem S40 .i32 := Memref.whole main_v5
abbrev htbM0_1 : tbM0_1.IsWhole := Memref.isWhole_whole _
abbrev tbM0_2 : Memref sig .tc .smem S40 .i32 := Memref.whole main_arg3
abbrev htbM0_2 : tbM0_2.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp 𝕄) = iprop(tbPt0 c tbM0_0 (tbl m 0) ∗ tbPt0 c tbM0_1 (tbl m 1) ∗ tbPt0 c tbM0_2 (tbl m 2)) := by
  unfold Pipeline.ΦT Pipeline.prefHeld
  rw [show (Finset.univ : Finset (Fin 3)) = insert (0 : Fin 3) (insert (1 : Fin 3) {(2 : Fin 3)}) from by decide,
    bigSep_insert (by decide), bigSep_insert (by decide), bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post (`Cert.frame_Kernel7Ideal`, Defs.lean, at any `F`). -/
theorem frame_of (hO : Ok m) (dats : (p : Fin 1) → (c : Dev nD) → Dat τ (Elt F) Unit ℕ (UR sig nD τ) ℕ ((Pipeline.pin pcfgs fun _ => adm m hO) p) c)
    (hA : ∀ c w, (dats 0 c).A w = V m c (Pipeline.arrRef spec0 w))
    (h : θ_run defs (onTc (τ := τ) (main (F := F))) (s₀ m ρ) (Pipeline.FramePost (Pipeline.pin pcfgs fun _ => adm m hO) dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).1 0).trans (((dats 0 c).arrAt_in 0 rfl _).trans ((hA c 0).trans (V_main_arg0 m c))),
      ((h c).1 2).trans (((dats 0 c).arrAt_in 2 rfl _).trans ((hA c 2).trans (V_main_arg1 m c))),
      ((h c).2 main_arg2 (by decide : main_arg2 ∈ Pipeline.restRefs sig spec0)).trans (V_main_arg2 m c),
      ((h c).2 main_arg3 (by decide : main_arg3 ∈ Pipeline.restRefs sig spec0)).trans (V_main_arg3 m c)⟩) h

/-- Window 0 (operand 3 (%arg0)) is fetched at every point, at any contents of the tables (its index map reads none). -/
theorem fetch0_0 (a : (pcfg0 (F := F)).Adm) : ∀ t : Fin (cfg0 a).N, ((cfg0 a).win 0).fetch t = true :=
  (fun t => (Pipeline.Window.fetchOf_reads cc0_transform_0 reads0_0 hreads0_0 1 (by decide) (by decide) (Pipeline.Window.sep_of_coord cc0_transform_0 1 0 (fun _ => rfl) (by decide)) (P := 1) (by decide) t).mpr (Nat.mod_one _) : ∀ t : Fin grid0.N, Pipeline.Window.fetchOf grid0 false cc0_transform_0 t = true)
/-- Window 3 (result 0 (%6)) is written back at every point, at any contents of the tables (its index map reads none). -/
theorem flush0_3 (a : (pcfg0 (F := F)).Adm) : ∀ t : Fin (cfg0 a).N, ((cfg0 a).win 3).flush t = true :=
  (fun t => (Pipeline.Window.flushOf_reads cc0_transform_3 reads0_3 hreads0_3 1 (by decide) (by decide) (Pipeline.Window.sep_of_coord cc0_transform_3 1 0 (fun _ => rfl) (by decide)) (P := 1) (m := 0) (by decide) rfl t).mpr (Nat.mod_one _) : ∀ t : Fin grid0.N, Pipeline.Window.flushOf grid0 true cc0_transform_3 t = true)

/-- The current staging memref of each window at point `t`: which of its buffers it is on. -/
abbrev st0_0 (a : (pcfg0 (F := F)).Adm) (t : Fin (cfg0 a).N) := ((cfg0 a).win 0).stage ((cfg0 a).slots t 0)
abbrev st0_1 (a : (pcfg0 (F := F)).Adm) (t : Fin (cfg0 a).N) := ((cfg0 a).win 1).stage ((cfg0 a).slots t 1)
abbrev st0_2 (a : (pcfg0 (F := F)).Adm) (t : Fin (cfg0 a).N) := ((cfg0 a).win 2).stage ((cfg0 a).slots t 2)
abbrev st0_3 (a : (pcfg0 (F := F)).Adm) (t : Fin (cfg0 a).N) := ((cfg0 a).win 3).stage ((cfg0 a).slots t 3)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_moe_gu (grid0.coords t) (Memref.whole main_arg2) (Memref.isWhole_whole _) (Memref.whole main_v5) (Memref.isWhole_whole _) (Memref.whole main_arg3) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (Memref.whole cc0_scratch0) (Memref.isWhole_whole _) (Memref.whole cc0_scratch1) (Memref.isWhole_whole _)

/-! ## The kernel body on any staging memrefs: a subtype the run finds -/

/-- One staging buffer of output window 3, through which its contents are stated (`View.read_writes_of_cover`: the
    choice does not matter). -/
abbrev VO0_3 : View sig .tc .vmem S512x1408 .bf16 := (Memref.whole cc0_stg3_0 : Memref sig .tc .vmem S512x1408 .bf16).view
/-- Each window's current staging memref at point `t`, spelled as the pipeline passes it (`bodyAt0`), and its wholeness. -/
abbrev ms0_0 (hO : Ok m) (t : Fin (cfgM m hO).N) : Memref sig .tc .vmem S512x2048 .bf16 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x1x2048x1408 .f32 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x1x2048x1408 .f32 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S512x1408 .bf16 := spec0_3.stage ((cfgM m hO).slots t 3)
abbrev hs0_3 (hO : Ok m) (t : Fin (cfgM m hO).N) : (ms0_3 m hO t).IsWhole := hstage0_3 (((cfgM m hO).slots t 3).cast nbuf0_3)
/-- The scratch operands: whole scoped buffers of the kernel's own, passed beside the windows. -/
abbrev scM0_0 : Memref sig .tc .vmem S2048x1408 .bf16 := Memref.whole cc0_scratch0
abbrev scM0_1 : Memref sig .tc .vmem S2048x1408 .bf16 := Memref.whole cc0_scratch1

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.Kernel7Ideal.Grouped

end
-- ==== Proof.GroupedRunIdeal.lean ====
/-
# The grouped product's body at one grid point

The four ways the body runs — the weights narrowed afresh or carried, the tile used or padding — with what each leaves in the
output's block and in the two carried weight buffers.
-/
module

public import proofs.«01_k».proof.Proof.GroupedKitIdeal

@[expose] public section

set_option maxRecDepth 16384

noncomputable section

namespace Cert.Kernel7Ideal.Grouped

open Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The word of the second table that the body reads at grid point `i`: whether the tile is its expert's first. -/
def firstW (c : Dev nD) (i : grid0.Coords) (xt1 : TbBuf0 (F := F) c tbM0_1) : Elt F .i32 :=
  View.readAt (Elt F) tbM0_1.view (Rect.unit (s := S40) (k0_off1 i) S1.size (k0_off1_inb i)).toLoadRect xt1 (Shape.Idx.first (numel1_S1.symm ▸ Nat.one_pos))

/-- The word of the third table, read before the product: whether the tile is used. -/
def usedW (c : Dev nD) (i : grid0.Coords) (xt2 : TbBuf0 (F := F) c tbM0_2) : Elt F .i32 :=
  View.readAt (Elt F) tbM0_2.view (Rect.unit (s := S40) (k0_off2 i) S1.size (k0_off2_inb i)).toLoadRect xt2 (Shape.Idx.first (numel1_S1.symm ▸ Nat.one_pos))

/-- The same word, read again before the zeros are stored. -/
def padW (c : Dev nD) (i : grid0.Coords) (xt2 : TbBuf0 (F := F) c tbM0_2) : Elt F .i32 :=
  View.readAt (Elt F) tbM0_2.view (Rect.unit (s := S40) (k0_off3 i) S1.size (k0_off3_inb i)).toLoadRect xt2 (Shape.Idx.first (numel1_S1.symm ▸ Nat.one_pos))

/-- The body's first condition on its word. -/
abbrev IsFirst (w : BitVec 32) : Prop := Scalar.cmpi .ne (Scalar.extui (Scalar.cmpi .eq w 1#32)) 0#32 = 1#1

/-- What a carried weight buffer holds after a point: the point's own narrowed weights `p` where the tile is its expert's
    first, what it held (`s`) elsewhere. -/
def carry (c : Dev nD) (i : grid0.Coords) (xt1 : TbBuf0 (F := F) c tbM0_1) (p s : Vec F S2048x1408 .bf16) : Vec F S2048x1408 .bf16 :=
  if IsFirst (firstW c i xt1) then p else s

/-- What the output's block holds after a point: zeros on a padding tile, the gated product on a used one. -/
def outOf (c : Dev nD) (i : grid0.Coords) (xt2 : TbBuf0 (F := F) c tbM0_2) (x0 : Vec F S512x2048 .bf16) (w1 w2 : Vec F S2048x1408 .bf16)
    (x3 : Vec F S512x1408 .bf16) : Vec F S512x1408 .bf16 :=
  if k0_cond3 (padW c i xt2) = 1#1 then k0_pay4 else if k0_cond2 (usedW c i xt2) = 1#1 then k0_pay3 x0 w1 w2 else x3

/-- Reading a buffer that one of two branches left. -/
theorem read_dite {κ : Kind} {sp : Space} {S : Shape} {e : EltTy} (v : View sig κ sp S e) (p : Prop) [Decidable p] (f g : v.ty.Contents (Elt F)) :
    v.read (Elt F) (if hc : p then f else g) = if p then v.read (Elt F) f else v.read (Elt F) g := by
  split <;> rfl

set_option maxHeartbeats 1000000 in
/-- The body's triple at a grid point, on whole staging memrefs and any contents of the tables. -/
theorem run (c : Dev nD) (i : grid0.Coords) (arg5 : Memref sig .tc .vmem S512x2048 .bf16) (harg5 : arg5.IsWhole) (arg6 : Memref sig .tc .vmem S1x1x2048x1408 .f32) (harg6 : arg6.IsWhole) (arg7 : Memref sig .tc .vmem S1x1x2048x1408 .f32) (harg7 : arg7.IsWhole) (arg8 : Memref sig .tc .vmem S512x1408 .bf16) (harg8 : arg8.IsWhole) (arg9 : Memref sig .tc .vmem S2048x1408 .bf16) (harg9 : arg9.IsWhole) (arg10 : Memref sig .tc .vmem S2048x1408 .bf16) (harg10 : arg10.IsWhole)
    (x0 : Vec F S512x2048 .bf16) (x1 : Vec F S1x1x2048x1408 .f32) (x2 : Vec F S1x1x2048x1408 .f32) (x3 : Vec F S512x1408 .bf16) (s0 s1 : Vec F S2048x1408 .bf16)
    (xt0 : TbBuf0 (F := F) c tbM0_0) (xt1 : TbBuf0 (F := F) c tbM0_1) (xt2 : TbBuf0 (F := F) c tbM0_2)
    (E : Set ℕ) (K : PUnit → sProp 𝕄) :
    iprop(owns (c : Thread nD τ) arg5 fullShare x0 ∗ owns (c : Thread nD τ) arg6 fullShare x1 ∗ owns (c : Thread nD τ) arg7 fullShare x2
        ∗ owns (c : Thread nD τ) arg8 fullShare x3 ∗ owns (c : Thread nD τ) arg9 fullShare s0 ∗ owns (c : Thread nD τ) arg10 fullShare s1
        ∗ tbPt0 c tbM0_0 xt0 ∗ tbPt0 c tbM0_1 xt1 ∗ tbPt0 c tbM0_2 xt2
        ∗ (iprop(owns (c : Thread nD τ) arg5 fullShare x0 ∗ owns (c : Thread nD τ) arg6 fullShare x1 ∗ owns (c : Thread nD τ) arg7 fullShare x2
            ∗ owns (c : Thread nD τ) arg8 fullShare (outOf c i xt2 x0 (carry c i xt1 (k0_pay1 x1) s0) (carry c i xt1 (k0_pay2 x2) s1) x3)
            ∗ owns (c : Thread nD τ) arg9 fullShare (carry c i xt1 (k0_pay1 x1) s0) ∗ owns (c : Thread nD τ) arg10 fullShare (carry c i xt1 (k0_pay2 x2) s1)
            ∗ tbPt0 c tbM0_0 xt0 ∗ tbPt0 c tbM0_1 xt1 ∗ tbPt0 c tbM0_2 xt2) -∗ K ⟨⟩))
      ⊢ wp frame (wpE (defs₀ (F := F)) Variants.none c none) E (cc0_moe_gu i tbM0_0 htbM0_0 tbM0_1 htbM0_1 tbM0_2 htbM0_2 arg5 harg5 arg6 harg6 arg7 harg7 arg8 harg8 arg9 harg9 arg10 harg10) K := by
  simp only [cc0_moe_gu_eq_skeleton]; unfold cc0_moe_gu_skel
  unfold owns
  iintro ⟨⟨%f0, %hf0, H0⟩, ⟨%f1, %hf1, H1⟩, ⟨%f2, %hf2, H2⟩, ⟨%f3, %hf3, H3⟩, ⟨%g0, %hg0, HS0⟩, ⟨%g1, %hg1, HS1⟩, HT0, HT1, HT2, Hk⟩
  obtain rfl := harg5.eq_unread hf0; obtain rfl := harg6.eq_unread hf1; obtain rfl := harg7.eq_unread hf2
  sl_exec
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; swap; · iexact H3
    ipureintro
    unfold run.sl.v16 run.sl.v18 run.sl.v4 run.sl.v3 run.sl.v2 run.sl.r_2 run.sl.r_1
    have e6 : View.readAt (Elt F) arg6.view (Rect.unit (s := S1x1x2048x1408) ![0, 0, 0, 0] S1x1x2048x1408.size inb_S1x1x2048x1408_S1x1x2048x1408_0_0_0_0).toLoadRect (harg6.unread x1) = x1 := (View.readAt_full _ _ _).trans hf1
    have e7 : View.readAt (Elt F) arg7.view (Rect.unit (s := S1x1x2048x1408) ![0, 0, 0, 0] S1x1x2048x1408.size inb_S1x1x2048x1408_S1x1x2048x1408_0_0_0_0).toLoadRect (harg7.unread x2) = x2 := (View.readAt_full _ _ _).trans hf2
    have e5 : View.readAt (Elt F) arg5.view (Rect.unit (s := S512x2048) ![0, 0] S512x2048.size inb_S512x2048_S512x2048_0_0).toLoadRect (harg5.unread x0) = x0 := (View.readAt_full _ _ _).trans hf0
    rw [e5, e6, e7]
    unfold outOf
    refine (read_dite ..).trans (ite_congr rfl (fun _ => View.read_writes_full ..) fun _ => ?_)
    refine (read_dite ..).trans (ite_congr rfl (fun _ => (View.read_writes_full ..).trans ?_) fun _ => hf3)
    refine congrArg₂ (k0_pay3 x0) ?_ ?_
    · exact (View.readAt_full ..).trans ((read_dite ..).trans (ite_congr rfl (fun _ => View.read_writes_full ..) fun _ => hg0))
    · exact (View.readAt_full ..).trans ((read_dite ..).trans (ite_congr rfl (fun _ => View.read_writes_full ..) fun _ => hg1))
  isplitl [HS0]
  · iexists _; isplitr; swap; · iexact HS0
    ipureintro
    unfold run.sl.v4 run.sl.v3 run.sl.v2
    have e : View.readAt (Elt F) arg6.view (Rect.unit (s := S1x1x2048x1408) ![0, 0, 0, 0] S1x1x2048x1408.size inb_S1x1x2048x1408_S1x1x2048x1408_0_0_0_0).toLoadRect (harg6.unread x1) = x1 := (View.readAt_full _ _ _).trans hf1
    rw [e]
    exact (read_dite ..).trans (ite_congr rfl (fun _ => View.read_writes_full ..) fun _ => hg0)
  isplitl [HS1]
  · iexists _; isplitr; swap; · iexact HS1
    ipureintro
    unfold run.sl.v4 run.sl.v3 run.sl.v2
    have e : View.readAt (Elt F) arg7.view (Rect.unit (s := S1x1x2048x1408) ![0, 0, 0, 0] S1x1x2048x1408.size inb_S1x1x2048x1408_S1x1x2048x1408_0_0_0_0).toLoadRect (harg7.unread x2) = x2 := (View.readAt_full _ _ _).trans hf2
    rw [e]
    exact (read_dite ..).trans (ite_congr rfl (fun _ => View.read_writes_full ..) fun _ => hg1)
  isplitl [HT0]; · iexact HT0
  isplitl [HT1]; · iexact HT1
  iexact HT2

end Cert.Kernel7Ideal.Grouped

end
-- ==== Proof.GroupedFrameIdeal.lean ====
/-
# The grouped product's frame

The pipeline's proof data with the two narrowed weight blocks carried from point to point, the body's obligation at every
point, and the run: the output block by block, every argument unchanged. It holds for tables under `Good`.
-/
module

public import proofs.«01_k».proof.Proof.GroupedRunIdeal
public import Idealize.ShloMosaic.Lib.Claim

@[expose] public section

set_option maxRecDepth 16384

noncomputable section

namespace Cert.Kernel7Ideal.Grouped

open Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The point before a point (the first one for the first). -/
abbrev prev (hO : Ok m) (t : Fin (cfgM m hO).N) : Fin (cfgM m hO).N := ⟨t.val - 1, Nat.lt_of_le_of_lt (Nat.sub_le _ _) t.isLt⟩

/-- The narrowed gate weights of a point, -/
def wg (hO : Ok m) (c : Dev nD) (t : Fin (cfgM m hO).N) : Vec F S2048x1408 .bf16 := k0_pay1 (iblk m hO c 1 t)
/-- and its up weights. -/
def wu (hO : Ok m) (c : Dev nD) (t : Fin (cfgM m hO).N) : Vec F S2048x1408 .bf16 := k0_pay2 (iblk m hO c 2 t)

/-- What the frame needs of the tables beside the blocks being inside their array: at a point that does not narrow its
    weights there is a point before it, with the same weights; and every tile is used or padding. -/
structure Good (hO : Ok m) : Prop where
  carried : ∀ (c : Dev nD) (t : Fin (cfgM m hO).N), ¬ IsFirst (firstW c (grid0.coords t) (tbl m 1)) →
    t.val ≠ 0 ∧ wg m hO c t = wg m hO c (prev m hO t) ∧ wu m hO c t = wu m hO c (prev m hO t)
  stored : ∀ (c : Dev nD) (t : Fin (cfgM m hO).N),
    k0_cond3 (padW c (grid0.coords t) (tbl m 2)) = 1#1 ∨ k0_cond2 (usedW c (grid0.coords t) (tbl m 2)) = 1#1

/-- What the output's staging buffer holds after a point. -/
def outAt (hO : Ok m) (c : Dev nD) (t : Fin (cfgM m hO).N) : Vec F S512x1408 .bf16 :=
  outOf c (grid0.coords t) (tbl m 2) (iblk m hO c 0 t) (wg m hO c t) (wu m hO c t) k0_pay4

variable {m}

theorem carry_wg {hO : Ok m} (hg : Good m hO) (c : Dev nD) (t : Fin (cfgM m hO).N) (s : Vec F S2048x1408 .bf16)
    (hs : t.val ≠ 0 → s = wg m hO c (prev m hO t)) : carry c (grid0.coords t) (tbl m 1) (k0_pay1 (iblk m hO c 1 t)) s = wg m hO c t := by
  unfold carry
  split
  · rfl
  · next h => obtain ⟨h0, h1, -⟩ := hg.carried c t h; rw [hs h0, h1]

theorem carry_wu {hO : Ok m} (hg : Good m hO) (c : Dev nD) (t : Fin (cfgM m hO).N) (s : Vec F S2048x1408 .bf16)
    (hs : t.val ≠ 0 → s = wu m hO c (prev m hO t)) : carry c (grid0.coords t) (tbl m 1) (k0_pay2 (iblk m hO c 2 t)) s = wu m hO c t := by
  unfold carry
  split
  · rfl
  · next h => obtain ⟨h0, -, h2⟩ := hg.carried c t h; rw [hs h0, h2]

theorem outOf_eq {hO : Ok m} (hg : Good m hO) (c : Dev nD) (t : Fin (cfgM m hO).N) (x3 : Vec F S512x1408 .bf16) :
    outOf c (grid0.coords t) (tbl m 2) (iblk m hO c 0 t) (wg m hO c t) (wu m hO c t) x3 = outAt m hO c t := by
  unfold outAt outOf
  rcases hg.stored c t with h | h
  · rw [if_pos h, if_pos h]
  · rw [if_pos h, if_pos h]

variable (m)

/-- The region's invariant before position `n`: at the start the scratch at anything; afterwards the two weight buffers at
    the weights of the point before; the tables' halves throughout. -/
def PhiS (hO : Ok m) (c : Dev nD) : (n : ℕ) → n ≤ (cfgM m hO).N → sProp 𝕄
  | 0, _ => iprop(Pipeline.ΦA spec0 c ∗ Pipeline.ΦT pre0 (tbl m) c)
  | n + 1, hn => iprop(iprop(iprop(owns (c : Thread nD τ) scM0_0 fullShare (wg m hO c ⟨n, hn⟩) ∗ owns (c : Thread nD τ) scM0_1 fullShare (wu m hO c ⟨n, hn⟩))
      ∗ (∃ r, prngReg c r)) ∗ Pipeline.ΦT pre0 (tbl m) c)

theorem PhiS_zero (hO : Ok m) (c : Dev nD) (n : ℕ) (h : n ≤ (cfgM m hO).N) (hz : n = 0) :
    PhiS m hO c n h = iprop(Pipeline.ΦA spec0 c ∗ Pipeline.ΦT pre0 (tbl m) c) := by
  subst hz; rfl

theorem PhiS_pos (hO : Ok m) (c : Dev nD) (n : ℕ) (h : n ≤ (cfgM m hO).N) (hz : n ≠ 0) :
    PhiS m hO c n h = iprop(iprop(iprop(owns (c : Thread nD τ) scM0_0 fullShare (wg m hO c ⟨n - 1, by omega⟩)
      ∗ owns (c : Thread nD τ) scM0_1 fullShare (wu m hO c ⟨n - 1, by omega⟩)) ∗ (∃ r, prngReg c r)) ∗ Pipeline.ΦT pre0 (tbl m) c) := by
  cases n with
  | zero => exact absurd rfl hz
  | succ n => rfl

/-- The proof data of the one pipeline on core `c`. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => outAt m hO c t
  Φ t := PhiS m hO c t.val (Nat.le_of_lt_succ t.isLt)
  q w := Pipeline.shareOf spec0 w
  owed _ := 0

theorem A_eq (hO : Ok m) (c : Dev nD) (w : Fin (cfgM m hO).W) : (dats m hO 0 c).A w = V m c (Pipeline.arrRef spec0 w) := by
  dsimp only [dats]

theorem PhiS_castSucc (hO : Ok m) (c : Dev nD) (t : Fin (cfgM m hO).N) :
    (dats m hO 0 c).Φ t.castSucc = PhiS m hO c t.val (Nat.le_of_lt t.isLt) := by
  dsimp only [dats]; exact Pipeline.Dat.Φ_castSucc (PhiS m hO c) t

theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = outAt m hO c t := by dsimp only [dats]; try rfl

theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d

/-- What the body is called with at point `t`, -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d)))

/-- and what it returns. -/
def bodyPost (hO : Ok m) (c : Dev nD) (t : Fin (cfgM m hO).N) : sProp 𝕄 :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ owns (c : Thread nD τ) (ms0_2 m hO t) fullShare ((dats m hO 0 c).after 2 t)
    ∗ owns (c : Thread nD τ) (ms0_3 m hO t) fullShare ((dats m hO 0 c).after 3 t))

/-- The scratch before a point, at some contents that are the weights of the point before it where there is one. -/
theorem scratch_before (hO : Ok m) (c : Dev nD) (t : Fin (cfgM m hO).N) :
    (dats m hO 0 c).Φ t.castSucc ⊢ iprop(∃ s0, ∃ s1, ⌜(t.val ≠ 0 → s0 = wg m hO c (prev m hO t)) ∧ (t.val ≠ 0 → s1 = wu m hO c (prev m hO t))⌝
      ∗ owns (c : Thread nD τ) scM0_0 fullShare s0 ∗ owns (c : Thread nD τ) scM0_1 fullShare s1 ∗ (∃ r, prngReg c r) ∗ Pipeline.ΦT pre0 (tbl m) c) := by
  rw [PhiS_castSucc]
  by_cases hz : t.val = 0
  · rw [PhiS_zero m hO c _ _ hz, PhiA0_eq]
    iintro ⟨⟨⟨⟨%s0, HS0⟩, ⟨%s1, HS1⟩⟩, Hg⟩, HT⟩
    iexists s0; iexists s1; isplitr
    · ipureintro; exact ⟨fun h => absurd hz h, fun h => absurd hz h⟩
    isplitl [HS0]; · iexact HS0
    isplitl [HS1]; · iexact HS1
    isplitl [Hg]; · iexact Hg
    iexact HT
  · rw [PhiS_pos m hO c _ _ hz]
    iintro ⟨⟨⟨HS0, HS1⟩, Hg⟩, HT⟩
    iexists _; iexists _; isplitr
    swap
    · isplitl [HS0]; · iexact HS0
      isplitl [HS1]; · iexact HS1
      isplitl [Hg]; · iexact Hg
      iexact HT
    ipureintro; exact ⟨fun _ => rfl, fun _ => rfl⟩

set_option maxHeartbeats 1600000 in
/-- The body at any point. -/
theorem sound_body (hO : Ok m) (hg : Good m hO) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2]
  rw [show (dats m hO 0 c).owesAt () t.succ = (dats m hO 0 c).owesAt () t.castSucc from rfl,
    after0_0, after0_1, after0_2, after0_3]
  rw [show (dats m hO 0 c).Φ t.succ = PhiS m hO c (t.val + 1) t.isLt from rfl, PhiS_pos m hO c _ _ (Nat.succ_ne_zero _)]
  refine (sep_mono (scratch_before m hO c t) .rfl).trans ?_
  rw [PhiT0_eq]
  iintro ⟨⟨%s0, %s1, %hs, HS0, HS1, Hg, ⟨HT0, HT1, HT2⟩⟩, Ho, ⟨%d0, H0⟩, ⟨%d1, H1⟩, ⟨%d2, H2⟩, ⟨%d3, H3⟩⟩
  have e1 := carry_wg hg c t s0 hs.1
  have e2 := carry_wu hg c t s1 hs.2
  iapply (run c (grid0.coords t) _ _ _ _ _ _ _ _ _ _ _ _ (iblk m hO c 0 t) (iblk m hO c 1 t) (iblk m hO c 2 t) _ s0 s1 (tbl m 0) (tbl m 1) (tbl m 2) Set.univ _)
  isplitl [H0]; · iexact H0
  isplitl [H1]; · iexact H1
  isplitl [H2]; · iexact H2
  isplitl [H3]; · iexact H3
  isplitl [HS0]; · iexact HS0
  isplitl [HS1]; · iexact HS1
  isplitl [HT0]; · iexact HT0
  isplitl [HT1]; · iexact HT1
  isplitl [HT2]; · iexact HT2
  rw [e1, e2]
  iintro ⟨H0, H1, H2, H3, HS0, HS1, HT0, HT1, HT2⟩
  isplitl [HS0 HS1 Hg HT0 HT1 HT2]
  · isplitl [HS0 HS1 Hg]
    · isplitl [HS0 HS1]
      · isplitl [HS0]; · iexact HS0
        iexact HS1
      iexact Hg
    isplitl [HT0]; · iexact HT0
    isplitl [HT1]; · iexact HT1
    iexact HT2
  isplitl [Ho]; · iexact Ho
  isplitl [H0]; · iexact H0
  isplitl [H1]; · iexact H1
  isplitl [H2]; · iexact H2
  rw [← outOf_eq hg c t ((dats m hO 0 c).before 3 t d3)]
  iexact H3

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- A window written back at a point is described there at what the body leaves. -/
theorem leaves_of_flush (b f : Bool) (P Q : sProp 𝕄) : f = true → Q ⊢ match b with
      | true => match f with
        | false => P
        | true => Q
      | false => Q := by
  rintro rfl; cases b <;> exact .rfl

/-- The library's body obligation, at every point: the output is written back at every point, so that it is described there
    whether or not the point's own words say that the body stores into it. -/
theorem body_obligation (hO : Ok m) (hg : Good m hO) (c : Dev nD) : BodyObligation (dats (F := F) m hO 0 c) (defs₀ (F := F)) Variants.none () Set.univ := fun t => by
  rw [bigSep_W0, bigSep_W0, defs₀_row m hO]
  refine triple_restated (sound_body m hO hg c t) rfl .rfl fun _ => ?_
  have hf := flush0_3 (adm m hO) t
  exact sep_mono .rfl (sep_mono .rfl (sep_mono .rfl (sep_mono .rfl (sep_mono .rfl (leaves_of_flush _ _ _ _ hf)))))

/-- What the launch hands the region is the invariant before the first point. -/
theorem hin (hO : Ok m) (c : Dev nD) : iprop(Pipeline.ΦA spec0 c ∗ Pipeline.ΦT pre0 (tbl m) c) ⊢ (dats m hO 0 c).Φ 0 := by
  rw [show (dats m hO 0 c).Φ 0 = PhiS m hO c 0 (Nat.zero_le _) from rfl, PhiS_zero m hO c 0 _ rfl]

/-- After the last point the invariant gives the scratch back, its contents forgotten. -/
theorem hout (hO : Ok m) (c : Dev nD) : (dats m hO 0 c).Φ (Fin.last (cfgM m hO).N) ⊢ Pipeline.ΦA spec0 c := by
  rw [show (dats m hO 0 c).Φ (Fin.last (cfgM m hO).N) = PhiS m hO c (cfgM m hO).N (Nat.le_refl _) from rfl,
    PhiS_pos m hO c _ _ (by have : (cfgM m hO).N = 80 := N_0; omega), PhiA0_eq]
  iintro ⟨⟨⟨HS0, HS1⟩, Hg⟩, -⟩
  isplitl [HS0 HS1]
  · isplitl [HS0]
    · iexists _; iexact HS0
    iexists _; iexact HS1
  iexact Hg

set_option backward.isDefEq.respectTransparency.types false in
/-- The launch: every array at what the proof data says, every counter at zero. -/
theorem run_main_quiescent (hO : Ok m) (hg : Good m hO) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP_track_shared (Q' := _) pcfgs (fun _ => adm m hO) (dats m hO) (0 : Fin 1) launch₀0 defs₀ Variants.none m ρ main
    (hbody := fun c => (body_obligation m hO hg c).loose) (hq := fun _ _ _ => rfl)
    (howed := fun _ _ => rfl) (V := V m) (hmain := hmain m Variants.none) (hA := A_eq m hO) (hpf := V_pre m)
    (hin := hin m hO) (hout := hout m hO)

theorem run_main (hO : Ok m) (hg : Good m hO) : θ_run defs (onTc (τ := τ) (main (F := F))) (s₀ m ρ) (Pipeline.FramePost (Pipeline.pin pcfgs fun _ => adm m hO) (dats m hO) 0 (V m)) :=
  (θ_run defs _ _).mono (fun _ h => h.1) (run_main_quiescent m ρ hO hg)

/-- The frame, for tables under `Good`. -/
theorem frame_of_good (hO : Ok m) (hg : Good m hO) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ hO (dats m hO) (A_eq m hO) (run_main m ρ hO hg)) ((θ_run defs _ _).mono (fun _ h => h.2) (run_main_quiescent m ρ hO hg))

end Cert.Kernel7Ideal.Grouped

end
-- ==== Proof.GroupedTablesIdeal.lean ====
/-
# The grouped product's tables

What the precondition says of the two integer arguments, and what follows for the launch: every weights block lies inside
the weights, a tile that is not its expert's first has the tile before it in the same expert, and every tile is used or
padding.
-/
module

public import proofs.«01_k».proof.Proof.GroupedFrameIdeal
public import proofs.«01_k».proof.Proof.Gen.Pre_tables
public import Idealize.ShloMosaic.Lib.ReduceAll
public import Idealize.ShloMosaic.Lib.Affine
public import Idealize.ShloMosaic.Lib.Pointwise

@[expose] public section

set_option maxRecDepth 16384

noncomputable section

namespace Cert.Kernel7Ideal.Grouped

open Gen
open Idealize.ShloMosaic Idealize.ShloMosaic.TcCoe Idealize.ShloMosaic.Tactic

variable {F : FTy → Type} [FloatOps F]

variable (m : (ℓ : Loc nD τ sig) → Buf (Elt F) ℓ)

/-- The tables' entry of a grid point: its row tile. -/
abbrev tile (i : grid0.Coords) : S40.Idx := ix1 (⟨(i 1).val, (i 1).isLt⟩ : Fin 40)

/-- A table as the launch memory holds it: the expert of each tile, -/
abbrev expert (k : S40.Idx) : BitVec 32 := m (((0 : Dev nD) : Thread nD τ).loc main_arg2) k
/-- and whether the tile is used. -/
abbrev valid (k : S40.Idx) : BitVec 32 := m (((0 : Dev nD) : Thread nD τ).loc main_arg3) k

/-- The experts are experts, and the flags are flags. -/
structure TablesOk : Prop where
  expert_lt : ∀ k, (expert m k).toNat < 8
  flag : ∀ k, valid m k = 0#32 ∨ valid m k = 1#32

theorem emb_tile : ∀ i : grid0.Coords, (Rect.unit (s := S40) (k0_off1 i) S1.size (k0_off1_inb i)).emb (Shape.Idx.first (numel1_S1.symm ▸ Nat.one_pos)) = tile i := by
  decide +kernel

theorem firstW_eq (c : Dev nD) (i : grid0.Coords) : firstW c i (tbl m 1) = tbl m 1 (tile i) := by
  rw [← emb_tile i]; rfl

theorem usedW_eq (c : Dev nD) (i : grid0.Coords) : usedW c i (tbl m 2) = valid m (tile i) := by
  have h : usedW c i (tbl m 2) = tbl m 2 (tile i) := by rw [← emb_tile i]; rfl
  rw [h]; exact congrFun (V_main_arg3 m 0) _

theorem padW_eq (c : Dev nD) (i : grid0.Coords) : padW c i (tbl m 2) = valid m (tile i) := usedW_eq m c i

theorem at0_eq (i : grid0.Coords) : (tbl m).at 0 (Rect.unit (s := S40) (k0_off1 i) S1.size (k0_off1_inb i)) numel1_S1 = expert m (tile i) := by
  have h : (tbl m).at 0 (Rect.unit (s := S40) (k0_off1 i) S1.size (k0_off1_inb i)) numel1_S1 = tbl m 0 (tile i) := by rw [← emb_tile i]; rfl
  rw [h]; exact congrFun (V_main_arg2 m 0) _

theorem transform1_eq (i : grid0.Coords) : cc0_transform_1 k0_off1_inb numel1_S1 (tbl m) i = ![0, (expert m (tile i)).toNat, 0, (i 0).val] := by
  have h : cc0_transform_1 k0_off1_inb numel1_S1 (tbl m) i = ![0, ((tbl m).at 0 (Rect.unit (s := S40) (k0_off1 i) S1.size (k0_off1_inb i)) numel1_S1).toNat, 0, (Scalar.addi 0#32 (BitVec.ofNat 32 (i 0).val)).toNat] := rfl
  rw [h, at0_eq, (by decide +kernel : ∀ i : grid0.Coords, (Scalar.addi 0#32 (BitVec.ofNat 32 (i 0).val)).toNat = (i 0).val) i]

theorem transform2_eq (i : grid0.Coords) : cc0_transform_2 k0_off1_inb numel1_S1 (tbl m) i = ![0, (expert m (tile i)).toNat, 0, 2 + (i 0).val] := by
  have h : cc0_transform_2 k0_off1_inb numel1_S1 (tbl m) i = ![0, ((tbl m).at 0 (Rect.unit (s := S40) (k0_off1 i) S1.size (k0_off1_inb i)) numel1_S1).toNat, 0, (Scalar.addi 2#32 (BitVec.ofNat 32 (i 0).val)).toNat] := rfl
  rw [h, at0_eq, (by decide +kernel : ∀ i : grid0.Coords, (Scalar.addi 2#32 (BitVec.ofNat 32 (i 0).val)).toNat = 2 + (i 0).val) i]

variable {m}

theorem TablesOk.ok (h : TablesOk m) : Ok m := by
  have hb : ∀ (i : grid0.Coords) (j : Nat), j < 4 → ∀ a, ((![0, (expert m (tile i)).toNat, 0, j] : Fin 4 → Nat) a + 1) * S1x1x2048x1408.size a ≤ S2x8x2048x5632.size a := by
    intro i j hj a
    have := h.expert_lt (tile i)
    fin_cases a
    · show (0 + 1) * 1 ≤ 2; omega
    · show ((expert m (tile i)).toNat + 1) * 1 ≤ 8; omega
    · show (0 + 1) * 2048 ≤ 2048; omega
    · show (j + 1) * 1408 ≤ 5632; omega
  have hi0 : ∀ i : grid0.Coords, (i 0).val < 2 := fun i => (i 0).isLt
  refine ⟨fun i => ⟨?_, .inl rfl⟩, fun i => ⟨?_, .inl rfl⟩⟩
  · rw [transform1_eq]; exact hb i _ (by have := hi0 i; omega)
  · rw [transform2_eq]; exact hb i _ (by have := hi0 i; omega)

/-- The computed table: a tile is its expert's first if it is tile 0 or its expert is not the tile before's. -/
theorem first_eq (k : Fin 39) : tbl m 1 (ix1 (⟨k.val + 1, by omega⟩ : Fin 40)) =
    if expert m (ix1 (⟨k.val + 1, by omega⟩ : Fin 40)) = expert m (ix1 (⟨k.val, by omega⟩ : Fin 40)) then 0#32 else 1#32 := by
  show V m 0 main_v5 _ = _
  dsimp only [V, hostOps0, List.flatten_cons, List.flatten_nil, List.append_nil, List.cons_append, List.nil_append]
  entry_read
  pointwise
  rw [dif_neg (by omega)]
  have e1 : (⟨1 + (k.val + 1 - 1), by omega⟩ : Fin 40) = ⟨k.val + 1, by omega⟩ := Fin.ext (by simp; omega)
  have e2 : (⟨k.val + 1 - 1, by omega⟩ : Fin 40) = ⟨k.val, by omega⟩ := Fin.ext (by simp)
  rw [e1, e2]
  show BitVec.setWidth 32 (IntOp.cmpi .ne (expert m (ix1 (⟨k.val + 1, by omega⟩ : Fin 40))) (expert m (ix1 (⟨k.val, by omega⟩ : Fin 40)))) = _
  split
  · next e => rw [e]; simp [IntOp.cmpi]
  · next e => rw [IntOp.cmpi_ne.2 e]; rfl

theorem first_zero : tbl m 1 (ix1 (⟨0, by omega⟩ : Fin 40)) = 1#32 := by
  show V m 0 main_v5 _ = _
  dsimp only [V, hostOps0, List.flatten_cons, List.flatten_nil, List.append_nil, List.cons_append, List.nil_append]
  entry_read
  pointwise

/-- An entry of the gate weights' block, read off the argument. -/
theorem iblk1_eq (hO : Ok m) (c : Dev nD) (t : Fin (cfgM m hO).N) (y : S1x1x2048x1408.Idx) (z : S2x8x2048x5632.Idx)
    (hz : ∀ a, (z a).val = (![0, (expert m (tile (grid0.coords t))).toNat, 0, (grid0.coords t 0).val] : Fin 4 → Nat) a * S1x1x2048x1408.size a + (y a).val) :
    iblk m hO c 1 t y = m ((c : Thread nD τ).loc main_arg1) z := by
  rw [← transform1_eq] at hz
  rw [← V_main_arg1 m c]
  exact congrArg (V m c main_arg1) (funext fun a => Fin.ext ((Pipeline.Window.rect_emb_val ((cfgM m hO).win 1) t y a).trans (hz a).symm))

/-- An entry of the up weights' block, read off the argument. -/
theorem iblk2_eq (hO : Ok m) (c : Dev nD) (t : Fin (cfgM m hO).N) (y : S1x1x2048x1408.Idx) (z : S2x8x2048x5632.Idx)
    (hz : ∀ a, (z a).val = (![0, (expert m (tile (grid0.coords t))).toNat, 0, 2 + (grid0.coords t 0).val] : Fin 4 → Nat) a * S1x1x2048x1408.size a + (y a).val) :
    iblk m hO c 2 t y = m ((c : Thread nD τ).loc main_arg1) z := by
  rw [← transform2_eq] at hz
  rw [← V_main_arg1 m c]
  exact congrArg (V m c main_arg1) (funext fun a => Fin.ext ((Pipeline.Window.rect_emb_val ((cfgM m hO).win 2) t y a).trans (hz a).symm))

/-- An entry of a row block's window, read off the argument. -/
theorem iblk0_eq (hO : Ok m) (c : Dev nD) (t : Fin (cfgM m hO).N) (y : S512x2048.Idx) (z : S20480x2048.Idx)
    (hz : ∀ a, (z a).val = (![(grid0.coords t 1).val, 0] : Fin 2 → Nat) a * S512x2048.size a + (y a).val) :
    iblk m hO c 0 t y = m ((c : Thread nD τ).loc main_arg0) z := by
  have hi : ∀ i : grid0.Coords, cc0_transform_0 i = ![(i 1).val, 0] := by decide +kernel
  rw [← hi] at hz
  rw [← V_main_arg0 m c]
  exact congrArg (V m c main_arg0) (funext fun a => Fin.ext ((Pipeline.Window.rect_emb_val ((cfgM m hO).win 0) t y a).trans (hz a).symm))

/-- Two points with the same tile expert and the same column block have the same gate block, -/
theorem iblk1_congr (hO : Ok m) (c : Dev nD) (t u : Fin (cfgM m hO).N) (h0 : (grid0.coords t) 0 = (grid0.coords u) 0)
    (he : expert m (tile (grid0.coords t)) = expert m (tile (grid0.coords u))) : iblk m hO c 1 t = iblk m hO c 1 u := by
  funext y
  have hz : ∀ a, ((((cfgM m hO).win 1).rect t).emb y a).val = cc0_transform_1 k0_off1_inb numel1_S1 (tbl m) (grid0.coords t) a * S1x1x2048x1408.size a + (y a).val :=
    fun a => Pipeline.Window.rect_emb_val ((cfgM m hO).win 1) t y a
  rw [transform1_eq] at hz
  refine (iblk1_eq hO c t y _ hz).trans (iblk1_eq hO c u y _ ?_).symm
  rw [← h0, ← he]; exact hz

/-- and the same up block. -/
theorem iblk2_congr (hO : Ok m) (c : Dev nD) (t u : Fin (cfgM m hO).N) (h0 : (grid0.coords t) 0 = (grid0.coords u) 0)
    (he : expert m (tile (grid0.coords t)) = expert m (tile (grid0.coords u))) : iblk m hO c 2 t = iblk m hO c 2 u := by
  funext y
  have hz : ∀ a, ((((cfgM m hO).win 2).rect t).emb y a).val = cc0_transform_2 k0_off1_inb numel1_S1 (tbl m) (grid0.coords t) a * S1x1x2048x1408.size a + (y a).val :=
    fun a => Pipeline.Window.rect_emb_val ((cfgM m hO).win 2) t y a
  rw [transform2_eq] at hz
  refine (iblk2_eq hO c t y _ hz).trans (iblk2_eq hO c u y _ ?_).symm
  rw [← h0, ← he]; exact hz

/-- At a tile that is not flagged first there is a tile before it in the same expert. -/
theorem not_first (k : Fin 40) (h : ¬ IsFirst (tbl m 1 (ix1 k))) : ∃ h0 : k.val ≠ 0, expert m (ix1 k) = expert m (ix1 (⟨k.val - 1, by omega⟩ : Fin 40)) := by
  obtain ⟨k, hk⟩ := k
  rcases k with - | k
  · rw [first_zero] at h; exact absurd rfl h
  · refine ⟨Nat.succ_ne_zero _, ?_⟩
    have := first_eq (m := m) ⟨k, by omega⟩
    by_contra hne
    replace this := this.trans (if_neg hne)
    rw [show tbl m 1 (ix1 (⟨k + 1, hk⟩ : Fin 40)) = 1#32 from this] at h
    exact h rfl

theorem prev_coords : ∀ t : Fin grid0.N, (grid0.coords t 1).val ≠ 0 → t.val ≠ 0 ∧ ∀ h : t.val - 1 < grid0.N,
    grid0.coords t 0 = grid0.coords ⟨t.val - 1, h⟩ 0 ∧ (grid0.coords ⟨t.val - 1, h⟩ 1).val = (grid0.coords t 1).val - 1 := by decide +kernel

theorem TablesOk.good (h : TablesOk m) : Good m h.ok where
  carried c t hf := by
    rw [firstW_eq] at hf
    obtain ⟨h0, he⟩ := not_first _ hf
    obtain ⟨ht, hp⟩ := prev_coords t h0
    obtain ⟨hp0, hp1⟩ := hp (prev m h.ok t).isLt
    have he' : expert m (tile (grid0.coords t)) = expert m (tile (grid0.coords (prev m h.ok t))) := by
      refine he.trans (congrArg (fun k => expert m (ix1 k)) (Fin.ext hp1.symm))
    refine ⟨ht, ?_, ?_⟩
    · unfold wg; rw [iblk1_congr h.ok c t (prev m h.ok t) hp0 he']
    · unfold wu; rw [iblk2_congr h.ok c t (prev m h.ok t) hp0 he']
  stored c t := by
    rw [padW_eq, usedW_eq]
    rcases h.flag (tile (grid0.coords t)) with e | e <;> rw [e]
    · exact .inl rfl
    · exact .inr rfl

/-- A word between zero and a bound, as a natural number. -/
theorem toNat_lt_of_toInt (x : BitVec 32) (n : Nat) (h0 : 0 ≤ x.toInt) (h1 : x.toInt < n) : x.toNat < n := by
  rw [BitVec.toInt_eq_toNat_cond] at h0 h1
  split at h1 <;> omega

/-- The precondition, read. -/
theorem tablesOk_of_pre (x : FVec F S20480x2048 .bf16) (w : FVec F S2x8x2048x5632 .f32)
    (h : Cert.Pre_tables.fn (F := F) x w (m (((0 : Dev nD) : Thread nD τ).loc main_arg2)) (m (((0 : Dev nD) : Thread nD τ).loc main_arg3)) = fun _ => 1#1) : TablesOk m := by
  have h0 := congrFun h (Shape.Idx.first Cert.Pre_tables.Facts.h_S_)
  dsimp only [Cert.Pre_tables.fn] at h0
  obtain ⟨h1, h2⟩ := IntOp.andi_eq_one.1 h0
  refine ⟨fun k => ?_, fun k => ?_⟩
  · obtain ⟨ha, hb⟩ := IntOp.andi_eq_one.1 (Host.reduce_andi_all _ _ _ _ _ h1 k)
    have ha := IntOp.cmpi_sge.1 ha
    have hb := IntOp.cmpi_slt.1 hb
    exact toNat_lt_of_toInt _ 8 ha hb
  · obtain ⟨ha, hb⟩ := IntOp.andi_eq_one.1 (Host.reduce_andi_all _ _ _ _ _ h2 k)
    have ha := IntOp.cmpi_sge.1 ha
    have hb := IntOp.cmpi_sle.1 hb
    have hn : (valid m k).toNat < 2 := toNat_lt_of_toInt _ 2 ha (Int.lt_add_one_of_le hb)
    rcases Nat.le_one_iff_eq_zero_or_eq_one.1 (Nat.le_of_lt_succ hn) with e | e
    · exact .inl (BitVec.eq_of_toNat_eq e)
    · exact .inr (BitVec.eq_of_toNat_eq e)

end Cert.Kernel7Ideal.Grouped

end
-- ==== Proof.Grouped.lean ====
/- The routed experts' gate and up product: the kernel's result array after the run is the reference's. Each row tile
belongs to one expert. The kernel multiplies the tile by that expert's weights, narrowed at the expert's first tile and kept
for the others, and stores zeros on a padding tile. The reference sums over the experts, each on its own rows. -/
module

public import proofs.«01_k».proof.Proof.GroupedTablesIdeal
public import proofs.«01_k».proof.Proof.Swiglu
public import proofs.«01_k».proof.Proof.Gen.Reference7Ideal.Run

@[expose] public section

set_option maxRecDepth 16384

noncomputable section

namespace Cert.Grouped

open Idealize.ShloMosaic Idealize.ShloMosaic.TcCoe
open Cert.Swiglu (gated)

section

open Cert.Reference7Ideal

variable (X : FVec Ideal S20480x2048 .bf16) (W : FVec Ideal S2x8x2048x5632 .f32) (E V : IVec S40 32)

/-- Row `R` of the activations times column `C` of expert `e`'s weights in the first layer. -/
def prod (e : Fin 8) (R : Fin 20480) (C : Fin 5632) : EReal := ∑ k : Fin 2048, X (ix2 R k) * W (ix4 0 e k C)

/-- Expert `e`'s gated product at an entry. -/
def spec (e : Fin 8) (R : Fin 20480) (C : Fin 2816) : EReal :=
  gated (prod X W e R ⟨C.val, by omega⟩) (prod X W e R ⟨2816 + C.val, by omega⟩)

/-- The tile of a row. -/
abbrev tileOf (R : Fin 20480) : S40.Idx := ix1 (⟨R.val / 512, by omega⟩ : Fin 40)

open Cert.Reference7Ideal.Gen

theorem slice_expert (e : Fin 8) : S2x8x2048x5632.Slices ![0, e.val, 0, 0] S1x1x2048x5632 := by
  fin_cases e
  exacts [slices_S2x8x2048x5632_S1x1x2048x5632_0_0_0_0, slices_S2x8x2048x5632_S1x1x2048x5632_0_1_0_0,
    slices_S2x8x2048x5632_S1x1x2048x5632_0_2_0_0, slices_S2x8x2048x5632_S1x1x2048x5632_0_3_0_0,
    slices_S2x8x2048x5632_S1x1x2048x5632_0_4_0_0, slices_S2x8x2048x5632_S1x1x2048x5632_0_5_0_0,
    slices_S2x8x2048x5632_S1x1x2048x5632_0_6_0_0, slices_S2x8x2048x5632_S1x1x2048x5632_0_7_0_0]

/-- Both projections by expert `e`, side by side. -/
def products (e : Fin 8) : FVec Ideal S20480x5632 .f32 :=
  Host.dotGeneral dot_S20480x2048_S2048x5632_S20480x5632_1_0_0_1_n_n none (extf .f32 X bitsLt_bf16_f32)
    (shapeCast _ (extractStridedSlice S1x1x2048x5632 ![0, e.val, 0, 0] W (slice_expert e)) shapeCasts_S1x1x2048x5632_S2048x5632)

theorem products_at (e : Fin 8) (R : Fin 20480) (C : Fin 5632) : products X W e (ix2 R C) = prod X W e R C := by
  pointwise [products, prod]

/-- A table, repeated over its tile's rows. -/
def rows (T : IVec S40 32) : IVec S20480x1 32 :=
  broadcastInDim S20480x1 ![0] bcast_S20480_S20480x1_0 (shapeCast _ (broadcastInDim S40x512 ![0] bcast_S40_S40x512_0 T) shapeCasts_S40x512_S20480)

theorem rows_at (T : IVec S40 32) (R : Fin 20480) (z : Fin 1) : rows T (ix2 R z) = T (tileOf R) := by
  pointwise [rows]

/-- Expert `e`'s gated product, on all rows. -/
def gatedAll (e : Fin 8) : FVec Ideal S20480x2816 .f32 :=
  let g := extractStridedSlice S20480x2816 ![0, 0] (products X W e) slices_S20480x5632_S20480x2816_0_0
  mulf (mulf g (Host.divf (broadcastInDim S20480x2816 ![] bcast_S_S20480x2816 (constant S_ .f32 0x3F800000#32))
      (addf (broadcastInDim S20480x2816 ![] bcast_S_S20480x2816 (constant S_ .f32 0x3F800000#32)) (Host.exp (Host.negf g)))))
    (extractStridedSlice S20480x2816 ![0, 2816] (products X W e) slices_S20480x5632_S20480x2816_0_2816)

theorem gatedAll_at (e : Fin 8) (R : Fin 20480) (C : Fin 2816) : gatedAll X W e (ix2 R C) = spec X W e R C := by
  pointwise [gatedAll]
  simp only [products_at]
  rfl

/-- The same on the expert's own rows, zero elsewhere. -/
def summand (e : Fin 8) : FVec Ideal S20480x2816 .f32 :=
  select (broadcastInDim S20480x2816 ![0, 1] bcast_S20480x1_S20480x2816_0_1
      (andi (cmpi .eq (rows V) (broadcastInDim S20480x1 ![] bcast_S_S20480x1 (constantI S_ 32 1#32)))
        (cmpi .eq (rows E) (broadcastInDim S20480x1 ![] bcast_S_S20480x1 (constantI S_ 32 (BitVec.ofNat 32 e.val))))))
    (gatedAll X W e) (broadcastInDim S20480x2816 ![] bcast_S_S20480x2816 (sitofp .f32 (constantI S_ 32 0#32)))

theorem summand_at (e : Fin 8) (R : Fin 20480) (C : Fin 2816) :
    summand X W E V e (ix2 R C) = if V (tileOf R) = 1#32 ∧ E (tileOf R) = BitVec.ofNat 32 e.val then spec X W e R C else 0 := by
  pointwise [summand]
  simp only [gatedAll_at, rows_at]
  have h0 : FloatOps.sitofp (F := Ideal) FTy.f32 0#32 = (0 : EReal) := by
    show (((0#32 : BitVec 32).toInt : ℝ) : EReal) = 0
    simp
  rw [h0]
  by_cases h : V (tileOf R) = 1#32 ∧ E (tileOf R) = BitVec.ofNat 32 e.val
  · rw [if_pos h, IntOp.cmpi_eq.2 h.1, IntOp.cmpi_eq.2 h.2]
    rfl
  · rw [if_neg h]
    have hn : ¬ IntOp.andi (IntOp.cmpi .eq (V (tileOf R)) 1#32) (IntOp.cmpi .eq (E (tileOf R)) (BitVec.ofNat 32 e.val)) = 1#1 :=
      fun hc => h ⟨IntOp.cmpi_eq.1 (IntOp.andi_eq_one.1 hc).1, IntOp.cmpi_eq.1 (IntOp.andi_eq_one.1 hc).2⟩
    exact if_neg hn

/-- The reference's result, of its four arguments. -/
def reference : FVec Ideal S20480x2816 .bf16 :=
  truncf .bf16 (addf (addf (addf (addf (addf (addf (addf (addf (broadcastInDim S20480x2816 ![] bcast_S_S20480x2816 (constant S_ .f32 0x00000000#32))
    (summand X W E V 0)) (summand X W E V 1)) (summand X W E V 2)) (summand X W E V 3)) (summand X W E V 4)) (summand X W E V 5))
    (summand X W E V 6)) (summand X W E V 7)) bitsLt_bf16_f32

theorem word_inj : ∀ e f : Fin 8, (BitVec.ofNat 32 e.val = BitVec.ofNat 32 f.val) = (e = f) := by decide +kernel

/-- An entry of the reference's result: the tile's expert's product if the tile is used, zero if not. -/
theorem reference_at (e : Fin 8) (R : Fin 20480) (C : Fin 2816) (he : E (tileOf R) = BitVec.ofNat 32 e.val) :
    reference X W E V (ix2 R C) = if V (tileOf R) = 1#32 then spec X W e R C else 0 := by
  pointwise [reference]
  simp only [summand_at, he, word_inj]
  by_cases hv : V (tileOf R) = 1#32
  · simp only [hv, true_and, if_true]
    fin_cases e <;> simp
  · simp [hv]

end

open Cert.Kernel7Ideal Cert.Kernel7Ideal.Gen
open Cert.Kernel7Ideal.Grouped hiding expert valid tile

/-- The narrowed weights of a block: the block's own entries. -/
theorem pay1_at (w : FVec Ideal S1x1x2048x1408 .f32) (k : Fin 2048) (j : Fin 1408) : k0_pay1 (F := Ideal) w (ix2 k j) = w (ix4 0 0 k j) := by
  pointwise [k0_pay1]

theorem pay2_at (w : FVec Ideal S1x1x2048x1408 .f32) (k : Fin 2048) (j : Fin 1408) : k0_pay2 (F := Ideal) w (ix2 k j) = w (ix4 0 0 k j) := by
  pointwise [k0_pay2]

/-- The body's result at an entry of a used tile, -/
theorem pay3_at (x : FVec Ideal S512x2048 .bf16) (a b : FVec Ideal S2048x1408 .bf16) (r : Fin 512) (j : Fin 1408) :
    k0_pay3 (F := Ideal) x a b (ix2 r j)
      = gated (∑ k : Fin 2048, x (ix2 r k) * a (ix2 k j)) (∑ k : Fin 2048, x (ix2 r k) * b (ix2 k j)) := by
  pointwise [k0_pay3]
  rw [zero_sub]
  rfl

/-- and of a padding tile. -/
theorem pay4_at (r : Fin 512) (j : Fin 1408) : k0_pay4 (F := Ideal) (ix2 r j) = (0 : EReal) := by
  pointwise [k0_pay4]

variable (m : (ℓ : Loc nD τ sig) → Buf (Elt Ideal) ℓ) (c : Dev nD)

/-- The arguments, as arrays. -/
abbrev argX : FVec Ideal S20480x2048 .bf16 := m ((c : Thread nD τ).loc main_arg0)
abbrev argW : FVec Ideal S2x8x2048x5632 .f32 := m ((c : Thread nD τ).loc main_arg1)
abbrev argE : IVec S40 32 := m ((c : Thread nD τ).loc main_arg2)
abbrev argV : IVec S40 32 := m ((c : Thread nD τ).loc main_arg3)

variable {m} (h : TablesOk m) (t : Fin (cfgM m h.ok).N)

theorem coords_lt : ∀ i : grid0.Coords, (i 0).val < 2 ∧ (i 1).val < 40 := by decide +kernel

/-- The array's row and column at row `r` and column `j` of the point's block. -/
abbrev rowOf (i : grid0.Coords) (r : Fin 512) : Fin 20480 := ⟨(i 1).val * 512 + r.val, by have := coords_lt i; omega⟩
abbrev colOf (i : grid0.Coords) (j : Fin 1408) : Fin 2816 := ⟨(i 0).val * 1408 + j.val, by have := coords_lt i; omega⟩

/-- The expert of the point's tile. -/
abbrev expertOf (i : grid0.Coords) : Fin 8 := ⟨(Cert.Kernel7Ideal.Grouped.expert m (Cert.Kernel7Ideal.Grouped.tile i)).toNat, h.expert_lt _⟩

theorem tileOf_row (i : grid0.Coords) (r : Fin 512) : tileOf (rowOf i r) = Cert.Kernel7Ideal.Grouped.tile i :=
  congrArg ix1 (Fin.ext (by show ((i 1).val * 512 + r.val) / 512 = (i 1).val; omega))

theorem read0 (r : Fin 512) (k : Fin 2048) : iblk m h.ok c 0 t (ix2 r k) = argX m c (ix2 (rowOf (grid0.coords t) r) k) :=
  iblk0_eq h.ok c t (ix2 r k) _ (fun a => by fin_cases a <;> simp)

theorem read1 (k : Fin 2048) (j : Fin 1408) : iblk m h.ok c 1 t (ix4 0 0 k j)
    = argW m c (ix4 0 (expertOf h (grid0.coords t)) k ⟨(colOf (grid0.coords t) j).val, by omega⟩) :=
  iblk1_eq h.ok c t (ix4 0 0 k j) _ (fun a => by fin_cases a <;> simp)

theorem read2 (k : Fin 2048) (j : Fin 1408) : iblk m h.ok c 2 t (ix4 0 0 k j)
    = argW m c (ix4 0 (expertOf h (grid0.coords t)) k ⟨2816 + (colOf (grid0.coords t) j).val, by omega⟩) :=
  iblk2_eq h.ok c t (ix4 0 0 k j) _ (fun a => by fin_cases a <;> simp <;> omega)

/-- What a point leaves in the result's block: the tile's expert's product if the tile is used, zeros if not. -/
theorem left (r : Fin 512) (j : Fin 1408) : outAt m h.ok c t (ix2 r j)
    = if Cert.Kernel7Ideal.Grouped.valid m (Cert.Kernel7Ideal.Grouped.tile (grid0.coords t)) = 1#32
      then spec (argX m c) (argW m c) (expertOf h (grid0.coords t)) (rowOf (grid0.coords t) r) (colOf (grid0.coords t) j) else 0 := by
  unfold outAt outOf
  rw [padW_eq, usedW_eq]
  rcases h.flag (Cert.Kernel7Ideal.Grouped.tile (grid0.coords t)) with e | e <;> rw [e]
  · rw [if_pos (by rfl), if_neg (by decide)]
    exact pay4_at r j
  · rw [if_neg (by decide), if_pos (by rfl), if_pos rfl]
    refine (pay3_at _ _ _ r j).trans ?_
    unfold wg wu spec prod
    exact congrArg₂ gated
      (Finset.sum_congr rfl fun k _ => congrArg₂ (· * ·) (read0 c h t r k) ((pay1_at _ k j).trans (read1 c h t k j)))
      (Finset.sum_congr rfl fun k _ => congrArg₂ (· * ·) (read0 c h t r k) ((pay2_at _ k j).trans (read2 c h t k j)))

/-- The reference at the same entry. -/
theorem reference_row (i : grid0.Coords) (r : Fin 512) (j : Fin 1408) :
    reference (argX m 0) (argW m 0) (argE m 0) (argV m 0) (ix2 (rowOf i r) (colOf i j))
      = if Cert.Kernel7Ideal.Grouped.valid m (Cert.Kernel7Ideal.Grouped.tile i) = 1#32
        then spec (argX m 0) (argW m 0) (expertOf h i) (rowOf i r) (colOf i j) else 0 := by
  have he : argE m 0 (tileOf (rowOf i r)) = BitVec.ofNat 32 (expertOf h i).val := by
    rw [tileOf_row]
    exact BitVec.eq_of_toNat_eq (by rw [BitVec.toNat_ofNat]; exact (Nat.mod_eq_of_lt (BitVec.isLt _)).symm)
  refine (reference_at _ _ _ _ (expertOf h i) _ _ he).trans ?_
  rw [tileOf_row]

theorem index3 : ∀ i : grid0.Coords, cc0_transform_3 i = ![(i 1).val, (i 0).val] := by decide +kernel

/-- Every block of the result is a point's. -/
theorem onto3 : ∀ (r : Fin 40) (j : Fin 2), ∃ t : Fin grid0.N, cc0_transform_3 (grid0.coords t) = ![r.val, j.val] := by decide +kernel

theorem covers3 : Pipeline.Window.Covers ((cfgM m h.ok).win 3) := by
  refine ⟨fun a => (by decide : ∀ a : Fin 2, 0 < S512x1408.size a) a, fun β => ?_⟩
  have h0 : ((cfgM m h.ok).win 3).nblk (0 : Fin 2) = 40 := (by decide : (20480 + 512 - 1) / 512 = 40)
  have h1 : ((cfgM m h.ok).win 3).nblk (1 : Fin 2) = 2 := (by decide : (2816 + 1408 - 1) / 1408 = 2)
  obtain ⟨t, ht⟩ := onto3 (Fin.cast h0 (β (0 : Fin 2))) (Fin.cast h1 (β (1 : Fin 2)))
  refine ⟨t, flush0_3 (adm m h.ok) t, fun a => ⟨?_, .inl rfl⟩⟩
  show cc0_transform_3 (grid0.coords t) a = _
  rw [ht]
  exact (fun a => by fin_cases a <;> rfl : ∀ a : Fin 2, (![(β (0 : Fin 2)).val, (β (1 : Fin 2)).val] : Fin 2 → Nat) a = (β a).val) a

/-- THE RESULT: the output array after the run is the reference's. -/
theorem final : (dats m h.ok 0 c).arrAt 3 (cfgM m h.ok).N = reference (argX m c) (argW m c) (argE m c) (argV m c) := by
  obtain rfl : c = 0 := Subsingleton.elim _ _
  refine (dats m h.ok 0 0).arrAt_eq_of_emb 3 _ (fun t _ => ?_) ?_
  · show ∀ y : S512x1408.Idx, _
    intro y
    idx_vars y
    have he : (((cfgM m h.ok).win 3).rect t).emb (ix2 y0 y1) = ix2 (rowOf (grid0.coords t) y0) (colOf (grid0.coords t) y1) := by
      funext a
      apply Fin.ext
      refine (Pipeline.Window.rect_emb_val ((cfgM m h.ok).win 3) t (ix2 y0 y1) a).trans ?_
      show cc0_transform_3 (grid0.coords t) a * S512x1408.size a + _ = _
      rw [index3]
      fin_cases a <;> simp
    have hl := (left 0 h t y0 y1).trans (reference_row h (grid0.coords t) y0 y1).symm
    rw [← he] at hl
    rw [after0_3]
    exact hl
  · exact (covers3 h).cover _ (Memref.isWhole_whole _)

end Cert.Grouped

end
-- ==== Proof.GroupedDownKitIdeal.lean ====
/-
# The grouped product's launch: tables, blocks, staging memrefs

What the frame of the routed experts' down product is stated over: the buffers the pipeline finds after the host
operations, the prefetched tables read off them, each window's block at a grid point, and the kernel body as the pipeline
calls it. Everything holds at any float instance.
-/
module

public import proofs.«01_k».proof.Proof.Gen.Kernel8Ideal.Launch
public import proofs.«01_k».proof.Proof.Gen.Kernel8Ideal.Skeleton
public import Idealize.ShloMosaic.Lib.Pipeline.Kit
public import Idealize.ShloMosaic.Lib.Pipeline.FrameBody
public import Idealize.ShloMosaic.Lib.Ring
public import Idealize.ShloMosaic.Lib.Tactic
public import Idealize.ShloMosaic.Lib.WordCmp
public import Idealize.ShloMosaic.Lib.VecWindow

@[expose] public section

set_option maxRecDepth 16384

noncomputable section

namespace Cert.Kernel8Ideal.Grouped

open Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 3) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S40 .i32 := Memref.whole main_arg2
abbrev htbM0_0 : tbM0_0.IsWhole := Memref.isWhole_whole _
abbrev tbM0_1 : Memref sig .tc .smem S40 .i32 := Memref.whole main_v5
abbrev htbM0_1 : tbM0_1.IsWhole := Memref.isWhole_whole _
abbrev tbM0_2 : Memref sig .tc .smem S40 .i32 := Memref.whole main_arg3
abbrev htbM0_2 : tbM0_2.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp 𝕄) = iprop(tbPt0 c tbM0_0 (tbl m 0) ∗ tbPt0 c tbM0_1 (tbl m 1) ∗ tbPt0 c tbM0_2 (tbl m 2)) := by
  unfold Pipeline.ΦT Pipeline.prefHeld
  rw [show (Finset.univ : Finset (Fin 3)) = insert (0 : Fin 3) (insert (1 : Fin 3) {(2 : Fin 3)}) from by decide,
    bigSep_insert (by decide), bigSep_insert (by decide), bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post (`Cert.frame_Kernel8Ideal`, Defs.lean, at any `F`). -/
theorem frame_of (hO : Ok m) (dats : (p : Fin 1) → (c : Dev nD) → Dat τ (Elt F) Unit ℕ (UR sig nD τ) ℕ ((Pipeline.pin pcfgs fun _ => adm m hO) p) c)
    (hA : ∀ c w, (dats 0 c).A w = V m c (Pipeline.arrRef spec0 w))
    (h : θ_run defs (onTc (τ := τ) (main (F := F))) (s₀ m ρ) (Pipeline.FramePost (Pipeline.pin pcfgs fun _ => adm m hO) dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).2 main_arg2 (by decide : main_arg2 ∈ Pipeline.restRefs sig spec0)).trans (V_main_arg2 m c),
      ((h c).2 main_arg3 (by decide : main_arg3 ∈ Pipeline.restRefs sig spec0)).trans (V_main_arg3 m c)⟩) h

/-- Window 0 (operand 3 (%arg0)) is fetched at every point, at any contents of the tables (its index map reads none). -/
theorem fetch0_0 (a : (pcfg0 (F := F)).Adm) : ∀ t : Fin (cfg0 a).N, ((cfg0 a).win 0).fetch t = true :=
  (fun t => (Pipeline.Window.fetchOf_reads cc0_transform_0 reads0_0 hreads0_0 1 (by decide) (by decide) (Pipeline.Window.sep_of_coord cc0_transform_0 1 0 (fun _ => rfl) (by decide)) (P := 1) (by decide) t).mpr (Nat.mod_one _) : ∀ t : Fin grid0.N, Pipeline.Window.fetchOf grid0 false cc0_transform_0 t = true)
/-- Window 2 (result 0 (%6)) is written back at every point, at any contents of the tables (its index map reads none). -/
theorem flush0_2 (a : (pcfg0 (F := F)).Adm) : ∀ t : Fin (cfg0 a).N, ((cfg0 a).win 2).flush t = true :=
  (fun t => (Pipeline.Window.flushOf_reads cc0_transform_2 reads0_2 hreads0_2 1 (by decide) (by decide) (Pipeline.Window.sep_of_coord cc0_transform_2 1 0 (fun _ => rfl) (by decide)) (P := 1) (m := 0) (by decide) rfl t).mpr (Nat.mod_one _) : ∀ t : Fin grid0.N, Pipeline.Window.flushOf grid0 true cc0_transform_2 t = true)

/-- The current staging memref of each window at point `t`: which of its buffers it is on. -/
abbrev st0_0 (a : (pcfg0 (F := F)).Adm) (t : Fin (cfg0 a).N) := ((cfg0 a).win 0).stage ((cfg0 a).slots t 0)
abbrev st0_1 (a : (pcfg0 (F := F)).Adm) (t : Fin (cfg0 a).N) := ((cfg0 a).win 1).stage ((cfg0 a).slots t 1)
abbrev st0_2 (a : (pcfg0 (F := F)).Adm) (t : Fin (cfg0 a).N) := ((cfg0 a).win 2).stage ((cfg0 a).slots t 2)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_moe_down (grid0.coords t) (Memref.whole main_arg2) (Memref.isWhole_whole _) (Memref.whole main_v5) (Memref.isWhole_whole _) (Memref.whole main_arg3) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (Memref.whole cc0_scratch0) (Memref.isWhole_whole _)

/-! ## The kernel body on any staging memrefs: a subtype the run finds -/

/-- One staging buffer of output window 2, through which its contents are stated (`View.read_writes_of_cover`: the
    choice does not matter). -/
abbrev VO0_2 : View sig .tc .vmem S512x1024 .f32 := (Memref.whole cc0_stg2_0 : Memref sig .tc .vmem S512x1024 .f32).view
/-- Each window's current staging memref at point `t`, spelled as the pipeline passes it (`bodyAt0`), and its wholeness. -/
abbrev ms0_0 (hO : Ok m) (t : Fin (cfgM m hO).N) : Memref sig .tc .vmem S512x2816 .bf16 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x1x2816x1024 .f32 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S512x1024 .f32 := spec0_2.stage ((cfgM m hO).slots t 2)
abbrev hs0_2 (hO : Ok m) (t : Fin (cfgM m hO).N) : (ms0_2 m hO t).IsWhole := hstage0_2 (((cfgM m hO).slots t 2).cast nbuf0_2)
/-- The scratch operand: a whole scoped buffer of the kernel's own, passed beside the windows. -/
abbrev scM0_0 : Memref sig .tc .vmem S2816x1024 .bf16 := Memref.whole cc0_scratch0

/-- The frame kit's invariant with the scratch operand as a memref owned at some contents (`Gen.scopedRest0_eq`,
    Lib/Memref.lean `owns_whole`): what the body obligation hands the run and takes back. -/
theorem PhiA0_eq (c : Dev nD) :
    (Pipeline.ΦA spec0 c : sProp 𝕄)
      = iprop((∃ d, owns (c : Thread nD τ) scM0_0 fullShare d) ∗ (∃ r, prngReg c r)) := by
  unfold Pipeline.ΦA; rw [scopedRest0_eq]; simp only [scM0_0, owns_whole]; try rfl

end Cert.Kernel8Ideal.Grouped

end
-- ==== Proof.GroupedDownRunIdeal.lean ====
/-
# The grouped product's body at one grid point

The four ways the body runs — the weights narrowed afresh or carried, the tile used or padding — with what each leaves in the
output's block and in the carried weight buffer.
-/
module

public import proofs.«01_k».proof.Proof.GroupedDownKitIdeal

@[expose] public section

set_option maxRecDepth 16384

noncomputable section

namespace Cert.Kernel8Ideal.Grouped

open Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The word of the second table that the body reads at grid point `i`: whether the tile is its expert's first. -/
def firstW (c : Dev nD) (i : grid0.Coords) (xt1 : TbBuf0 (F := F) c tbM0_1) : Elt F .i32 :=
  View.readAt (Elt F) tbM0_1.view (Rect.unit (s := S40) (k0_off1 i) S1.size (k0_off1_inb i)).toLoadRect xt1 (Shape.Idx.first (numel1_S1.symm ▸ Nat.one_pos))

/-- The word of the third table, read before the product: whether the tile is used. -/
def usedW (c : Dev nD) (i : grid0.Coords) (xt2 : TbBuf0 (F := F) c tbM0_2) : Elt F .i32 :=
  View.readAt (Elt F) tbM0_2.view (Rect.unit (s := S40) (k0_off2 i) S1.size (k0_off2_inb i)).toLoadRect xt2 (Shape.Idx.first (numel1_S1.symm ▸ Nat.one_pos))

/-- The same word, read again before the zeros are stored. -/
def padW (c : Dev nD) (i : grid0.Coords) (xt2 : TbBuf0 (F := F) c tbM0_2) : Elt F .i32 :=
  View.readAt (Elt F) tbM0_2.view (Rect.unit (s := S40) (k0_off3 i) S1.size (k0_off3_inb i)).toLoadRect xt2 (Shape.Idx.first (numel1_S1.symm ▸ Nat.one_pos))

/-- The body's first condition on its word. -/
abbrev IsFirst (w : BitVec 32) : Prop := Scalar.cmpi .ne (Scalar.extui (Scalar.cmpi .eq w 1#32)) 0#32 = 1#1

/-- What the carried weight buffer holds after a point: the point's own narrowed weights `p` where the tile is its expert's
    first, what it held (`s`) elsewhere. -/
def carry (c : Dev nD) (i : grid0.Coords) (xt1 : TbBuf0 (F := F) c tbM0_1) (p s : Vec F S2816x1024 .bf16) : Vec F S2816x1024 .bf16 :=
  if IsFirst (firstW c i xt1) then p else s

/-- What the output's block holds after a point: zeros on a padding tile, the product on a used one. -/
def outOf (c : Dev nD) (i : grid0.Coords) (xt2 : TbBuf0 (F := F) c tbM0_2) (x0 : Vec F S512x2816 .bf16) (w1 : Vec F S2816x1024 .bf16)
    (x2 : Vec F S512x1024 .f32) : Vec F S512x1024 .f32 :=
  if k0_cond3 (padW c i xt2) = 1#1 then k0_pay3 else if k0_cond2 (usedW c i xt2) = 1#1 then k0_pay2 x0 w1 else x2

/-- Reading a buffer that one of two branches left. -/
theorem read_dite {κ : Kind} {sp : Space} {S : Shape} {e : EltTy} (v : View sig κ sp S e) (p : Prop) [Decidable p] (f g : v.ty.Contents (Elt F)) :
    v.read (Elt F) (if hc : p then f else g) = if p then v.read (Elt F) f else v.read (Elt F) g := by
  split <;> rfl

set_option maxHeartbeats 1000000 in
/-- The body's triple at a grid point, on whole staging memrefs and any contents of the tables. -/
theorem run (c : Dev nD) (i : grid0.Coords) (arg5 : Memref sig .tc .vmem S512x2816 .bf16) (harg5 : arg5.IsWhole) (arg6 : Memref sig .tc .vmem S1x1x2816x1024 .f32) (harg6 : arg6.IsWhole) (arg7 : Memref sig .tc .vmem S512x1024 .f32) (harg7 : arg7.IsWhole) (arg8 : Memref sig .tc .vmem S2816x1024 .bf16) (harg8 : arg8.IsWhole)
    (x0 : Vec F S512x2816 .bf16) (x1 : Vec F S1x1x2816x1024 .f32) (x2 : Vec F S512x1024 .f32) (s0 : Vec F S2816x1024 .bf16)
    (xt0 : TbBuf0 (F := F) c tbM0_0) (xt1 : TbBuf0 (F := F) c tbM0_1) (xt2 : TbBuf0 (F := F) c tbM0_2)
    (E : Set ℕ) (K : PUnit → sProp 𝕄) :
    iprop(owns (c : Thread nD τ) arg5 fullShare x0 ∗ owns (c : Thread nD τ) arg6 fullShare x1
        ∗ owns (c : Thread nD τ) arg7 fullShare x2 ∗ owns (c : Thread nD τ) arg8 fullShare s0
        ∗ tbPt0 c tbM0_0 xt0 ∗ tbPt0 c tbM0_1 xt1 ∗ tbPt0 c tbM0_2 xt2
        ∗ (iprop(owns (c : Thread nD τ) arg5 fullShare x0 ∗ owns (c : Thread nD τ) arg6 fullShare x1
            ∗ owns (c : Thread nD τ) arg7 fullShare (outOf c i xt2 x0 (carry c i xt1 (k0_pay1 x1) s0) x2)
            ∗ owns (c : Thread nD τ) arg8 fullShare (carry c i xt1 (k0_pay1 x1) s0)
            ∗ tbPt0 c tbM0_0 xt0 ∗ tbPt0 c tbM0_1 xt1 ∗ tbPt0 c tbM0_2 xt2) -∗ K ⟨⟩))
      ⊢ wp frame (wpE (defs₀ (F := F)) Variants.none c none) E (cc0_moe_down i tbM0_0 htbM0_0 tbM0_1 htbM0_1 tbM0_2 htbM0_2 arg5 harg5 arg6 harg6 arg7 harg7 arg8 harg8) K := by
  simp only [cc0_moe_down_eq_skeleton]; unfold cc0_moe_down_skel
  unfold owns
  iintro ⟨⟨%f0, %hf0, H0⟩, ⟨%f1, %hf1, H1⟩, ⟨%f2, %hf2, H2⟩, ⟨%g0, %hg0, HS0⟩, HT0, HT1, HT2, Hk⟩
  obtain rfl := harg5.eq_unread hf0; obtain rfl := harg6.eq_unread hf1
  sl_exec
  sl_step
  iapply Hk
  isplitl [H0]
  · iexists _; isplitr; · ipureintro; exact hf0
    iexact H0
  isplitl [H1]
  · iexists _; isplitr; · ipureintro; exact hf1
    iexact H1
  isplitl [H2]
  · iexists _; isplitr; swap; · iexact H2
    ipureintro
    unfold run.sl.v16 run.sl.v4 run.sl.v3 run.sl.v2 run.sl.r
    have e6 : View.readAt (Elt F) arg6.view (Rect.unit (s := S1x1x2816x1024) ![0, 0, 0, 0] S1x1x2816x1024.size inb_S1x1x2816x1024_S1x1x2816x1024_0_0_0_0).toLoadRect (harg6.unread x1) = x1 := (View.readAt_full _ _ _).trans hf1
    have e5 : View.readAt (Elt F) arg5.view (Rect.unit (s := S512x2816) ![0, 0] S512x2816.size inb_S512x2816_S512x2816_0_0).toLoadRect (harg5.unread x0) = x0 := (View.readAt_full _ _ _).trans hf0
    rw [e5, e6]
    unfold outOf
    refine (read_dite ..).trans (ite_congr rfl (fun _ => View.read_writes_full ..) fun _ => ?_)
    refine (read_dite ..).trans (ite_congr rfl (fun _ => (View.read_writes_full ..).trans ?_) fun _ => hf2)
    refine congrArg (k0_pay2 x0) ?_
    exact (View.readAt_full ..).trans ((read_dite ..).trans (ite_congr rfl (fun _ => View.read_writes_full ..) fun _ => hg0))
  isplitl [HS0]
  · iexists _; isplitr; swap; · iexact HS0
    ipureintro
    unfold run.sl.v4 run.sl.v3 run.sl.v2
    have e : View.readAt (Elt F) arg6.view (Rect.unit (s := S1x1x2816x1024) ![0, 0, 0, 0] S1x1x2816x1024.size inb_S1x1x2816x1024_S1x1x2816x1024_0_0_0_0).toLoadRect (harg6.unread x1) = x1 := (View.readAt_full _ _ _).trans hf1
    rw [e]
    exact (read_dite ..).trans (ite_congr rfl (fun _ => View.read_writes_full ..) fun _ => hg0)
  isplitl [HT0]; · iexact HT0
  isplitl [HT1]; · iexact HT1
  iexact HT2

end Cert.Kernel8Ideal.Grouped

end
-- ==== Proof.GroupedDownFrameIdeal.lean ====
/-
# The grouped product's frame

The pipeline's proof data with the narrowed weight block carried from point to point, the body's obligation at every
point, and the run: the output block by block, every argument unchanged. It holds for tables under `Good`.
-/
module

public import proofs.«01_k».proof.Proof.GroupedDownRunIdeal
public import Idealize.ShloMosaic.Lib.Claim

@[expose] public section

set_option maxRecDepth 16384

noncomputable section

namespace Cert.Kernel8Ideal.Grouped

open Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The point before a point (the first one for the first). -/
abbrev prev (hO : Ok m) (t : Fin (cfgM m hO).N) : Fin (cfgM m hO).N := ⟨t.val - 1, Nat.lt_of_le_of_lt (Nat.sub_le _ _) t.isLt⟩

/-- The narrowed weights of a point. -/
def wg (hO : Ok m) (c : Dev nD) (t : Fin (cfgM m hO).N) : Vec F S2816x1024 .bf16 := k0_pay1 (iblk m hO c 1 t)

/-- What the frame needs of the tables beside the blocks being inside their array: at a point that does not narrow its
    weights there is a point before it, with the same weights; and every tile is used or padding. -/
structure Good (hO : Ok m) : Prop where
  carried : ∀ (c : Dev nD) (t : Fin (cfgM m hO).N), ¬ IsFirst (firstW c (grid0.coords t) (tbl m 1)) →
    t.val ≠ 0 ∧ wg m hO c t = wg m hO c (prev m hO t)
  stored : ∀ (c : Dev nD) (t : Fin (cfgM m hO).N),
    k0_cond3 (padW c (grid0.coords t) (tbl m 2)) = 1#1 ∨ k0_cond2 (usedW c (grid0.coords t) (tbl m 2)) = 1#1

/-- What the output's staging buffer holds after a point. -/
def outAt (hO : Ok m) (c : Dev nD) (t : Fin (cfgM m hO).N) : Vec F S512x1024 .f32 :=
  outOf c (grid0.coords t) (tbl m 2) (iblk m hO c 0 t) (wg m hO c t) k0_pay3

variable {m}

theorem carry_wg {hO : Ok m} (hg : Good m hO) (c : Dev nD) (t : Fin (cfgM m hO).N) (s : Vec F S2816x1024 .bf16)
    (hs : t.val ≠ 0 → s = wg m hO c (prev m hO t)) : carry c (grid0.coords t) (tbl m 1) (k0_pay1 (iblk m hO c 1 t)) s = wg m hO c t := by
  unfold carry
  split
  · rfl
  · next h => obtain ⟨h0, h1⟩ := hg.carried c t h; rw [hs h0, h1]

theorem outOf_eq {hO : Ok m} (hg : Good m hO) (c : Dev nD) (t : Fin (cfgM m hO).N) (x2 : Vec F S512x1024 .f32) :
    outOf c (grid0.coords t) (tbl m 2) (iblk m hO c 0 t) (wg m hO c t) x2 = outAt m hO c t := by
  unfold outAt outOf
  rcases hg.stored c t with h | h
  · rw [if_pos h, if_pos h]
  · rw [if_pos h, if_pos h]

variable (m)

/-- The region's invariant before position `n`: at the start the scratch at anything; afterwards the weight buffer at
    the weights of the point before; the tables' halves throughout. -/
def PhiS (hO : Ok m) (c : Dev nD) : (n : ℕ) → n ≤ (cfgM m hO).N → sProp 𝕄
  | 0, _ => iprop(Pipeline.ΦA spec0 c ∗ Pipeline.ΦT pre0 (tbl m) c)
  | n + 1, hn => iprop(iprop(owns (c : Thread nD τ) scM0_0 fullShare (wg m hO c ⟨n, hn⟩)
      ∗ (∃ r, prngReg c r)) ∗ Pipeline.ΦT pre0 (tbl m) c)

theorem PhiS_zero (hO : Ok m) (c : Dev nD) (n : ℕ) (h : n ≤ (cfgM m hO).N) (hz : n = 0) :
    PhiS m hO c n h = iprop(Pipeline.ΦA spec0 c ∗ Pipeline.ΦT pre0 (tbl m) c) := by
  subst hz; rfl

theorem PhiS_pos (hO : Ok m) (c : Dev nD) (n : ℕ) (h : n ≤ (cfgM m hO).N) (hz : n ≠ 0) :
    PhiS m hO c n h = iprop(iprop(owns (c : Thread nD τ) scM0_0 fullShare (wg m hO c ⟨n - 1, by omega⟩)
      ∗ (∃ r, prngReg c r)) ∗ Pipeline.ΦT pre0 (tbl m) c) := by
  cases n with
  | zero => exact absurd rfl hz
  | succ n => rfl

/-- The proof data of the one pipeline on core `c`. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => outAt m hO c t
  Φ t := PhiS m hO c t.val (Nat.le_of_lt_succ t.isLt)
  q _ := fullShare
  owed _ := 0

theorem A_eq (hO : Ok m) (c : Dev nD) (w : Fin (cfgM m hO).W) : (dats m hO 0 c).A w = V m c (Pipeline.arrRef spec0 w) := by
  dsimp only [dats]

theorem PhiS_castSucc (hO : Ok m) (c : Dev nD) (t : Fin (cfgM m hO).N) :
    (dats m hO 0 c).Φ t.castSucc = PhiS m hO c t.val (Nat.le_of_lt t.isLt) := by
  dsimp only [dats]; exact Pipeline.Dat.Φ_castSucc (PhiS m hO c) t

theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = outAt m hO c t := by dsimp only [dats]; try rfl

theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d

/-- What the body is called with at point `t`, -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d)))

/-- and what it returns. -/
def bodyPost (hO : Ok m) (c : Dev nD) (t : Fin (cfgM m hO).N) : sProp 𝕄 :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ owns (c : Thread nD τ) (ms0_2 m hO t) fullShare ((dats m hO 0 c).after 2 t))

/-- The scratch before a point, at some contents that are the weights of the point before it where there is one. -/
theorem scratch_before (hO : Ok m) (c : Dev nD) (t : Fin (cfgM m hO).N) :
    (dats m hO 0 c).Φ t.castSucc ⊢ iprop(∃ s0, ⌜t.val ≠ 0 → s0 = wg m hO c (prev m hO t)⌝
      ∗ owns (c : Thread nD τ) scM0_0 fullShare s0 ∗ (∃ r, prngReg c r) ∗ Pipeline.ΦT pre0 (tbl m) c) := by
  rw [PhiS_castSucc]
  by_cases hz : t.val = 0
  · rw [PhiS_zero m hO c _ _ hz, PhiA0_eq]
    iintro ⟨⟨⟨%s0, HS0⟩, Hg⟩, HT⟩
    iexists s0; isplitr
    · ipureintro; exact fun h => absurd hz h
    isplitl [HS0]; · iexact HS0
    isplitl [Hg]; · iexact Hg
    iexact HT
  · rw [PhiS_pos m hO c _ _ hz]
    iintro ⟨⟨HS0, Hg⟩, HT⟩
    iexists _; isplitr
    swap
    · isplitl [HS0]; · iexact HS0
      isplitl [Hg]; · iexact Hg
      iexact HT
    ipureintro; exact fun _ => rfl

set_option maxHeartbeats 1600000 in
/-- The body at any point. -/
theorem sound_body (hO : Ok m) (hg : Good m hO) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1]
  rw [show (dats m hO 0 c).owesAt () t.succ = (dats m hO 0 c).owesAt () t.castSucc from rfl,
    after0_0, after0_1, after0_2]
  rw [show (dats m hO 0 c).Φ t.succ = PhiS m hO c (t.val + 1) t.isLt from rfl, PhiS_pos m hO c _ _ (Nat.succ_ne_zero _)]
  refine (sep_mono (scratch_before m hO c t) .rfl).trans ?_
  rw [PhiT0_eq]
  iintro ⟨⟨%s0, %hs, HS0, Hg, ⟨HT0, HT1, HT2⟩⟩, Ho, ⟨%d0, H0⟩, ⟨%d1, H1⟩, ⟨%d2, H2⟩⟩
  have e1 := carry_wg hg c t s0 hs
  iapply (run c (grid0.coords t) _ _ _ _ _ _ _ _ (iblk m hO c 0 t) (iblk m hO c 1 t) _ s0 (tbl m 0) (tbl m 1) (tbl m 2) Set.univ _)
  isplitl [H0]; · iexact H0
  isplitl [H1]; · iexact H1
  isplitl [H2]; · iexact H2
  isplitl [HS0]; · iexact HS0
  isplitl [HT0]; · iexact HT0
  isplitl [HT1]; · iexact HT1
  isplitl [HT2]; · iexact HT2
  rw [e1]
  iintro ⟨H0, H1, H2, HS0, HT0, HT1, HT2⟩
  isplitl [HS0 Hg HT0 HT1 HT2]
  · isplitl [HS0 Hg]
    · isplitl [HS0]; · iexact HS0
      iexact Hg
    isplitl [HT0]; · iexact HT0
    isplitl [HT1]; · iexact HT1
    iexact HT2
  isplitl [Ho]; · iexact Ho
  isplitl [H0]; · iexact H0
  isplitl [H1]; · iexact H1
  rw [← outOf_eq hg c t ((dats m hO 0 c).before 2 t d2)]
  iexact H2

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- A window written back at a point is described there at what the body leaves. -/
theorem leaves_of_flush (b f : Bool) (P Q : sProp 𝕄) : f = true → Q ⊢ match b with
      | true => match f with
        | false => P
        | true => Q
      | false => Q := by
  rintro rfl; cases b <;> exact .rfl

/-- The library's body obligation, at every point: the output is written back at every point, so that it is described there
    whether or not the point's own words say that the body stores into it. -/
theorem body_obligation (hO : Ok m) (hg : Good m hO) (c : Dev nD) : BodyObligation (dats (F := F) m hO 0 c) (defs₀ (F := F)) Variants.none () Set.univ := fun t => by
  rw [bigSep_W0, bigSep_W0, defs₀_row m hO]
  refine triple_restated (sound_body m hO hg c t) rfl .rfl fun _ => ?_
  have hf := flush0_2 (adm m hO) t
  exact sep_mono .rfl (sep_mono .rfl (sep_mono .rfl (sep_mono .rfl (leaves_of_flush _ _ _ _ hf))))

/-- What the launch hands the region is the invariant before the first point. -/
theorem hin (hO : Ok m) (c : Dev nD) : iprop(Pipeline.ΦA spec0 c ∗ Pipeline.ΦT pre0 (tbl m) c) ⊢ (dats m hO 0 c).Φ 0 := by
  rw [show (dats m hO 0 c).Φ 0 = PhiS m hO c 0 (Nat.zero_le _) from rfl, PhiS_zero m hO c 0 _ rfl]

/-- After the last point the invariant gives the scratch back, its contents forgotten. -/
theorem hout (hO : Ok m) (c : Dev nD) : (dats m hO 0 c).Φ (Fin.last (cfgM m hO).N) ⊢ Pipeline.ΦA spec0 c := by
  rw [show (dats m hO 0 c).Φ (Fin.last (cfgM m hO).N) = PhiS m hO c (cfgM m hO).N (Nat.le_refl _) from rfl,
    PhiS_pos m hO c _ _ (by have : (cfgM m hO).N = 80 := N_0; omega), PhiA0_eq]
  iintro ⟨⟨HS0, Hg⟩, -⟩
  isplitl [HS0]
  · iexists _; iexact HS0
  iexact Hg

set_option backward.isDefEq.respectTransparency.types false in
/-- The launch: every array at what the proof data says, every counter at zero. -/
theorem run_main_quiescent (hO : Ok m) (hg : Good m hO) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP_track (Q' := _) pcfgs (fun _ => adm m hO) (dats m hO) (0 : Fin 1) launch0 defs₀ Variants.none m ρ main
    (hbody := fun c => (body_obligation m hO hg c).loose) (hshare := fun c => (dats m hO 0 c).share_full fun _ => rfl)
    (howed := fun _ _ => rfl) (V := V m) (hmain := hmain m Variants.none) (hA := A_eq m hO) (hpf := V_pre m)
    (hin := hin m hO) (hout := hout m hO)

theorem run_main (hO : Ok m) (hg : Good m hO) : θ_run defs (onTc (τ := τ) (main (F := F))) (s₀ m ρ) (Pipeline.FramePost (Pipeline.pin pcfgs fun _ => adm m hO) (dats m hO) 0 (V m)) :=
  (θ_run defs _ _).mono (fun _ h => h.1) (run_main_quiescent m ρ hO hg)

/-- The frame, for tables under `Good`. -/
theorem frame_of_good (hO : Ok m) (hg : Good m hO) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ hO (dats m hO) (A_eq m hO) (run_main m ρ hO hg)) ((θ_run defs _ _).mono (fun _ h => h.2) (run_main_quiescent m ρ hO hg))

end Cert.Kernel8Ideal.Grouped

end
-- ==== Proof.GroupedDownTablesIdeal.lean ====
/-
# The grouped down product's tables

What the precondition says of the two integer arguments, and what follows for the launch: every weights block lies inside
the weights, a tile that is not its expert's first has the tile before it in the same expert, and every tile is used or
padding.
-/
module

public import proofs.«01_k».proof.Proof.GroupedDownFrameIdeal
public import proofs.«01_k».proof.Proof.Gen.Pre_down_tables
public import Idealize.ShloMosaic.Lib.ReduceAll
public import Idealize.ShloMosaic.Lib.Affine
public import Idealize.ShloMosaic.Lib.Pointwise

@[expose] public section

set_option maxRecDepth 16384

noncomputable section

namespace Cert.Kernel8Ideal.Grouped

open Gen
open Idealize.ShloMosaic Idealize.ShloMosaic.TcCoe Idealize.ShloMosaic.Tactic

variable {F : FTy → Type} [FloatOps F]

variable (m : (ℓ : Loc nD τ sig) → Buf (Elt F) ℓ)

/-- The tables' entry of a grid point: its row tile. -/
abbrev tile (i : grid0.Coords) : S40.Idx := ix1 (⟨(i 1).val, (i 1).isLt⟩ : Fin 40)

/-- A table as the launch memory holds it: the expert of each tile, -/
abbrev expert (k : S40.Idx) : BitVec 32 := m (((0 : Dev nD) : Thread nD τ).loc main_arg2) k
/-- and whether the tile is used. -/
abbrev valid (k : S40.Idx) : BitVec 32 := m (((0 : Dev nD) : Thread nD τ).loc main_arg3) k

/-- The experts are experts, and the flags are flags. -/
structure TablesOk : Prop where
  expert_lt : ∀ k, (expert m k).toNat < 8
  flag : ∀ k, valid m k = 0#32 ∨ valid m k = 1#32

theorem emb_tile : ∀ i : grid0.Coords, (Rect.unit (s := S40) (k0_off1 i) S1.size (k0_off1_inb i)).emb (Shape.Idx.first (numel1_S1.symm ▸ Nat.one_pos)) = tile i := by
  decide +kernel

theorem firstW_eq (c : Dev nD) (i : grid0.Coords) : firstW c i (tbl m 1) = tbl m 1 (tile i) := by
  rw [← emb_tile i]; rfl

theorem usedW_eq (c : Dev nD) (i : grid0.Coords) : usedW c i (tbl m 2) = valid m (tile i) := by
  have h : usedW c i (tbl m 2) = tbl m 2 (tile i) := by rw [← emb_tile i]; rfl
  rw [h]; exact congrFun (V_main_arg3 m 0) _

theorem padW_eq (c : Dev nD) (i : grid0.Coords) : padW c i (tbl m 2) = valid m (tile i) := usedW_eq m c i

theorem at0_eq (i : grid0.Coords) : (tbl m).at 0 (Rect.unit (s := S40) (k0_off1 i) S1.size (k0_off1_inb i)) numel1_S1 = expert m (tile i) := by
  have h : (tbl m).at 0 (Rect.unit (s := S40) (k0_off1 i) S1.size (k0_off1_inb i)) numel1_S1 = tbl m 0 (tile i) := by rw [← emb_tile i]; rfl
  rw [h]; exact congrFun (V_main_arg2 m 0) _

theorem transform1_eq (i : grid0.Coords) : cc0_transform_1 k0_off1_inb numel1_S1 (tbl m) i = ![0, (expert m (tile i)).toNat, 0, (i 0).val] := by
  have h : cc0_transform_1 k0_off1_inb numel1_S1 (tbl m) i = ![0, ((tbl m).at 0 (Rect.unit (s := S40) (k0_off1 i) S1.size (k0_off1_inb i)) numel1_S1).toNat, 0, (Scalar.addi 0#32 (BitVec.ofNat 32 (i 0).val)).toNat] := rfl
  rw [h, at0_eq, (by decide +kernel : ∀ i : grid0.Coords, (Scalar.addi 0#32 (BitVec.ofNat 32 (i 0).val)).toNat = (i 0).val) i]

variable {m}

theorem TablesOk.ok (h : TablesOk m) : Ok m := by
  refine fun i => ⟨fun a => ?_, .inl rfl⟩
  rw [transform1_eq]
  have := h.expert_lt (tile i)
  have hi0 : (i 0).val < 2 := (i 0).isLt
  fin_cases a
  · show (0 + 1) * 1 ≤ 2; omega
  · show ((expert m (tile i)).toNat + 1) * 1 ≤ 8; omega
  · show (0 + 1) * 2816 ≤ 2816; omega
  · show ((i 0).val + 1) * 1024 ≤ 2048; omega

/-- The computed table: a tile is its expert's first if it is tile 0 or its expert is not the tile before's. -/
theorem first_eq (k : Fin 39) : tbl m 1 (ix1 (⟨k.val + 1, by omega⟩ : Fin 40)) =
    if expert m (ix1 (⟨k.val + 1, by omega⟩ : Fin 40)) = expert m (ix1 (⟨k.val, by omega⟩ : Fin 40)) then 0#32 else 1#32 := by
  show V m 0 main_v5 _ = _
  dsimp only [V, hostOps0, List.flatten_cons, List.flatten_nil, List.append_nil, List.cons_append, List.nil_append]
  entry_read
  pointwise
  rw [dif_neg (by omega)]
  have e1 : (⟨1 + (k.val + 1 - 1), by omega⟩ : Fin 40) = ⟨k.val + 1, by omega⟩ := Fin.ext (by simp; omega)
  have e2 : (⟨k.val + 1 - 1, by omega⟩ : Fin 40) = ⟨k.val, by omega⟩ := Fin.ext (by simp)
  rw [e1, e2]
  show BitVec.setWidth 32 (IntOp.cmpi .ne (expert m (ix1 (⟨k.val + 1, by omega⟩ : Fin 40))) (expert m (ix1 (⟨k.val, by omega⟩ : Fin 40)))) = _
  split
  · next e => rw [e]; simp [IntOp.cmpi]
  · next e => rw [IntOp.cmpi_ne.2 e]; rfl

theorem first_zero : tbl m 1 (ix1 (⟨0, by omega⟩ : Fin 40)) = 1#32 := by
  show V m 0 main_v5 _ = _
  dsimp only [V, hostOps0, List.flatten_cons, List.flatten_nil, List.append_nil, List.cons_append, List.nil_append]
  entry_read
  pointwise

/-- An entry of the weights' block, read off the argument. -/
theorem iblk1_eq (hO : Ok m) (c : Dev nD) (t : Fin (cfgM m hO).N) (y : S1x1x2816x1024.Idx) (z : S2x8x2816x2048.Idx)
    (hz : ∀ a, (z a).val = (![0, (expert m (tile (grid0.coords t))).toNat, 0, (grid0.coords t 0).val] : Fin 4 → Nat) a * S1x1x2816x1024.size a + (y a).val) :
    iblk m hO c 1 t y = m ((c : Thread nD τ).loc main_arg1) z := by
  rw [← transform1_eq] at hz
  rw [← V_main_arg1 m c]
  exact congrArg (V m c main_arg1) (funext fun a => Fin.ext ((Pipeline.Window.rect_emb_val ((cfgM m hO).win 1) t y a).trans (hz a).symm))

/-- An entry of a row block's window, read off the argument. -/
theorem iblk0_eq (hO : Ok m) (c : Dev nD) (t : Fin (cfgM m hO).N) (y : S512x2816.Idx) (z : S20480x2816.Idx)
    (hz : ∀ a, (z a).val = (![(grid0.coords t 1).val, 0] : Fin 2 → Nat) a * S512x2816.size a + (y a).val) :
    iblk m hO c 0 t y = m ((c : Thread nD τ).loc main_arg0) z := by
  have hi : ∀ i : grid0.Coords, cc0_transform_0 i = ![(i 1).val, 0] := by decide +kernel
  rw [← hi] at hz
  rw [← V_main_arg0 m c]
  exact congrArg (V m c main_arg0) (funext fun a => Fin.ext ((Pipeline.Window.rect_emb_val ((cfgM m hO).win 0) t y a).trans (hz a).symm))

/-- Two points with the same tile expert and the same column block have the same block. -/
theorem iblk1_congr (hO : Ok m) (c : Dev nD) (t u : Fin (cfgM m hO).N) (h0 : (grid0.coords t) 0 = (grid0.coords u) 0)
    (he : expert m (tile (grid0.coords t)) = expert m (tile (grid0.coords u))) : iblk m hO c 1 t = iblk m hO c 1 u := by
  funext y
  have hz : ∀ a, ((((cfgM m hO).win 1).rect t).emb y a).val = cc0_transform_1 k0_off1_inb numel1_S1 (tbl m) (grid0.coords t) a * S1x1x2816x1024.size a + (y a).val :=
    fun a => Pipeline.Window.rect_emb_val ((cfgM m hO).win 1) t y a
  rw [transform1_eq] at hz
  refine (iblk1_eq hO c t y _ hz).trans (iblk1_eq hO c u y _ ?_).symm
  rw [← h0, ← he]; exact hz

/-- At a tile that is not flagged first there is a tile before it in the same expert. -/
theorem not_first (k : Fin 40) (h : ¬ IsFirst (tbl m 1 (ix1 k))) : ∃ h0 : k.val ≠ 0, expert m (ix1 k) = expert m (ix1 (⟨k.val - 1, by omega⟩ : Fin 40)) := by
  obtain ⟨k, hk⟩ := k
  rcases k with - | k
  · rw [first_zero] at h; exact absurd rfl h
  · refine ⟨Nat.succ_ne_zero _, ?_⟩
    have := first_eq (m := m) ⟨k, by omega⟩
    by_contra hne
    replace this := this.trans (if_neg hne)
    rw [show tbl m 1 (ix1 (⟨k + 1, hk⟩ : Fin 40)) = 1#32 from this] at h
    exact h rfl

theorem prev_coords : ∀ t : Fin grid0.N, (grid0.coords t 1).val ≠ 0 → t.val ≠ 0 ∧ ∀ h : t.val - 1 < grid0.N,
    grid0.coords t 0 = grid0.coords ⟨t.val - 1, h⟩ 0 ∧ (grid0.coords ⟨t.val - 1, h⟩ 1).val = (grid0.coords t 1).val - 1 := by decide +kernel

theorem TablesOk.good (h : TablesOk m) : Good m h.ok where
  carried c t hf := by
    rw [firstW_eq] at hf
    obtain ⟨h0, he⟩ := not_first _ hf
    obtain ⟨ht, hp⟩ := prev_coords t h0
    obtain ⟨hp0, hp1⟩ := hp (prev m h.ok t).isLt
    have he' : expert m (tile (grid0.coords t)) = expert m (tile (grid0.coords (prev m h.ok t))) := by
      refine he.trans (congrArg (fun k => expert m (ix1 k)) (Fin.ext hp1.symm))
    refine ⟨ht, ?_⟩
    unfold wg; rw [iblk1_congr h.ok c t (prev m h.ok t) hp0 he']
  stored c t := by
    rw [padW_eq, usedW_eq]
    rcases h.flag (tile (grid0.coords t)) with e | e <;> rw [e]
    · exact .inl rfl
    · exact .inr rfl

/-- A word between zero and a bound, as a natural number. -/
theorem toNat_lt_of_toInt (x : BitVec 32) (n : Nat) (h0 : 0 ≤ x.toInt) (h1 : x.toInt < n) : x.toNat < n := by
  rw [BitVec.toInt_eq_toNat_cond] at h0 h1
  split at h1 <;> omega

/-- The precondition, read. -/
theorem tablesOk_of_pre (x : FVec F S20480x2816 .bf16) (w : FVec F S2x8x2816x2048 .f32)
    (h : Cert.Pre_down_tables.fn (F := F) x w (m (((0 : Dev nD) : Thread nD τ).loc main_arg2)) (m (((0 : Dev nD) : Thread nD τ).loc main_arg3)) = fun _ => 1#1) : TablesOk m := by
  have h0 := congrFun h (Shape.Idx.first Cert.Pre_down_tables.Facts.h_S_)
  dsimp only [Cert.Pre_down_tables.fn] at h0
  obtain ⟨h1, h2⟩ := IntOp.andi_eq_one.1 h0
  refine ⟨fun k => ?_, fun k => ?_⟩
  · obtain ⟨ha, hb⟩ := IntOp.andi_eq_one.1 (Host.reduce_andi_all _ _ _ _ _ h1 k)
    have ha := IntOp.cmpi_sge.1 ha
    have hb := IntOp.cmpi_slt.1 hb
    exact toNat_lt_of_toInt _ 8 ha hb
  · obtain ⟨ha, hb⟩ := IntOp.andi_eq_one.1 (Host.reduce_andi_all _ _ _ _ _ h2 k)
    have ha := IntOp.cmpi_sge.1 ha
    have hb := IntOp.cmpi_sle.1 hb
    have hn : (valid m k).toNat < 2 := toNat_lt_of_toInt _ 2 ha (Int.lt_add_one_of_le hb)
    rcases Nat.le_one_iff_eq_zero_or_eq_one.1 (Nat.le_of_lt_succ hn) with e | e
    · exact .inl (BitVec.eq_of_toNat_eq e)
    · exact .inr (BitVec.eq_of_toNat_eq e)

end Cert.Kernel8Ideal.Grouped

end
-- ==== Proof.GroupedDown.lean ====
/- The routed experts' down product: the kernel's result array after the run is the reference's. Each row tile
belongs to one expert. The kernel multiplies the tile by that expert's weights, narrowed at the expert's first tile and kept
for the others, and stores zeros on a padding tile. The reference sums over the experts, each on its own rows. -/
module

public import proofs.«01_k».proof.Proof.GroupedDownTablesIdeal
public import proofs.«01_k».proof.Proof.Grouped
public import Idealize.ShloMosaic.Lib.Pointwise
public import Idealize.ShloMosaic.Lib.Pipeline.ValueKit
public import proofs.«01_k».proof.Proof.Gen.Reference8Ideal.Run

@[expose] public section

set_option maxRecDepth 16384

noncomputable section

namespace Cert.GroupedDown

open Idealize.ShloMosaic Idealize.ShloMosaic.TcCoe
open Cert.Grouped (word_inj)

section

open Cert.Reference8Ideal

variable (X : FVec Ideal S20480x2816 .bf16) (W : FVec Ideal S2x8x2816x2048 .f32) (E V : IVec S40 32)

/-- Row `R` of the activations times column `C` of expert `e`'s weights in the first layer. -/
def prod (e : Fin 8) (R : Fin 20480) (C : Fin 2048) : EReal := ∑ k : Fin 2816, X (ix2 R k) * W (ix4 0 e k C)

/-- The tile of a row. -/
abbrev tileOf (R : Fin 20480) : S40.Idx := ix1 (⟨R.val / 512, by omega⟩ : Fin 40)

open Cert.Reference8Ideal.Gen

theorem slice_expert (e : Fin 8) : S2x8x2816x2048.Slices ![0, e.val, 0, 0] S1x1x2816x2048 := by
  fin_cases e
  exacts [slices_S2x8x2816x2048_S1x1x2816x2048_0_0_0_0, slices_S2x8x2816x2048_S1x1x2816x2048_0_1_0_0,
    slices_S2x8x2816x2048_S1x1x2816x2048_0_2_0_0, slices_S2x8x2816x2048_S1x1x2816x2048_0_3_0_0,
    slices_S2x8x2816x2048_S1x1x2816x2048_0_4_0_0, slices_S2x8x2816x2048_S1x1x2816x2048_0_5_0_0,
    slices_S2x8x2816x2048_S1x1x2816x2048_0_6_0_0, slices_S2x8x2816x2048_S1x1x2816x2048_0_7_0_0]

/-- The product by expert `e`, on all rows. -/
def products (e : Fin 8) : FVec Ideal S20480x2048 .f32 :=
  Host.dotGeneral dot_S20480x2816_S2816x2048_S20480x2048_1_0_0_1_n_n none (extf .f32 X bitsLt_bf16_f32)
    (shapeCast _ (extractStridedSlice S1x1x2816x2048 ![0, e.val, 0, 0] W (slice_expert e)) shapeCasts_S1x1x2816x2048_S2816x2048)

theorem products_at (e : Fin 8) (R : Fin 20480) (C : Fin 2048) : products X W e (ix2 R C) = prod X W e R C := by
  pointwise [products, prod]

/-- A table, repeated over its tile's rows. -/
def rows (T : IVec S40 32) : IVec S20480x1 32 :=
  broadcastInDim S20480x1 ![0] bcast_S20480_S20480x1_0 (shapeCast _ (broadcastInDim S40x512 ![0] bcast_S40_S40x512_0 T) shapeCasts_S40x512_S20480)

theorem rows_at (T : IVec S40 32) (R : Fin 20480) (z : Fin 1) : rows T (ix2 R z) = T (tileOf R) := by
  pointwise [rows]

/-- The same on the expert's own rows, zero elsewhere. -/
def summand (e : Fin 8) : FVec Ideal S20480x2048 .f32 :=
  select (broadcastInDim S20480x2048 ![0, 1] bcast_S20480x1_S20480x2048_0_1
      (andi (cmpi .eq (rows V) (broadcastInDim S20480x1 ![] bcast_S_S20480x1 (constantI S_ 32 1#32)))
        (cmpi .eq (rows E) (broadcastInDim S20480x1 ![] bcast_S_S20480x1 (constantI S_ 32 (BitVec.ofNat 32 e.val))))))
    (products X W e) (broadcastInDim S20480x2048 ![] bcast_S_S20480x2048 (sitofp .f32 (constantI S_ 32 0#32)))

theorem summand_at (e : Fin 8) (R : Fin 20480) (C : Fin 2048) :
    summand X W E V e (ix2 R C) = if V (tileOf R) = 1#32 ∧ E (tileOf R) = BitVec.ofNat 32 e.val then prod X W e R C else 0 := by
  pointwise [summand]
  simp only [products_at, rows_at]
  have h0 : FloatOps.sitofp (F := Ideal) FTy.f32 0#32 = (0 : EReal) := by
    show (((0#32 : BitVec 32).toInt : ℝ) : EReal) = 0
    simp
  rw [h0]
  by_cases h : V (tileOf R) = 1#32 ∧ E (tileOf R) = BitVec.ofNat 32 e.val
  · rw [if_pos h, IntOp.cmpi_eq.2 h.1, IntOp.cmpi_eq.2 h.2]
    rfl
  · rw [if_neg h]
    have hn : ¬ IntOp.andi (IntOp.cmpi .eq (V (tileOf R)) 1#32) (IntOp.cmpi .eq (E (tileOf R)) (BitVec.ofNat 32 e.val)) = 1#1 :=
      fun hc => h ⟨IntOp.cmpi_eq.1 (IntOp.andi_eq_one.1 hc).1, IntOp.cmpi_eq.1 (IntOp.andi_eq_one.1 hc).2⟩
    exact if_neg hn

/-- The reference's result, of its four arguments. -/
def reference : FVec Ideal S20480x2048 .f32 :=
  addf (addf (addf (addf (addf (addf (addf (addf (broadcastInDim S20480x2048 ![] bcast_S_S20480x2048 (constant S_ .f32 0x00000000#32))
    (summand X W E V 0)) (summand X W E V 1)) (summand X W E V 2)) (summand X W E V 3)) (summand X W E V 4)) (summand X W E V 5))
    (summand X W E V 6)) (summand X W E V 7)

/-- An entry of the reference's result: the tile's expert's product if the tile is used, zero if not. -/
theorem reference_at (e : Fin 8) (R : Fin 20480) (C : Fin 2048) (he : E (tileOf R) = BitVec.ofNat 32 e.val) :
    reference X W E V (ix2 R C) = if V (tileOf R) = 1#32 then prod X W e R C else 0 := by
  pointwise [reference]
  simp only [summand_at, he, word_inj]
  by_cases hv : V (tileOf R) = 1#32
  · simp only [hv, true_and, if_true]
    fin_cases e <;> simp
  · simp [hv]

end

open Cert.Kernel8Ideal Cert.Kernel8Ideal.Gen
open Cert.Kernel8Ideal.Grouped hiding expert valid tile

/-- The narrowed weights of a block: the block's own entries. -/
theorem pay1_at (w : FVec Ideal S1x1x2816x1024 .f32) (k : Fin 2816) (j : Fin 1024) : k0_pay1 (F := Ideal) w (ix2 k j) = w (ix4 0 0 k j) := by
  pointwise [k0_pay1]

/-- The body's result at an entry of a used tile, -/
theorem pay2_at (x : FVec Ideal S512x2816 .bf16) (a : FVec Ideal S2816x1024 .bf16) (r : Fin 512) (j : Fin 1024) :
    k0_pay2 (F := Ideal) x a (ix2 r j) = ∑ k : Fin 2816, x (ix2 r k) * a (ix2 k j) := by
  pointwise [k0_pay2]

/-- and of a padding tile. -/
theorem pay3_at (r : Fin 512) (j : Fin 1024) : k0_pay3 (F := Ideal) (ix2 r j) = (0 : EReal) := by
  pointwise [k0_pay3]

variable (m : (ℓ : Loc nD τ sig) → Buf (Elt Ideal) ℓ) (c : Dev nD)

/-- The arguments, as arrays. -/
abbrev argX : FVec Ideal S20480x2816 .bf16 := m ((c : Thread nD τ).loc main_arg0)
abbrev argW : FVec Ideal S2x8x2816x2048 .f32 := m ((c : Thread nD τ).loc main_arg1)
abbrev argE : IVec S40 32 := m ((c : Thread nD τ).loc main_arg2)
abbrev argV : IVec S40 32 := m ((c : Thread nD τ).loc main_arg3)

variable {m} (h : TablesOk m) (t : Fin (cfgM m h.ok).N)

theorem coords_lt : ∀ i : grid0.Coords, (i 0).val < 2 ∧ (i 1).val < 40 := by decide +kernel

/-- The array's row and column at row `r` and column `j` of the point's block. -/
abbrev rowOf (i : grid0.Coords) (r : Fin 512) : Fin 20480 := ⟨(i 1).val * 512 + r.val, by have := coords_lt i; omega⟩
abbrev colOf (i : grid0.Coords) (j : Fin 1024) : Fin 2048 := ⟨(i 0).val * 1024 + j.val, by have := coords_lt i; omega⟩

/-- The expert of the point's tile. -/
abbrev expertOf (i : grid0.Coords) : Fin 8 := ⟨(Cert.Kernel8Ideal.Grouped.expert m (Cert.Kernel8Ideal.Grouped.tile i)).toNat, h.expert_lt _⟩

theorem tileOf_row (i : grid0.Coords) (r : Fin 512) : tileOf (rowOf i r) = Cert.Kernel8Ideal.Grouped.tile i :=
  congrArg ix1 (Fin.ext (by show ((i 1).val * 512 + r.val) / 512 = (i 1).val; omega))

theorem read0 (r : Fin 512) (k : Fin 2816) : iblk m h.ok c 0 t (ix2 r k) = argX m c (ix2 (rowOf (grid0.coords t) r) k) :=
  iblk0_eq h.ok c t (ix2 r k) _ (fun a => by fin_cases a <;> simp)

theorem read1 (k : Fin 2816) (j : Fin 1024) : iblk m h.ok c 1 t (ix4 0 0 k j)
    = argW m c (ix4 0 (expertOf h (grid0.coords t)) k (colOf (grid0.coords t) j)) :=
  iblk1_eq h.ok c t (ix4 0 0 k j) _ (fun a => by fin_cases a <;> simp)

/-- What a point leaves in the result's block: the tile's expert's product if the tile is used, zeros if not. -/
theorem left (r : Fin 512) (j : Fin 1024) : outAt m h.ok c t (ix2 r j)
    = if Cert.Kernel8Ideal.Grouped.valid m (Cert.Kernel8Ideal.Grouped.tile (grid0.coords t)) = 1#32
      then prod (argX m c) (argW m c) (expertOf h (grid0.coords t)) (rowOf (grid0.coords t) r) (colOf (grid0.coords t) j) else 0 := by
  unfold outAt outOf
  rw [padW_eq, usedW_eq]
  rcases h.flag (Cert.Kernel8Ideal.Grouped.tile (grid0.coords t)) with e | e <;> rw [e]
  · rw [if_pos (by rfl), if_neg (by decide)]
    exact pay3_at r j
  · rw [if_neg (by decide), if_pos (by rfl), if_pos rfl]
    refine (pay2_at _ _ r j).trans ?_
    unfold wg prod
    exact Finset.sum_congr rfl fun k _ => congrArg₂ (· * ·) (read0 c h t r k) ((pay1_at _ k j).trans (read1 c h t k j))

/-- The reference at the same entry. -/
theorem reference_row (i : grid0.Coords) (r : Fin 512) (j : Fin 1024) :
    reference (argX m 0) (argW m 0) (argE m 0) (argV m 0) (ix2 (rowOf i r) (colOf i j))
      = if Cert.Kernel8Ideal.Grouped.valid m (Cert.Kernel8Ideal.Grouped.tile i) = 1#32
        then prod (argX m 0) (argW m 0) (expertOf h i) (rowOf i r) (colOf i j) else 0 := by
  have he : argE m 0 (tileOf (rowOf i r)) = BitVec.ofNat 32 (expertOf h i).val := by
    rw [tileOf_row]
    exact BitVec.eq_of_toNat_eq (by rw [BitVec.toNat_ofNat]; exact (Nat.mod_eq_of_lt (BitVec.isLt _)).symm)
  refine (reference_at _ _ _ _ (expertOf h i) _ _ he).trans ?_
  rw [tileOf_row]

theorem index2 : ∀ i : grid0.Coords, cc0_transform_2 i = ![(i 1).val, (i 0).val] := by decide +kernel

/-- Every block of the result is a point's. -/
theorem onto2 : ∀ (r : Fin 40) (j : Fin 2), ∃ t : Fin grid0.N, cc0_transform_2 (grid0.coords t) = ![r.val, j.val] := by decide +kernel

theorem covers2 : Pipeline.Window.Covers ((cfgM m h.ok).win 2) := by
  refine ⟨fun a => (by decide : ∀ a : Fin 2, 0 < S512x1024.size a) a, fun β => ?_⟩
  have h0 : ((cfgM m h.ok).win 2).nblk (0 : Fin 2) = 40 := (by decide : (20480 + 512 - 1) / 512 = 40)
  have h1 : ((cfgM m h.ok).win 2).nblk (1 : Fin 2) = 2 := (by decide : (2048 + 1024 - 1) / 1024 = 2)
  obtain ⟨t, ht⟩ := onto2 (Fin.cast h0 (β (0 : Fin 2))) (Fin.cast h1 (β (1 : Fin 2)))
  refine ⟨t, flush0_2 (adm m h.ok) t, fun a => ⟨?_, .inl rfl⟩⟩
  show cc0_transform_2 (grid0.coords t) a = _
  rw [ht]
  exact (fun a => by fin_cases a <;> rfl : ∀ a : Fin 2, (![(β (0 : Fin 2)).val, (β (1 : Fin 2)).val] : Fin 2 → Nat) a = (β a).val) a

/-- THE RESULT: the output array after the run is the reference's. -/
theorem final : (dats m h.ok 0 c).arrAt 2 (cfgM m h.ok).N = reference (argX m c) (argW m c) (argE m c) (argV m c) := by
  obtain rfl : c = 0 := Subsingleton.elim _ _
  refine (dats m h.ok 0 0).arrAt_eq_of_emb 2 _ (fun t _ => ?_) ?_
  · show ∀ y : S512x1024.Idx, _
    intro y
    idx_vars y
    have he : (((cfgM m h.ok).win 2).rect t).emb (ix2 y0 y1) = ix2 (rowOf (grid0.coords t) y0) (colOf (grid0.coords t) y1) := by
      funext a
      apply Fin.ext
      refine (Pipeline.Window.rect_emb_val ((cfgM m h.ok).win 2) t (ix2 y0 y1) a).trans ?_
      show cc0_transform_2 (grid0.coords t) a * S512x1024.size a + _ = _
      rw [index2]
      fin_cases a <;> simp
    have hl := (left 0 h t y0 y1).trans (reference_row h (grid0.coords t) y0 y1).symm
    rw [← he] at hl
    rw [after0_2]
    exact hl
  · exact (covers2 h).cover _ (Memref.isWhole_whole _)

end Cert.GroupedDown

end
-- ==== Proof.HeadQ.lean ====
/- The attention's queries, normed head by head: the kernel's result array after the run is the reference's. The kernel
norms eight heads of a block and sets them side by side. It narrows the weights of a block of columns at the first block
of rows, and keeps them for the others. -/
module

public import proofs.«01_k».proof.Proof.Gen.Kernel9Ideal.Value
public import proofs.«01_k».proof.Proof.Gen.Reference9Ideal.Run
public import Idealize.ShloMosaic.Lib.Pipeline.ValueKit
public import Idealize.ShloMosaic.Lib.Pipeline.ValueKit.Held
public import Idealize.ShloMosaic.Lib.Pipeline.ReadBack

@[expose] public section

set_option maxRecDepth 16384

noncomputable section

namespace Cert.HeadQ

open Idealize.ShloMosaic Idealize.ShloMosaic.TcCoe

/-- Entry `d` of a head's row `y` after the norm: divided by the root of its mean square, times the gain. -/
def normed (y : Fin 128 → EReal) (g : EReal) (d : Fin 128) : EReal :=
  y d * Ideal.rsqrt (Ideal.div (∑ k, y k * y k) (Ideal.ofBits FTy.f32 1124073472#32) + Ideal.ofBits FTy.f32 897988541#32) * g

section

open Cert.Reference9Ideal Cert.Reference9Ideal.Gen

variable (X : FVec Ideal S8192x2048 .bf16) (W : FVec Ideal S2x2048x2048 .f32) (G : FVec Ideal S2x128 .f32)

/-- Row `R` of the activations times column `C` of the first layer's weights. -/
def spec (R : Fin 8192) (C : Fin 2048) : EReal := ∑ k : Fin 2048, X (ix2 R k) * W (ix3 0 k C)

/-- The product, head by head. -/
def heads : FVec Ideal S8192x16x128 .f32 :=
  shapeCast _ (Host.dotGeneral dot_S8192x2048_S2048x2048_S8192x2048_1_0_0_1_n_n none (extf .f32 X bitsLt_bf16_f32)
    (shapeCast _ (extractStridedSlice S1x2048x2048 ![0, 0, 0] W slices_S2x2048x2048_S1x2048x2048_0_0_0) shapeCasts_S1x2048x2048_S2048x2048)) shapeCasts_S8192x2048_S8192x16x128

/-- The factor of each head's row. -/
def factor (Z : FVec Ideal S8192x16x128 .f32) : FVec Ideal S8192x16x1 .f32 :=
  Host.rsqrt (addf (Host.divf (broadcastInDim S8192x16x1 ![0, 1] bcast_S8192x16_S8192x16x1_0_1
    (Host.reduceAdd (mulf Z Z) (constant S_ .f32 0x00000000#32) reducesTo_S8192x16x128_S8192x16_d2 h_S_))
    (broadcastInDim S8192x16x1 ![] bcast_S_S8192x16x1 (constant S_ .f32 0x43000000#32)))
    (broadcastInDim S8192x16x1 ![] bcast_S_S8192x16x1 (constant S_ .f32 0x358637BD#32)))

/-- The gain of the first layer. -/
def gain : FVec Ideal S128 .f32 := shapeCast _ (extractStridedSlice S1x128 ![0, 0] G slices_S2x128_S1x128_0_0) shapeCasts_S1x128_S128

/-- A head's rows after the norm. -/
def norms (Z : FVec Ideal S8192x16x128 .f32) (g : FVec Ideal S128 .f32) : FVec Ideal S8192x16x128 .f32 :=
  mulf (mulf Z (broadcastInDim S8192x16x128 ![0, 1, 2] bcast_S8192x16x1_S8192x16x128_0_1_2 (factor Z)))
    (broadcastInDim S8192x16x128 ![0, 1, 2] bcast_S1x1x128_S8192x16x128_0_1_2 (broadcastInDim S1x1x128 ![2] bcast_S128_S1x1x128_2 g))

/-- The reference's result, of its three arguments. -/
def reference : FVec Ideal S8192x2048 .bf16 :=
  truncf .bf16 (shapeCast _ (norms (heads X W) (gain G)) shapeCasts_S8192x16x128_S8192x2048) bitsLt_bf16_f32

theorem heads_at (R : Fin 8192) (h : Fin 16) (d : Fin 128) : heads X W (ix3 R h d) = spec X W R ⟨h.val * 128 + d.val, by omega⟩ := by
  pointwise [heads, spec]

theorem factor_at (Z : FVec Ideal S8192x16x128 .f32) (R : Fin 8192) (h : Fin 16) : factor Z (ix3 R h 0) =
    Ideal.rsqrt (Ideal.div (∑ k, Z (ix3 R h k) * Z (ix3 R h k)) (Ideal.ofBits FTy.f32 1124073472#32) + Ideal.ofBits FTy.f32 897988541#32) := by
  pointwise [factor]

theorem norms_at (Z : FVec Ideal S8192x16x128 .f32) (g : FVec Ideal S128 .f32) (R : Fin 8192) (h : Fin 16) (d : Fin 128) :
    norms Z g (ix3 R h d) = normed (fun k => Z (ix3 R h k)) (g (ix1 d)) d := by
  pointwise [norms, factor_at, normed]

theorem gain_at (d : Fin 128) : gain G (ix1 d) = G (ix2 0 d) := by
  pointwise [gain]

theorem reference_at (R : Fin 8192) (h : Fin 16) (d : Fin 128) : reference X W G (ix2 R ⟨h.val * 128 + d.val, by omega⟩) =
    normed (fun k => spec X W R ⟨h.val * 128 + k.val, by omega⟩) (G (ix2 0 d)) d := by
  pointwise [reference]
  rw [norms_at]
  simp only [heads_at, gain_at]

end

open Cert.Kernel9Ideal Cert.Kernel9Ideal.Gen

/-- The narrowed weights of a block of columns: the block's own entries. -/
theorem pay2_at (w : FVec Ideal S1x2048x1024 .f32) (k : Fin 2048) (j : Fin 1024) : k0_pay2 (F := Ideal) w (ix2 k j) = w (ix3 0 k j) := by
  pointwise [k0_pay2]

/-- The product at an entry. -/
theorem pay3_at (x : FVec Ideal S1024x2048 .bf16) (a : FVec Ideal S2048x1024 .bf16) (r : Fin 1024) (j : Fin 1024) :
    k0_pay3 (F := Ideal) x a (ix2 r j) = ∑ k : Fin 2048, x (ix2 r k) * a (ix2 k j) := by
  pointwise [k0_pay3]

/-- Row `r` of head `h` in a block of eight heads. -/
abbrev headOf (Y : FVec Ideal S1024x1024 .f32) (r : Fin 1024) (h : Fin 8) (k : Fin 128) : EReal := Y (ix2 r ⟨h.val * 128 + k.val, by omega⟩)

/-- The body's result, of what it reads. -/
def body (x : FVec Ideal S1024x2048 .bf16) (a : FVec Ideal S2048x1024 .bf16) (g : FVec Ideal S1x128 .f32) : FVec Ideal S1024x1024 .bf16 :=
  k0_pay1 (k0_pay3 x a) (k0_pay4 g) (k0_pay5 x a g) (k0_pay6 x a g) (k0_pay9 (k0_pay4 g) (k0_pay7 x a) (k0_pay8 x a))
    (k0_pay10 (k0_pay3 x a) (k0_pay4 g)) (k0_pay11 (k0_pay3 x a) (k0_pay4 g)) (k0_pay12 (k0_pay3 x a) (k0_pay4 g)) (k0_pay13 (k0_pay3 x a)) (k0_pay14 (k0_pay3 x a))

/-- The eight parts side by side, at column `d` of part `h`. -/
theorem cat_at (p : Fin 8 → FVec Ideal S1024x128 .f32) (r : Fin 1024) (h : Fin 8) (d : Fin 128) :
    concatenate S1024x1024 1 [⟨S1024x128, p 0⟩, ⟨S1024x128, p 1⟩, ⟨S1024x128, p 2⟩, ⟨S1024x128, p 3⟩, ⟨S1024x128, p 4⟩, ⟨S1024x128, p 5⟩, ⟨S1024x128, p 6⟩, ⟨S1024x128, p 7⟩] concatenates_S1024x128_S1024x128_S1024x128_S1024x128_S1024x128_S1024x128_S1024x128_S1024x128_S1024x1024_d1 (ix2 r ⟨h.val * 128 + d.val, by omega⟩) = p h (ix2 r d) := by
  fin_cases h <;> pointwise [] <;> (repeat (first | rw [dif_pos (by omega)] | rw [dif_neg (by omega)])) <;> congr 2 <;> (try (ext; simp; omega))

/-- The first head of the block. -/
theorem part0 (x : FVec Ideal S1024x2048 .bf16) (a : FVec Ideal S2048x1024 .bf16) (g : FVec Ideal S1x128 .f32) (r : Fin 1024) (d : Fin 128) :
    k0_pay5 (F := Ideal) x a g (ix2 r d) = normed (headOf (k0_pay3 x a) r 0) (g (ix2 0 d)) d := by
  pointwise [k0_pay5, k0_pay4, normed, headOf]

/-- The third, whose mean is computed apart. -/
theorem part2 (x : FVec Ideal S1024x2048 .bf16) (a : FVec Ideal S2048x1024 .bf16) (g : FVec Ideal S1x128 .f32) (r : Fin 1024) (d : Fin 128) :
    k0_pay9 (F := Ideal) (k0_pay4 g) (k0_pay7 x a) (k0_pay8 x a) (ix2 r d) = normed (headOf (k0_pay3 x a) r 2) (g (ix2 0 d)) d := by
  pointwise [k0_pay4, k0_pay7, k0_pay8, k0_pay9, normed, headOf]

/-- The fourth. -/
theorem part3 (Y : FVec Ideal S1024x1024 .f32) (g : FVec Ideal S1x128 .f32) (r : Fin 1024) (d : Fin 128) :
    k0_pay10 Y (k0_pay4 g) (ix2 r d) = normed (headOf Y r 3) (g (ix2 0 d)) d := by
  pointwise [k0_pay4, k0_pay10, normed, headOf]

/-- Every head of the body's result is the product's, normed. -/
theorem body_at (x : FVec Ideal S1024x2048 .bf16) (a : FVec Ideal S2048x1024 .bf16) (g : FVec Ideal S1x128 .f32) (r : Fin 1024) (h : Fin 8) (d : Fin 128) :
    body x a g (ix2 r ⟨h.val * 128 + d.val, by omega⟩) = normed (headOf (k0_pay3 x a) r h) (g (ix2 0 d)) d := by
  unfold body k0_pay1
  refine (cat_at ![_, _, _, _, _, _, _, _] r h d).trans ?_
  fin_cases h
  · exact part0 x a g r d
  · change k0_pay6 (F := Ideal) x a g (ix2 r d) = _
    pointwise [k0_pay6, k0_pay4, normed, headOf]
  · exact part2 x a g r d
  · exact part3 _ g r d
  · change k0_pay11 _ _ (ix2 r d) = _
    pointwise [k0_pay11, k0_pay4, normed, headOf]
  · change k0_pay12 _ _ (ix2 r d) = _
    pointwise [k0_pay12, k0_pay4, normed, headOf]
  · dsimp only
    pointwise [k0_pay13, k0_pay14, k0_pay4, normed, headOf]
  · dsimp only
    pointwise [k0_pay4, normed, headOf]

/-- Where each window's block lies at each grid point. -/
theorem idx : ∀ t : Fin cfg0.N, win0_0.index t = ![t.val % 8, 0] ∧ win0_1.index t = ![0, 0, t.val / 8]
    ∧ win0_2.index t = ![0, 0] ∧ win0_3.index t = ![t.val % 8, t.val / 8] ∧ t.val / 8 < 2 :=
  (by decide +kernel : ∀ t : Fin grid0.N, _)

variable (m : (ℓ : Loc nD τ sig) → Buf (Elt Ideal) ℓ) (c : Dev nD)

/-- The arguments, as arrays. -/
abbrev argX : FVec Ideal S8192x2048 .bf16 := m ((c : Thread nD τ).loc main_arg0)
abbrev argW : FVec Ideal S2x2048x2048 .f32 := m ((c : Thread nD τ).loc main_arg1)
abbrev argG : FVec Ideal S2x128 .f32 := m ((c : Thread nD τ).loc main_arg2)

variable (t : Fin cfg0.N)

/-- The array's row and column at row `r` and column `j` of the point's block. -/
abbrev rowOf (r : Fin 1024) : Fin 8192 := ⟨t.val % 8 * 1024 + r.val, by omega⟩
abbrev colOf (j : Fin 1024) : Fin 2048 := ⟨t.val / 8 * 1024 + j.val, by have := (idx t).2.2.2.2; omega⟩

/-- The array's head at head `h` of the point's block. -/
abbrev headIn (h : Fin 8) : Fin 16 := ⟨t.val / 8 * 8 + h.val, by have := (idx t).2.2.2.2; omega⟩

theorem read0 (r : Fin 1024) (k : Fin 2048) : iblk m c 0 t (ix2 r k) = argX m c (ix2 (rowOf t r) k) := by
  blk_ext [iblk, V, idx t]

theorem read1 (k : Fin 2048) (j : Fin 1024) : iblk m c 1 t (ix3 0 k j) = argW m c (ix3 0 k (colOf t j)) := by
  blk_ext [iblk, V, idx t]

/-- The gain that the host prepares is the first layer's. -/
theorem prepared (d : Fin 128) : V m c main_v2 (ix2 0 d) = argG m c (ix2 0 d) := by
  dsimp only [V, hostOps0]
  entry_read
  pointwise

theorem read2 (d : Fin 128) : iblk m c 2 t (ix2 0 d) = argG m c (ix2 0 d) := by
  rw [← prepared]
  blk_ext [iblk, idx t]

/-- The kept weights at every point are the point's own block of columns. -/
theorem held (k : Fin 2048) (j : Fin 1024) :
    (outsAt0 m c t.val t.isLt).2 (ix2 k j) = argW m c (ix3 0 k (colOf t j)) := by
  refine (Pipeline.eq_of_write_hold_apply (fun n h => (outsAt0 m c n h).2) 8 (fun t => k0_pay2 (F := Ideal) (iblk m c 1 t)) (fun t h i => ?_) (fun t h i => ?_) t (ix2 k j)).trans ?_
  · simp only [outsAt0_A m c t h]
    frame_out
  · simp only [outsAt0_B m c t h]
    rfl
  · rw [pay2_at, read1]
    congr 2
    simp [colOf, Nat.mul_div_cancel_left]

/-- What a point leaves in the result's block: the body's result over the kept weights. -/
theorem left (r : Fin 1024) (j : Fin 1024) :
    (outsAt0 m c t.val t.isLt).1 (ix2 r j) = body (iblk m c 0 t) (outsAt0 m c t.val t.isLt).2 (iblk m c 2 t) (ix2 r j) := by
  by_cases h : t.val % 8 = 0
  · simp only [outsAt0_A m c t h]
    frame_out
    rfl
  · simp only [outsAt0_B m c t h]
    frame_out
    simp only [read_unread_whole]
    rfl

/-- The body's result over the kept weights is the reference's entry. -/
theorem point (r : Fin 1024) (h : Fin 8) (d : Fin 128) :
    body (iblk m c 0 t) (outsAt0 m c t.val t.isLt).2 (iblk m c 2 t) (ix2 r ⟨h.val * 128 + d.val, by omega⟩)
      = reference (argX m c) (argW m c) (argG m c) (ix2 (rowOf t r) (colOf t ⟨h.val * 128 + d.val, by omega⟩)) := by
  have hc : colOf t ⟨h.val * 128 + d.val, by omega⟩ = ⟨(headIn t h).val * 128 + d.val, by omega⟩ := by
    ext; simp only [colOf, headIn]; omega
  rw [hc, reference_at, body_at, read2]
  congr 1
  funext k
  rw [headOf, pay3_at, spec]
  simp only [read0, held]
  refine Finset.sum_congr rfl fun i _ => ?_
  congr 3
  ext; simp only [colOf, headIn]; omega

/-- THE RESULT: the output array after the run is the reference's. -/
theorem final : (dats m 0 c).arrAt 3 cfg0.N = reference (argX m c) (argW m c) (argG m c) := by
  refine (dats m 0 c).arrAt_eq_of_covers 3 _ (by decide +kernel) fun t _ y => ?_
  blk_simp
  idx_vars y
  have he : ((View.whole main_v3).slice (win0_3.rect t)).emb (ix2 y0 y1) = ix2 (rowOf t y0) (colOf t y1) := by
    blk_ext [idx t]
  rw [he, after0_3, left]
  have hy : y1 = ⟨y1.val / 128 * 128 + y1.val % 128, by omega⟩ := by ext; simp only []; omega
  rw [hy]
  exact point m c t y0 ⟨y1.val / 128, by omega⟩ ⟨y1.val % 128, by omega⟩

end Cert.HeadQ

end
-- ==== Proof.HeadK.lean ====
/- The attention's shared keys, normed head by head, from one matrix of weights: the kernel's two result arrays after the
run, one in the wider and one in the narrower precision, are the reference's. As for the queries (`HeadQ`). -/
module

public import proofs.«01_k».proof.Proof.Gen.Kernel10Ideal.Value
public import proofs.«01_k».proof.Proof.Gen.Reference10Ideal.Run
public import proofs.«01_k».proof.Proof.HeadQ
public import Idealize.ShloMosaic.Lib.Pipeline.ValueKit
public import Idealize.ShloMosaic.Lib.Pipeline.ValueKit.Held
public import Idealize.ShloMosaic.Lib.Pipeline.ReadBack

@[expose] public section

set_option maxRecDepth 16384

noncomputable section

namespace Cert.HeadK

open Idealize.ShloMosaic Idealize.ShloMosaic.TcCoe

open Cert.HeadQ (normed)

section

open Cert.Reference10Ideal Cert.Reference10Ideal.Gen

variable (X : FVec Ideal S8192x2048 .bf16) (W : FVec Ideal S2048x4112 .f32) (G : FVec Ideal S128 .f32)

/-- Row `R` of the activations times column `C` of the keys' columns of the weights. -/
def spec (R : Fin 8192) (C : Fin 2048) : EReal := ∑ k : Fin 2048, X (ix2 R k) * W (ix2 k ⟨C.val, by omega⟩)

/-- The product, head by head. -/
def heads : FVec Ideal S8192x16x128 .f32 :=
  shapeCast _ (Host.dotGeneral dot_S8192x2048_S2048x2048_S8192x2048_1_0_0_1_n_n none (extf .f32 X bitsLt_bf16_f32)
    (extractStridedSlice S2048x2048 ![0, 0] W slices_S2048x4112_S2048x2048_0_0)) shapeCasts_S8192x2048_S8192x16x128

/-- The factor of each head's row. -/
def factor (Z : FVec Ideal S8192x16x128 .f32) : FVec Ideal S8192x16x1 .f32 :=
  Host.rsqrt (addf (Host.divf (broadcastInDim S8192x16x1 ![0, 1] bcast_S8192x16_S8192x16x1_0_1
    (Host.reduceAdd (mulf Z Z) (constant S_ .f32 0x00000000#32) reducesTo_S8192x16x128_S8192x16_d2 h_S_))
    (broadcastInDim S8192x16x1 ![] bcast_S_S8192x16x1 (constant S_ .f32 0x43000000#32)))
    (broadcastInDim S8192x16x1 ![] bcast_S_S8192x16x1 (constant S_ .f32 0x358637BD#32)))

/-- A head's rows after the norm. -/
def norms (Z : FVec Ideal S8192x16x128 .f32) (g : FVec Ideal S128 .f32) : FVec Ideal S8192x16x128 .f32 :=
  mulf (mulf Z (broadcastInDim S8192x16x128 ![0, 1, 2] bcast_S8192x16x1_S8192x16x128_0_1_2 (factor Z)))
    (broadcastInDim S8192x16x128 ![0, 1, 2] bcast_S1x1x128_S8192x16x128_0_1_2 (broadcastInDim S1x1x128 ![2] bcast_S128_S1x1x128_2 g))

/-- The reference's result, of its three arguments. -/
def reference : FVec Ideal S8192x2048 .f32 :=
  shapeCast _ (norms (heads X W) G) shapeCasts_S8192x16x128_S8192x2048

theorem heads_at (R : Fin 8192) (h : Fin 16) (d : Fin 128) : heads X W (ix3 R h d) = spec X W R ⟨h.val * 128 + d.val, by omega⟩ := by
  pointwise [heads, spec]

theorem factor_at (Z : FVec Ideal S8192x16x128 .f32) (R : Fin 8192) (h : Fin 16) : factor Z (ix3 R h 0) =
    Ideal.rsqrt (Ideal.div (∑ k, Z (ix3 R h k) * Z (ix3 R h k)) (Ideal.ofBits FTy.f32 1124073472#32) + Ideal.ofBits FTy.f32 897988541#32) := by
  pointwise [factor]

theorem norms_at (Z : FVec Ideal S8192x16x128 .f32) (g : FVec Ideal S128 .f32) (R : Fin 8192) (h : Fin 16) (d : Fin 128) :
    norms Z g (ix3 R h d) = normed (fun k => Z (ix3 R h k)) (g (ix1 d)) d := by
  pointwise [norms, factor_at, normed]

theorem reference_at (R : Fin 8192) (h : Fin 16) (d : Fin 128) : reference X W G (ix2 R ⟨h.val * 128 + d.val, by omega⟩) =
    normed (fun k => spec X W R ⟨h.val * 128 + k.val, by omega⟩) (G (ix1 d)) d := by
  pointwise [reference]
  rw [norms_at]
  simp only [heads_at]

end

open Cert.Kernel10Ideal Cert.Kernel10Ideal.Gen

/-- The narrowed weights of a block of columns: the block's own entries. -/
theorem pay3_at (w : FVec Ideal S2048x1024 .f32) (k : Fin 2048) (j : Fin 1024) : k0_pay3 (F := Ideal) w (ix2 k j) = w (ix2 k j) := by
  pointwise [k0_pay3]

/-- The product at an entry. -/
theorem pay4_at (x : FVec Ideal S1024x2048 .bf16) (a : FVec Ideal S2048x1024 .bf16) (r : Fin 1024) (j : Fin 1024) :
    k0_pay4 (F := Ideal) x a (ix2 r j) = ∑ k : Fin 2048, x (ix2 r k) * a (ix2 k j) := by
  pointwise [k0_pay4]

/-- Row `r` of head `h` in a block of eight heads. -/
abbrev headOf (Y : FVec Ideal S1024x1024 .f32) (r : Fin 1024) (h : Fin 8) (k : Fin 128) : EReal := Y (ix2 r ⟨h.val * 128 + k.val, by omega⟩)

/-- The body's result, of what it reads. -/
def body (x : FVec Ideal S1024x2048 .bf16) (a : FVec Ideal S2048x1024 .bf16) (g : FVec Ideal S1x128 .f32) : FVec Ideal S1024x1024 .f32 :=
  k0_pay1 (k0_pay4 x a) (k0_pay5 g) (k0_pay6 x a g) (k0_pay7 x a g) (k0_pay10 (k0_pay5 g) (k0_pay8 x a) (k0_pay9 x a))
    (k0_pay11 (k0_pay4 x a) (k0_pay5 g)) (k0_pay12 (k0_pay4 x a) (k0_pay5 g)) (k0_pay13 (k0_pay4 x a) (k0_pay5 g)) (k0_pay14 (k0_pay4 x a)) (k0_pay15 (k0_pay4 x a))

/-- The eight parts side by side, at column `d` of part `h`. -/
theorem cat_at (p : Fin 8 → FVec Ideal S1024x128 .f32) (r : Fin 1024) (h : Fin 8) (d : Fin 128) :
    concatenate S1024x1024 1 [⟨S1024x128, p 0⟩, ⟨S1024x128, p 1⟩, ⟨S1024x128, p 2⟩, ⟨S1024x128, p 3⟩, ⟨S1024x128, p 4⟩, ⟨S1024x128, p 5⟩, ⟨S1024x128, p 6⟩, ⟨S1024x128, p 7⟩] concatenates_S1024x128_S1024x128_S1024x128_S1024x128_S1024x128_S1024x128_S1024x128_S1024x128_S1024x1024_d1 (ix2 r ⟨h.val * 128 + d.val, by omega⟩) = p h (ix2 r d) := by
  fin_cases h <;> pointwise [] <;> (repeat (first | rw [dif_pos (by omega)] | rw [dif_neg (by omega)])) <;> congr 2 <;> (try (ext; simp; omega))

/-- The first head of the block. -/
theorem part0 (x : FVec Ideal S1024x2048 .bf16) (a : FVec Ideal S2048x1024 .bf16) (g : FVec Ideal S1x128 .f32) (r : Fin 1024) (d : Fin 128) :
    k0_pay6 (F := Ideal) x a g (ix2 r d) = normed (headOf (k0_pay4 x a) r 0) (g (ix2 0 d)) d := by
  pointwise [k0_pay6, k0_pay5, normed, headOf]

/-- The third, whose mean is computed apart. -/
theorem part2 (x : FVec Ideal S1024x2048 .bf16) (a : FVec Ideal S2048x1024 .bf16) (g : FVec Ideal S1x128 .f32) (r : Fin 1024) (d : Fin 128) :
    k0_pay10 (F := Ideal) (k0_pay5 g) (k0_pay8 x a) (k0_pay9 x a) (ix2 r d) = normed (headOf (k0_pay4 x a) r 2) (g (ix2 0 d)) d := by
  pointwise [k0_pay5, k0_pay8, k0_pay9, k0_pay10, normed, headOf]

/-- The fourth. -/
theorem part3 (Y : FVec Ideal S1024x1024 .f32) (g : FVec Ideal S1x128 .f32) (r : Fin 1024) (d : Fin 128) :
    k0_pay11 Y (k0_pay5 g) (ix2 r d) = normed (headOf Y r 3) (g (ix2 0 d)) d := by
  pointwise [k0_pay5, k0_pay11, normed, headOf]

/-- Every head of the body's result is the product's, normed. -/
theorem body_at (x : FVec Ideal S1024x2048 .bf16) (a : FVec Ideal S2048x1024 .bf16) (g : FVec Ideal S1x128 .f32) (r : Fin 1024) (h : Fin 8) (d : Fin 128) :
    body x a g (ix2 r ⟨h.val * 128 + d.val, by omega⟩) = normed (headOf (k0_pay4 x a) r h) (g (ix2 0 d)) d := by
  unfold body k0_pay1
  refine (cat_at ![_, _, _, _, _, _, _, _] r h d).trans ?_
  fin_cases h
  · exact part0 x a g r d
  · change k0_pay7 (F := Ideal) x a g (ix2 r d) = _
    pointwise [k0_pay7, k0_pay5, normed, headOf]
  · exact part2 x a g r d
  · exact part3 _ g r d
  · change k0_pay12 _ _ (ix2 r d) = _
    pointwise [k0_pay12, k0_pay5, normed, headOf]
  · change k0_pay13 _ _ (ix2 r d) = _
    pointwise [k0_pay13, k0_pay5, normed, headOf]
  · dsimp only
    pointwise [k0_pay14, k0_pay15, k0_pay5, normed, headOf]
  · dsimp only
    pointwise [k0_pay5, normed, headOf]

/-- Where each window's block lies at each grid point. -/
theorem idx : ∀ t : Fin cfg0.N, win0_0.index t = ![t.val % 8, 0] ∧ win0_1.index t = ![0, t.val / 8]
    ∧ win0_2.index t = ![0, 0] ∧ win0_3.index t = ![t.val % 8, t.val / 8] ∧ win0_4.index t = ![t.val % 8, t.val / 8] ∧ t.val / 8 < 2 :=
  (by decide +kernel : ∀ t : Fin grid0.N, _)

variable (m : (ℓ : Loc nD τ sig) → Buf (Elt Ideal) ℓ) (c : Dev nD)

/-- The arguments, as arrays. -/
abbrev argX : FVec Ideal S8192x2048 .bf16 := m ((c : Thread nD τ).loc main_arg0)
abbrev argW : FVec Ideal S2048x4112 .f32 := m ((c : Thread nD τ).loc main_arg1)
abbrev argG : FVec Ideal S128 .f32 := m ((c : Thread nD τ).loc main_arg2)

variable (t : Fin cfg0.N)

/-- The array's row and column at row `r` and column `j` of the point's block. -/
abbrev rowOf (r : Fin 1024) : Fin 8192 := ⟨t.val % 8 * 1024 + r.val, by omega⟩
abbrev colOf (j : Fin 1024) : Fin 2048 := ⟨t.val / 8 * 1024 + j.val, by have := (idx t).2.2.2.2.2; omega⟩

/-- The array's head at head `h` of the point's block. -/
abbrev headIn (h : Fin 8) : Fin 16 := ⟨t.val / 8 * 8 + h.val, by have := (idx t).2.2.2.2.2; omega⟩

theorem read0 (r : Fin 1024) (k : Fin 2048) : iblk m c 0 t (ix2 r k) = argX m c (ix2 (rowOf t r) k) := by
  blk_ext [iblk, V, idx t]

theorem read1 (k : Fin 2048) (j : Fin 1024) : X0_1 m c t (ix2 k j) = argW m c (ix2 k ⟨(colOf t j).val, by omega⟩) := by
  unfold X0_1 Pipeline.Window.fill
  rw [dif_pos (moved0_1 t _)]
  blk_ext [iblk, V, idx t]

/-- The gain that the host prepares is the argument. -/
theorem prepared (d : Fin 128) : V m c main_v0 (ix2 0 d) = argG m c (ix1 d) := by
  dsimp only [V, hostOps0]
  entry_read
  pointwise

theorem read2 (d : Fin 128) : iblk m c 2 t (ix2 0 d) = argG m c (ix1 d) := by
  rw [← prepared]
  blk_ext [iblk, idx t]

/-- The kept weights at every point are the point's own block of columns. -/
theorem held (k : Fin 2048) (j : Fin 1024) :
    (outsAt0 m c t.val t.isLt).2.2 (ix2 k j) = argW m c (ix2 k ⟨(colOf t j).val, by omega⟩) := by
  refine (Pipeline.eq_of_write_hold_apply (fun n h => (outsAt0 m c n h).2.2) 8 (fun t => k0_pay3 (F := Ideal) (X0_1 m c t)) (fun t h i => ?_) (fun t h i => ?_) t (ix2 k j)).trans ?_
  · simp only [outsAt0_A m c t h]
    frame_out
  · simp only [outsAt0_B m c t h]
    rfl
  · rw [pay3_at, read1]
    congr 2
    simp [colOf, Nat.mul_div_cancel_left]

/-- What a point leaves in the two results' blocks: the body's result over the kept weights. -/
theorem left (r : Fin 1024) (j : Fin 1024) :
    (outsAt0 m c t.val t.isLt).1 (ix2 r j) = body (iblk m c 0 t) (outsAt0 m c t.val t.isLt).2.2 (iblk m c 2 t) (ix2 r j)
    ∧ (outsAt0 m c t.val t.isLt).2.1 (ix2 r j) = body (iblk m c 0 t) (outsAt0 m c t.val t.isLt).2.2 (iblk m c 2 t) (ix2 r j) := by
  by_cases h : t.val % 8 = 0
  · simp only [outsAt0_A m c t h]
    constructor <;> frame_out <;> rfl
  · simp only [outsAt0_B m c t h]
    constructor <;> frame_out <;> simp only [read_unread_whole] <;> rfl

/-- The body's result over the kept weights is the reference's entry. -/
theorem point (r : Fin 1024) (h : Fin 8) (d : Fin 128) :
    body (iblk m c 0 t) (outsAt0 m c t.val t.isLt).2.2 (iblk m c 2 t) (ix2 r ⟨h.val * 128 + d.val, by omega⟩)
      = reference (argX m c) (argW m c) (argG m c) (ix2 (rowOf t r) (colOf t ⟨h.val * 128 + d.val, by omega⟩)) := by
  have hc : colOf t ⟨h.val * 128 + d.val, by omega⟩ = ⟨(headIn t h).val * 128 + d.val, by omega⟩ := by
    ext; simp only [colOf, headIn]; omega
  rw [hc, reference_at, body_at, read2]
  congr 1
  funext k
  rw [headOf, pay4_at, spec]
  simp only [read0, held]
  refine Finset.sum_congr rfl fun i _ => ?_
  congr 3
  ext; simp only [colOf, headIn]; omega

/-- THE RESULT in the wider precision: the output array after the run is the reference's. -/
theorem final_wide : (dats m 0 c).arrAt 3 cfg0.N = reference (argX m c) (argW m c) (argG m c) := by
  refine (dats m 0 c).arrAt_eq_of_covers 3 _ (by decide +kernel) fun t _ y => ?_
  blk_simp
  idx_vars y
  have he : ((View.whole main_v1_0).slice (win0_3.rect t)).emb (ix2 y0 y1) = ix2 (rowOf t y0) (colOf t y1) := by
    blk_ext [idx t]
  rw [he, after0_3, (left m c t y0 y1).1]
  have hy : y1 = ⟨y1.val / 128 * 128 + y1.val % 128, by omega⟩ := by ext; simp only []; omega
  rw [hy]
  exact point m c t y0 ⟨y1.val / 128, by omega⟩ ⟨y1.val % 128, by omega⟩

/-- THE RESULT in the narrower precision. -/
theorem final_narrow : (dats m 0 c).arrAt 4 cfg0.N = truncf .bf16 (reference (argX m c) (argW m c) (argG m c)) bitsLt_bf16_f32 := by
  refine (dats m 0 c).arrAt_eq_of_covers 4 _ (by decide +kernel) fun t _ y => ?_
  blk_simp
  idx_vars y
  have he : ((View.whole main_v1_1).slice (win0_4.rect t)).emb (ix2 y0 y1) = ix2 (rowOf t y0) (colOf t y1) := by
    blk_ext [idx t]
  rw [he, after0_4, (left m c t y0 y1).2]
  have hy : y1 = ⟨y1.val / 128 * 128 + y1.val % 128, by omega⟩ := by ext; simp only []; omega
  rw [hy]
  exact point m c t y0 ⟨y1.val / 128, by omega⟩ ⟨y1.val % 128, by omega⟩

end Cert.HeadK

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.FoxValue
public import proofs.«01_k».proof.Proof.FoxFinite
public import proofs.«01_k».proof.Proof.Gen.Kernel8
public import proofs.«01_k».proof.Proof.Gen.Kernel8.Skeleton
public import proofs.«01_k».proof.Proof.Gen.Kernel8.Launch
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Reference8Ideal
public import proofs.«01_k».proof.Proof.Gen.Reference8Ideal.Run
public import proofs.«01_k».proof.Proof.Gen.Pre_down_tables
public import proofs.«01_k».proof.Proof.Swiglu
public import proofs.«01_k».proof.Proof.Down
public import proofs.«01_k».proof.Proof.DeltaIn
public import proofs.«01_k».proof.Proof.MixerOut
public import proofs.«01_k».proof.Proof.Values
public import proofs.«01_k».proof.Proof.GroupedTables
public import proofs.«01_k».proof.Proof.Grouped
public import proofs.«01_k».proof.Proof.GroupedDownTables
public import proofs.«01_k».proof.Proof.GroupedDown
public import proofs.«01_k».proof.Proof.HeadQ
public import proofs.«01_k».proof.Proof.HeadK
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Kernel7
public import proofs.«01_k».proof.Proof.Gen.Kernel7.Skeleton
public import proofs.«01_k».proof.Proof.Gen.Kernel7.Launch
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Reference7Ideal
public import proofs.«01_k».proof.Proof.Gen.Reference7Ideal.Run
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Pre_fox_finite
public import proofs.«01_k».proof.Proof.Gen.Pre_tables
public import Idealize.ShloMosaic.Adequacy
public import Idealize.ShloMosaic.Lib.Claim
public import Idealize.ShloMosaic.Init

@[expose] public section

noncomputable section

namespace Cert.Proof

open Idealize.ShloMosaic Idealize.SL.Sem

theorem frame_Reference : Cert.quiescent_ReferenceIdeal := by
  intro m g _
  exact (θ_run Cert.ReferenceIdeal.defs _ _).mono (fun r h => ⟨fun c => (h c).2, sem_eq_zero_of_no_sems (by decide) r.2⟩)
    (Cert.ReferenceIdeal.Value.run m g)

theorem frame_Reference2 : Cert.quiescent_Reference2Ideal := by
  intro m g _
  exact (θ_run Cert.Reference2Ideal.defs _ _).mono (fun r h => ⟨fun c => (h c).2, sem_eq_zero_of_no_sems (by decide) r.2⟩)
    (Cert.Reference2Ideal.Value.run m g)

theorem frame_Reference3 : Cert.quiescent_Reference3Ideal := by
  intro m g _
  exact (θ_run Cert.Reference3Ideal.defs _ _).mono (fun r h => ⟨fun c => (h c).2, sem_eq_zero_of_no_sems (by decide) r.2⟩)
    (Cert.Reference3Ideal.Value.run m g)

theorem frame_Reference4 : Cert.quiescent_Reference4Ideal := by
  intro m g _
  exact (θ_run Cert.Reference4Ideal.defs _ _).mono (fun r h => ⟨fun c => (h c).2, sem_eq_zero_of_no_sems (by decide) r.2⟩)
    (Cert.Reference4Ideal.Value.run m g)

theorem frame_Reference5 : Cert.quiescent_Reference5Ideal := by
  intro m g _
  exact (θ_run Cert.Reference5Ideal.defs _ _).mono (fun r h => ⟨fun c => (h c).2, sem_eq_zero_of_no_sems (by decide) r.2⟩)
    (Cert.Reference5Ideal.Value.run m g)

theorem frame_Reference6 : Cert.quiescent_Reference6Ideal := by
  intro m g _
  exact (θ_run Cert.Reference6Ideal.defs _ _).mono (fun r h => ⟨fun c => (h c).2.2, sem_eq_zero_of_no_sems (by decide) r.2⟩)
    (Cert.Reference6Ideal.Value.run m g)

theorem frame_Kernel7 : Cert.quiescent_Kernel7 := fun m ρ hpre =>
  have h := Cert.Kernel7.Grouped.tablesOk_of_pre _ _ (hpre 0)
  Cert.Kernel7.Grouped.frame_of_good m ρ h.ok h.good

theorem frame_Kernel7Ideal : Cert.quiescent_Kernel7Ideal := fun m ρ hpre =>
  have h := Cert.Kernel7Ideal.Grouped.tablesOk_of_pre _ _ (hpre 0)
  Cert.Kernel7Ideal.Grouped.frame_of_good m ρ h.ok h.good

theorem frame_Reference7 : Cert.quiescent_Reference7Ideal := by
  intro m g _
  exact (θ_run Cert.Reference7Ideal.defs _ _).mono (fun r h => ⟨fun c => (h c).2, sem_eq_zero_of_no_sems (by decide) r.2⟩)
    (Cert.Reference7Ideal.Value.run m g)

theorem frame_Kernel8 : Cert.quiescent_Kernel8 := fun m ρ hpre =>
  have h := Cert.Kernel8.Grouped.tablesOk_of_pre _ _ (hpre 0)
  Cert.Kernel8.Grouped.frame_of_good m ρ h.ok h.good

theorem frame_Kernel8Ideal : Cert.quiescent_Kernel8Ideal := fun m ρ hpre =>
  have h := Cert.Kernel8Ideal.Grouped.tablesOk_of_pre _ _ (hpre 0)
  Cert.Kernel8Ideal.Grouped.frame_of_good m ρ h.ok h.good

theorem frame_Reference8 : Cert.quiescent_Reference8Ideal := by
  intro m g _
  exact (θ_run Cert.Reference8Ideal.defs _ _).mono (fun r h => ⟨fun c => (h c).2, sem_eq_zero_of_no_sems (by decide) r.2⟩)
    (Cert.Reference8Ideal.Value.run m g)

theorem frame_Reference9 : Cert.quiescent_Reference9Ideal := by
  intro m g _
  exact (θ_run Cert.Reference9Ideal.defs _ _).mono (fun r h => ⟨fun c => (h c).2, sem_eq_zero_of_no_sems (by decide) r.2⟩)
    (Cert.Reference9Ideal.Value.run m g)

theorem frame_Reference10 : Cert.quiescent_Reference10Ideal := by
  intro m g _
  exact (θ_run Cert.Reference10Ideal.defs _ _).mono (fun r h => ⟨fun c => (h c).2.2, sem_eq_zero_of_no_sems (by decide) r.2⟩)
    (Cert.Reference10Ideal.Value.run m g)

theorem fox : Cert.algebraic_KernelIdeal_ReferenceIdeal_pre_fox_finite := by
  pair_intro
  · run_from Cert.KernelIdeal.Value.run_blocks m g
  · run_from Cert.ReferenceIdeal.Value.run m' g'
    obtain ⟨hq, hk, hg⟩ := Cert.Fox.finite_of_pre _ _ _ _ (hpre c)
    rw [Cert.Fox.final m c ⟨hq, hk, hg⟩, Cert.Fox.result m' c, (hagree c).1, (hagree c).2.1, (hagree c).2.2.1, (hagree c).2.2.2]

theorem swiglu : Cert.algebraic_Kernel2Ideal_Reference2Ideal := by
  pair_intro
  · run_from Cert.Kernel2Ideal.Value.run_blocks m g
  · refine (θ_run _ _ _).mono (fun r h c => ⟨(h c).1.trans ?_, (h c).2⟩) (Cert.Reference2Ideal.Value.run m' g')
    rw [(hagree c).1, (hagree c).2]
    exact (Cert.Swiglu.final m c).symm

theorem down : Cert.algebraic_Kernel3Ideal_Reference3Ideal := by
  pair_intro
  · run_from Cert.Kernel3Ideal.Value.run_blocks m g
  · refine (θ_run _ _ _).mono (fun r h c => ⟨(h c).1.trans ?_, (h c).2⟩) (Cert.Reference3Ideal.Value.run m' g')
    rw [(hagree c).1, (hagree c).2]
    exact (Cert.Down.final m c).symm

theorem deltaIn : Cert.algebraic_Kernel4Ideal_Reference4Ideal := by
  pair_intro
  · run_from Cert.Kernel4Ideal.Value.run_blocks m g
  · refine (θ_run _ _ _).mono (fun r h c => ⟨(h c).1.trans ?_, (h c).2⟩) (Cert.Reference4Ideal.Value.run m' g')
    rw [(hagree c).1, (hagree c).2]
    exact (Cert.DeltaIn.final m c).symm

theorem mixerOut : Cert.algebraic_Kernel5Ideal_Reference5Ideal := by
  pair_intro
  · run_from Cert.Kernel5Ideal.Value.run_blocks m g
  · refine (θ_run _ _ _).mono (fun r h c => ⟨(h c).1.trans ?_, (h c).2⟩) (Cert.Reference5Ideal.Value.run m' g')
    rw [(hagree c).1, (hagree c).2]
    exact (Cert.MixerOut.final m c).symm

theorem values : Cert.algebraic_Kernel6Ideal_Reference6Ideal := by
  pair_intro
  · run_from Cert.Kernel6Ideal.Value.run_blocks m g
  · refine (θ_run _ _ _).mono (fun r h c => ⟨(h c).1.trans ?_, (h c).2.1.trans ?_, (h c).2.2⟩)
      (Cert.Reference6Ideal.Value.run m' g')
    · rw [(hagree c).1, (hagree c).2]
      exact (Cert.Values.final_wide m c).symm
    · rw [(hagree c).1, (hagree c).2]
      exact (Cert.Values.final_narrow m c).symm

theorem grouped : Cert.algebraic_Kernel7Ideal_Reference7Ideal := by
  pair_intro
  · refine (θ_run _ _ _).mono (fun r h c => ⟨(h.1 c).trans ?_, h.2.1 c⟩) (θ_run_and
      ((θ_run _ _ _).mono (fun r h c => (h c).1 3) (Cert.Kernel7Ideal.Grouped.run_main m g
        (Cert.Kernel7Ideal.Grouped.tablesOk_of_pre _ _ (hpre 0)).ok (Cert.Kernel7Ideal.Grouped.tablesOk_of_pre _ _ (hpre 0)).good))
      (frame_Kernel7Ideal m g hpre))
    exact Cert.Grouped.final c (Cert.Kernel7Ideal.Grouped.tablesOk_of_pre _ _ (hpre 0))
  · refine (θ_run _ _ _).mono (fun r h c => ⟨(h c).1.trans ?_, (h c).2⟩) (Cert.Reference7Ideal.Value.run m' g')
    change Cert.Grouped.reference (m' ((c.tc : Thread _ _).loc Cert.Reference7Ideal.main_arg0)) (m' ((c.tc : Thread _ _).loc Cert.Reference7Ideal.main_arg1))
      (m' ((c.tc : Thread _ _).loc Cert.Reference7Ideal.main_arg2)) (m' ((c.tc : Thread _ _).loc Cert.Reference7Ideal.main_arg3)) = _
    rw [(hagree c).1, (hagree c).2.1, (hagree c).2.2.1, (hagree c).2.2.2]

theorem groupedDown : Cert.algebraic_Kernel8Ideal_Reference8Ideal := by
  pair_intro
  · refine (θ_run _ _ _).mono (fun r h c => ⟨(h.1 c).trans ?_, h.2.1 c⟩) (θ_run_and
      ((θ_run _ _ _).mono (fun r h c => (h c).1 2) (Cert.Kernel8Ideal.Grouped.run_main m g
        (Cert.Kernel8Ideal.Grouped.tablesOk_of_pre _ _ (hpre 0)).ok (Cert.Kernel8Ideal.Grouped.tablesOk_of_pre _ _ (hpre 0)).good))
      (frame_Kernel8Ideal m g hpre))
    exact Cert.GroupedDown.final c (Cert.Kernel8Ideal.Grouped.tablesOk_of_pre _ _ (hpre 0))
  · refine (θ_run _ _ _).mono (fun r h c => ⟨(h c).1.trans ?_, (h c).2⟩) (Cert.Reference8Ideal.Value.run m' g')
    change Cert.GroupedDown.reference (m' ((c.tc : Thread _ _).loc Cert.Reference8Ideal.main_arg0)) (m' ((c.tc : Thread _ _).loc Cert.Reference8Ideal.main_arg1))
      (m' ((c.tc : Thread _ _).loc Cert.Reference8Ideal.main_arg2)) (m' ((c.tc : Thread _ _).loc Cert.Reference8Ideal.main_arg3)) = _
    rw [(hagree c).1, (hagree c).2.1, (hagree c).2.2.1, (hagree c).2.2.2]

theorem headQ : Cert.algebraic_Kernel9Ideal_Reference9Ideal := by
  pair_intro
  · run_from Cert.Kernel9Ideal.Value.run_blocks m g
  · refine (θ_run _ _ _).mono (fun r h c => ⟨(h c).1.trans ?_, (h c).2⟩) (Cert.Reference9Ideal.Value.run m' g')
    rw [(hagree c).1, (hagree c).2.1, (hagree c).2.2]
    exact (Cert.HeadQ.final m c).symm

theorem headK : Cert.algebraic_Kernel10Ideal_Reference10Ideal := by
  pair_intro
  · run_from Cert.Kernel10Ideal.Value.run_blocks m g
  · refine (θ_run _ _ _).mono (fun r h c => ⟨(h c).1.trans ?_, (h c).2.1.trans ?_, (h c).2.2⟩)
      (Cert.Reference10Ideal.Value.run m' g')
    · rw [(hagree c).1, (hagree c).2.1, (hagree c).2.2]
      exact (Cert.HeadK.final_wide m c).symm
    · rw [(hagree c).1, (hagree c).2.1, (hagree c).2.2]
      exact (Cert.HeadK.final_narrow m c).symm

theorem claim : Cert.Claim := ⟨
  Cert.Kernel.Gen.facts, Cert.KernelIdeal.Gen.facts, Cert.ReferenceIdeal.Gen.facts, Cert.Kernel2.Gen.facts,
  Cert.Kernel2Ideal.Gen.facts, Cert.Reference2Ideal.Gen.facts, Cert.Kernel3.Gen.facts, Cert.Kernel3Ideal.Gen.facts,
  Cert.Reference3Ideal.Gen.facts, Cert.Kernel4.Gen.facts, Cert.Kernel4Ideal.Gen.facts, Cert.Reference4Ideal.Gen.facts,
  Cert.Kernel5.Gen.facts, Cert.Kernel5Ideal.Gen.facts, Cert.Reference5Ideal.Gen.facts, Cert.Kernel6.Gen.facts,
  Cert.Kernel6Ideal.Gen.facts, Cert.Reference6Ideal.Gen.facts, Cert.Kernel7.Gen.facts, Cert.Kernel7Ideal.Gen.facts,
  Cert.Reference7Ideal.Gen.facts, Cert.Kernel8.Gen.facts, Cert.Kernel8Ideal.Gen.facts, Cert.Reference8Ideal.Gen.facts,
  Cert.Kernel9.Gen.facts, Cert.Kernel9Ideal.Gen.facts, Cert.Reference9Ideal.Gen.facts, Cert.Kernel10.Gen.facts,
  Cert.Kernel10Ideal.Gen.facts, Cert.Reference10Ideal.Gen.facts,
  Cert.Pre_fox_finite.Gen.facts, Cert.Pre_tables.Gen.facts, Cert.Pre_down_tables.Gen.facts,
  fun m ρ _ => Cert.Kernel.Gen.frame m ρ, fun m ρ _ => Cert.KernelIdeal.Gen.frame m ρ, fun m ρ _ => Cert.KernelIdeal.Gen.frame m ρ,
  frame_Reference, fun m ρ _ => frame_Reference m ρ trivial,
  fun m ρ _ => Cert.Kernel2.Gen.frame m ρ, fun m ρ _ => Cert.Kernel2Ideal.Gen.frame m ρ, frame_Reference2,
  fun m ρ _ => Cert.Kernel3.Gen.frame m ρ, fun m ρ _ => Cert.Kernel3Ideal.Gen.frame m ρ, frame_Reference3,
  fun m ρ _ => Cert.Kernel4.Gen.frame m ρ, fun m ρ _ => Cert.Kernel4Ideal.Gen.frame m ρ, frame_Reference4,
  fun m ρ _ => Cert.Kernel5.Gen.frame m ρ, fun m ρ _ => Cert.Kernel5Ideal.Gen.frame m ρ, frame_Reference5,
  fun m ρ _ => Cert.Kernel6.Gen.frame m ρ, fun m ρ _ => Cert.Kernel6Ideal.Gen.frame m ρ, frame_Reference6,
  frame_Kernel7, frame_Kernel7Ideal, frame_Reference7, fun m ρ _ => frame_Reference7 m ρ trivial,
  frame_Kernel8, frame_Kernel8Ideal, frame_Reference8, fun m ρ _ => frame_Reference8 m ρ trivial,
  fun m ρ _ => Cert.Kernel9.Gen.frame m ρ, fun m ρ _ => Cert.Kernel9Ideal.Gen.frame m ρ, frame_Reference9,
  fun m ρ _ => Cert.Kernel10.Gen.frame m ρ, fun m ρ _ => Cert.Kernel10Ideal.Gen.frame m ρ, frame_Reference10,
  trivial, fox, trivial, swiglu, trivial, down, trivial, deltaIn, trivial, mixerOut, trivial, values, trivial, grouped,
  trivial, groupedDown, trivial, headQ, trivial, headK⟩

end Cert.Proof

end
